-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heads [hPre_finite_heads : Cert.Pre_finite_heads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heads [hPre_finite_heads : Cert.Pre_finite_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_heads [hKernelIdeal : Cert.KernelIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_heads [hReferenceIdeal : Cert.ReferenceIdeal.Facts] [hPre_finite_heads : Cert.Pre_finite_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_heads [hKernelIdeal : Cert.KernelIdeal.Facts] [hReferenceIdeal : Cert.ReferenceIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v54_0)) (v1 : (c : Dev Cert.Kernel4Ideal.nD) → Buf (Elt Ideal) ((c.tc : Thread Cert.Kernel4Ideal.nD Cert.Kernel4Ideal.τ).loc Cert.Kernel4Ideal.main_v54_1)) (v2 : (c : Dev Cert.Kernel4Ideal.nD) → Buf (Elt Ideal) ((c.tc : Thread Cert.Kernel4Ideal.nD Cert.Kernel4Ideal.τ).loc Cert.Kernel4Ideal.main_v54_2)) (v3 : (c : Dev Cert.Kernel4Ideal.nD) → Buf (Elt Ideal) ((c.tc : Thread Cert.Kernel4Ideal.nD Cert.Kernel4Ideal.τ).loc Cert.Kernel4Ideal.main_v54_3)) (v4 : (c : Dev Cert.Kernel4Ideal.nD) → Buf (Elt Ideal) ((c.tc : Thread Cert.Kernel4Ideal.nD Cert.Kernel4Ideal.τ).loc Cert.Kernel4Ideal.main_v54_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54_0) = v0 c
          ∧ r.2.mem ((c.tc : Thread Cert.Kernel4Ideal.nD Cert.Kernel4Ideal.τ).loc Cert.Kernel4Ideal.main_v54_1) = v1 c
          ∧ r.2.mem ((c.tc : Thread Cert.Kernel4Ideal.nD Cert.Kernel4Ideal.τ).loc Cert.Kernel4Ideal.main_v54_2) = v2 c
          ∧ r.2.mem ((c.tc : Thread Cert.Kernel4Ideal.nD Cert.Kernel4Ideal.τ).loc Cert.Kernel4Ideal.main_v54_3) = v3 c
          ∧ r.2.mem ((c.tc : Thread Cert.Kernel4Ideal.nD Cert.Kernel4Ideal.τ).loc Cert.Kernel4Ideal.main_v54_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v109) = v0 c
          ∧ r.2.mem ((c.tc : Thread Cert.Reference4Ideal.nD Cert.Reference4Ideal.τ).loc Cert.Reference4Ideal.main_v110) = v1 c
          ∧ r.2.mem ((c.tc : Thread Cert.Reference4Ideal.nD Cert.Reference4Ideal.τ).loc Cert.Reference4Ideal.main_v113) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_v120) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_heads : Cert.Pre_finite_heads.Facts),
    quiescent_Kernel (hKernel := hKernel)
    ∧ quiescent_KernelIdeal (hKernelIdeal := hKernelIdeal)
    ∧ quiescent_KernelIdeal_pre_finite_heads (hKernelIdeal := hKernelIdeal) (hPre_finite_heads := hPre_finite_heads)
    ∧ quiescent_ReferenceIdeal (hReferenceIdeal := hReferenceIdeal)
    ∧ quiescent_ReferenceIdeal_pre_finite_heads (hReferenceIdeal := hReferenceIdeal) (hPre_finite_heads := hPre_finite_heads)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_heads (hKernelIdeal := hKernelIdeal) (hReferenceIdeal := hReferenceIdeal) (hPre_finite_heads := hPre_finite_heads)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_heads.lean ====
abbrev S2x16384x8x2x64 : Shape := ⟨5, ![2, 16384, 8, 2, 64]⟩
abbrev S2x16384x8x128 : Shape := ⟨4, ![2, 16384, 8, 128]⟩
abbrev S1x64 : Shape := ⟨2, ![1, 64]⟩
abbrev S1x128 : Shape := ⟨2, ![1, 128]⟩
abbrev S_ : Shape := ⟨0, ![]⟩

class Facts : Prop where
  bcast_S_S2x16384x8x2x64 : S_.BroadcastsInDim S2x16384x8x2x64 (![] : Fin 0 → Fin S2x16384x8x2x64.rank)
  reducesTo_S2x16384x8x2x64_S_d0_1_2_3_4 : S2x16384x8x2x64.ReducesTo [0, 1, 2, 3, 4] S_
  h_S_ : 0 < S_.numel
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S2x16384x8x2x64 .f32) (main_arg1 : FVec F S2x16384x8x2x64 .f32) (main_arg2 : FVec F S2x16384x8x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S2x16384x8x2x64 .f32 := Host.absf main_arg0
  let main_cst : FVec F S_ .f32 := constant S_ .f32 0x7F800000#32
  let main_v1 : FVec F S2x16384x8x2x64 .f32 := broadcastInDim S2x16384x8x2x64 ![] bcast_S_S2x16384x8x2x64 main_cst
  let main_v2 : IVec S2x16384x8x2x64 1 := cmpf .olt main_v0 main_v1
  let main_c : IVec S_ 1 := constantI S_ 1 1#1
  let main_v3 : IVec S_ 1 := (fun x v => Host.reduce IntOp.andi x v reducesTo_S2x16384x8x2x64_S_d0_1_2_3_4 h_S_) main_v2 main_c
  let main_v4 : FVec F S2x16384x8x2x64 .f32 := Host.absf main_arg1
  let main_cst_0 : FVec F S_ .f32 := constant S_ .f32 0x7F800000#32
  let main_v5 : FVec F S2x16384x8x2x64 .f32 := broadcastInDim S2x16384x8x2x64 ![] bcast_S_S2x16384x8x2x64 main_cst_0
  let main_v6 : IVec S2x16384x8x2x64 1 := cmpf .olt main_v4 main_v5
  let main_c_1 : IVec S_ 1 := constantI S_ 1 1#1
  let main_v7 : IVec S_ 1 := (fun x v => Host.reduce IntOp.andi x v reducesTo_S2x16384x8x2x64_S_d0_1_2_3_4 h_S_) main_v6 main_c_1
  let main_v8 : IVec S_ 1 := andi main_v3 main_v7
  let main_v9 : FVec F S2x16384x8x128 .f32 := Host.absf main_arg2
  let main_cst_2 : FVec F S_ .f32 := constant S_ .f32 0x7F800000#32
  let main_v10 : FVec F S2x16384x8x128 .f32 := broadcastInDim S2x16384x8x128 ![] bcast_S_S2x16384x8x128 main_cst_2
  let main_v11 : IVec S2x16384x8x128 1 := cmpf .olt main_v9 main_v10
  let main_c_3 : IVec S_ 1 := constantI S_ 1 1#1
  let main_v12 : IVec S_ 1 := (fun x v => Host.reduce IntOp.andi x v reducesTo_S2x16384x8x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S2x16384x8x2x64 : Shape := ⟨5, ![2, 16384, 8, 2, 64]⟩
abbrev S2x16384x8x128 : Shape := ⟨4, ![2, 16384, 8, 128]⟩
abbrev S1x64 : Shape := ⟨2, ![1, 64]⟩
abbrev S1x128 : Shape := ⟨2, ![1, 128]⟩
abbrev S_ : Shape := ⟨0, ![]⟩
abbrev S2x16384x8x2x2x32 : Shape := ⟨6, ![2, 16384, 8, 2, 2, 32]⟩
abbrev S2x16384x1024 : Shape := ⟨3, ![2, 16384, 1024]⟩
abbrev S2x32x512x1024 : Shape := ⟨4, ![2, 32, 512, 1024]⟩
abbrev S2x32x1024x512 : Shape := ⟨4, ![2, 32, 1024, 512]⟩
abbrev S64 : Shape := ⟨1, ![64]⟩
abbrev S1x1 : Shape := ⟨2, ![1, 1]⟩
abbrev S128 : Shape := ⟨1, ![128]⟩
abbrev S128x1 : Shape := ⟨2, ![128, 1]⟩
abbrev S1x1x256x512 : Shape := ⟨4, ![1, 1, 256, 512]⟩
abbrev S1x16384x256 : Shape := ⟨3, ![1, 16384, 256]⟩
abbrev S1x32x256x512 : Shape := ⟨4, ![1, 32, 256, 512]⟩
abbrev S1x512x256 : Shape := ⟨3, ![1, 512, 256]⟩
abbrev S2x2x128x512 : Shape := ⟨4, ![2, 2, 128, 512]⟩
abbrev S2x512x512 : Shape := ⟨3, ![2, 512, 512]⟩
abbrev S1x1x128x512 : Shape := ⟨4, ![1, 1, 128, 512]⟩
abbrev S128x512 : Shape := ⟨2, ![128, 512]⟩
abbrev S1x512x128 : Shape := ⟨3, ![1, 512, 128]⟩
abbrev S512x128 : Shape := ⟨2, ![512, 128]⟩
abbrev S512x512 : Shape := ⟨2, ![512, 512]⟩
abbrev S1x512x512 : Shape := ⟨3, ![1, 512, 512]⟩
abbrev S8x512 : Shape := ⟨2, ![8, 512]⟩
abbrev S64x8x512 : Shape := ⟨3, ![64, 8, 512]⟩
abbrev S256x128 : Shape := ⟨2, ![256, 128]⟩
abbrev S256x512 : Shape := ⟨2, ![256, 512]⟩
abbrev S1x256x512 : Shape := ⟨3, ![1, 256, 512]⟩
abbrev S128x256 : Shape := ⟨2, ![128, 256]⟩
abbrev S256x256 : Shape := ⟨2, ![256, 256]⟩
abbrev S1x256x256 : Shape := ⟨3, ![1, 256, 256]⟩
abbrev S32x8x512 : Shape := ⟨3, ![32, 8, 512]⟩
abbrev S8x256 : Shape := ⟨2, ![8, 256]⟩
abbrev S32x8x256 : Shape := ⟨3, ![32, 8, 256]⟩
abbrev S1x1x128x256 : Shape := ⟨4, ![1, 1, 128, 256]⟩
abbrev S512 : Shape := ⟨1, ![512]⟩
abbrev S1x512 : Shape := ⟨2, ![1, 512]⟩

abbrev nBuf : Space → Nat
  | .hbm => 47
  | .vmem => 12
  | .smem => 1
  | _ => 0

abbrev bufTy : (tb : Table) → Fin (tcTables nBuf tb) → BufTy
  | .hbm, ⟨0, _⟩ => ⟨S2x16384x8x2x64, .f32⟩
  | .hbm, ⟨1, _⟩ => ⟨S2x16384x8x2x64, .f32⟩
  | .hbm, ⟨2, _⟩ => ⟨S2x16384x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x8x2x64, .f32⟩
  | .hbm, ⟨13, _⟩ => ⟨S2x16384x8x2x64, .f32⟩
  | .hbm, ⟨14, _⟩ => ⟨S2x16384x8x2x2x32, .f32⟩
  | .hbm, ⟨15, _⟩ => ⟨S2x16384x8x2x2x32, .f32⟩
  | .hbm, ⟨16, _⟩ => ⟨S2x16384x1024, .f32⟩
  | .hbm, ⟨17, _⟩ => ⟨S2x32x512x1024, .f32⟩
  | .hbm, ⟨18, _⟩ => ⟨S2x32x1024x512, .f32⟩
  | .hbm, ⟨19, _⟩ => ⟨S2x32x1024x512, .bf16⟩
  | .hbm, ⟨20, _⟩ => ⟨S2x16384x8x2x2x32, .f32⟩
  | .hbm, ⟨21, _⟩ => ⟨S2x16384x8x2x2x32, .f32⟩
  | .hbm, ⟨22, _⟩ => ⟨S2x16384x1024, .f32⟩
  | .hbm, ⟨23, _⟩ => ⟨S2x16384x1024, .bf16⟩
  | .hbm, ⟨24, _⟩ => ⟨S2x16384x1024, .f32⟩
  | .hbm, ⟨25, _⟩ => ⟨S2x32x512x1024, .f32⟩
  | .hbm, ⟨26, _⟩ => ⟨S2x32x1024x512, .f32⟩
  | .hbm, ⟨27, _⟩ => ⟨S2x32x1024x512, .bf16⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1, .f32⟩
  | .hbm, ⟨44, _⟩ => ⟨S128, .f32⟩
  | .hbm, ⟨45, _⟩ => ⟨S128x1, .f32⟩
  | .hbm, ⟨46, _⟩ => ⟨S2x16384x1024, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x32x256x512, .bf16⟩
  | .local _ .vmem, ⟨5, _⟩ => ⟨S1x32x256x512, .bf16⟩
  | .local _ .vmem, ⟨6, _⟩ => ⟨S128x1, .f32⟩
  | .local _ .vmem, ⟨7, _⟩ => ⟨S1x512x256, .bf16⟩
  | .local _ .vmem, ⟨8, _⟩ => ⟨S1x512x256, .bf16⟩
  | .local _ .vmem, ⟨9, _⟩ => ⟨S2x2x128x512, .f32⟩
  | .local _ .vmem, ⟨10, _⟩ => ⟨S2x512x512, .f32⟩
  | .local _ .vmem, ⟨11, _⟩ => ⟨S2x512x512, .f32⟩
  | .local _ .smem, ⟨0, _⟩ => ⟨S1x1, .f32⟩
  | _, _ => ⟨S2x16384x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32_36 : BitVec 32 := 0#32
  c0_i32_36
@[reducible] def k0_t1_loop (i : grid0.Coords) : Scf.Loop 32 :=
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_55 : BitVec 32 := 1#32
  ⟨c0_i32_53, v134, c1_i32_55⟩
def k0_mult2 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c0_i32_107 : BitVec 32 := 0#32
  let v226 : BitVec 32 := Scalar.addi v225 c0_i32_107
  let c512_i32 : BitVec 32 := 512#32
  let v227 : BitVec 32 := Scalar.muli v226 c512_i32
  v227
def k0_off1 (i : grid0.Coords) (k0_t1 : Fin (k0_t1_loop i).trips) (c0_i32_107 : BitVec 32) : Fin 3 → Nat :=
  let c0_108 : Index := 0#32
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let v226 : BitVec 32 := Scalar.addi v225 c0_i32_107
  let c512_i32 : BitVec 32 := 512#32
  let v227 : BitVec 32 := Scalar.muli v226 c512_i32
  let v228 : BitVec 32 := v227
  let v229 : Index := Scalar.indexCast v228
  let c128_109 : Index := 128#32
  ![0, v229.toNat, 128]
def k0_off2 (i : grid0.Coords) (k0_t1 : Fin (k0_t1_loop i).trips) (c0_i32_118 : BitVec 32) : Fin 4 → Nat :=
  let c0_119 : Index := 0#32
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let v240 : BitVec 32 := Scalar.addi v225 c0_i32_118
  let v241 : Index := Scalar.indexCast v240
  let c0_120 : Index := 0#32
  let c0_121 : Index := 0#32
  ![0, v241.toNat, 0, 0]
def k0_mult3 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c1_i32_148 : BitVec 32 := 1#32
  let v272 : BitVec 32 := Scalar.addi v225 c1_i32_148
  let c512_i32_149 : BitVec 32 := 512#32
  let v273 : BitVec 32 := Scalar.muli v272 c512_i32_149
  v273
def k0_off3 (i : grid0.Coords) (k0_t1 : Fin (k0_t1_loop i).trips) (c1_i32_148 : BitVec 32) : Fin 3 → Nat :=
  let c0_150 : Index := 0#32
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let v272 : BitVec 32 := Scalar.addi v225 c1_i32_148
  let c512_i32_149 : BitVec 32 := 512#32
  let v273 : BitVec 32 := Scalar.muli v272 c512_i32_149
  let v274 : BitVec 32 := v273
  let v275 : Index := Scalar.indexCast v274
  let c0_151 : Index := 0#32
  ![0, v275.toNat, 0]
def k0_off4 (i : grid0.Coords) (k0_t1 : Fin (k0_t1_loop i).trips) (c0_i32_160 : BitVec 32) : Fin 4 → Nat :=
  let c0_161 : Index := 0#32
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let v286 : BitVec 32 := Scalar.addi v225 c0_i32_160
  let v287 : Index := Scalar.indexCast v286
  let c128_162 : Index := 128#32
  let c0_163 : Index := 0#32
  ![0, v287.toNat, 128, 0]
def k0_mult4 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c1_i32_190 : BitVec 32 := 1#32
  let v318 : BitVec 32 := Scalar.addi v225 c1_i32_190
  let c512_i32_191 : BitVec 32 := 512#32
  let v319 : BitVec 32 := Scalar.muli v318 c512_i32_191
  v319
def k0_mult5 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c2_i32_232 : BitVec 32 := 2#32
  let v364 : BitVec 32 := Scalar.addi v225 c2_i32_232
  let c512_i32_233 : BitVec 32 := 512#32
  let v365 : BitVec 32 := Scalar.muli v364 c512_i32_233
  v365
def k0_mult6 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c2_i32_274 : BitVec 32 := 2#32
  let v410 : BitVec 32 := Scalar.addi v225 c2_i32_274
  let c512_i32_275 : BitVec 32 := 512#32
  let v411 : BitVec 32 := Scalar.muli v410 c512_i32_275
  v411
def k0_mult7 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c3_i32_316 : BitVec 32 := 3#32
  let v456 : BitVec 32 := Scalar.addi v225 c3_i32_316
  let c512_i32_317 : BitVec 32 := 512#32
  let v457 : BitVec 32 := Scalar.muli v456 c512_i32_317
  v457
def k0_mult8 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c3_i32_358 : BitVec 32 := 3#32
  let v502 : BitVec 32 := Scalar.addi v225 c3_i32_358
  let c512_i32_359 : BitVec 32 := 512#32
  let v503 : BitVec 32 := Scalar.muli v502 c512_i32_359
  v503
def k0_mult9 (i : grid0.Coords) (k0_t1 : Fin (k0_t1_loop i).trips) : BitVec 32 :=
  let c4_i32_106 : BitVec 32 := 4#32
  let c0_i32_53 : BitVec 32 := 0#32
  let c1_i32_55 : BitVec 32 := 1#32
  let arg12 : BitVec 32 := Scf.iv c0_i32_53 c1_i32_55 k0_t1
  let v225 : BitVec 32 := Scalar.muli c4_i32_106 arg12
  let c4_i32_400 : BitVec 32 := 4#32
  let v548 : BitVec 32 := Scalar.addi v225 c4_i32_400
  let c512_i32_401 : BitVec 32 := 512#32
  let v549 : BitVec 32 := Scalar.muli v548 c512_i32_401
  v549
@[reducible] def k0_t2_loop (i : grid0.Coords) : Scf.Loop 32 :=
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let v131 : BitVec 32 := Scalar.addi c0_i32_53 v130
  let c1_i32_56 : BitVec 32 := 1#32
  ⟨v134, v131, c1_i32_56⟩
def k0_mult10 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c0_i32_107 : BitVec 32 := 0#32
  let v226 : BitVec 32 := Scalar.addi v225 c0_i32_107
  let c512_i32 : BitVec 32 := 512#32
  let v227 : BitVec 32 := Scalar.muli v226 c512_i32
  v227
def k0_off5 (i : grid0.Coords) (k0_t2 : Fin (k0_t2_loop i).trips) (c0_i32_107 : BitVec 32) : Fin 3 → Nat :=
  let c0_108 : Index := 0#32
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let v226 : BitVec 32 := Scalar.addi v225 c0_i32_107
  let c512_i32 : BitVec 32 := 512#32
  let v227 : BitVec 32 := Scalar.muli v226 c512_i32
  let v228 : BitVec 32 := v227
  let v229 : Index := Scalar.indexCast v228
  let c128_109 : Index := 128#32
  ![0, v229.toNat, 128]
def k0_off6 (i : grid0.Coords) (k0_t2 : Fin (k0_t2_loop i).trips) (c0_i32_118 : BitVec 32) : Fin 4 → Nat :=
  let c0_119 : Index := 0#32
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let v240 : BitVec 32 := Scalar.addi v225 c0_i32_118
  let v241 : Index := Scalar.indexCast v240
  let c0_120 : Index := 0#32
  let c0_121 : Index := 0#32
  ![0, v241.toNat, 0, 0]
def k0_mult11 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c1_i32_148 : BitVec 32 := 1#32
  let v272 : BitVec 32 := Scalar.addi v225 c1_i32_148
  let c512_i32_149 : BitVec 32 := 512#32
  let v273 : BitVec 32 := Scalar.muli v272 c512_i32_149
  v273
def k0_off7 (i : grid0.Coords) (k0_t2 : Fin (k0_t2_loop i).trips) (c1_i32_148 : BitVec 32) : Fin 3 → Nat :=
  let c0_150 : Index := 0#32
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let v272 : BitVec 32 := Scalar.addi v225 c1_i32_148
  let c512_i32_149 : BitVec 32 := 512#32
  let v273 : BitVec 32 := Scalar.muli v272 c512_i32_149
  let v274 : BitVec 32 := v273
  let v275 : Index := Scalar.indexCast v274
  let c0_151 : Index := 0#32
  ![0, v275.toNat, 0]
def k0_off8 (i : grid0.Coords) (k0_t2 : Fin (k0_t2_loop i).trips) (c0_i32_160 : BitVec 32) : Fin 4 → Nat :=
  let c0_161 : Index := 0#32
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let v286 : BitVec 32 := Scalar.addi v225 c0_i32_160
  let v287 : Index := Scalar.indexCast v286
  let c128_162 : Index := 128#32
  let c0_163 : Index := 0#32
  ![0, v287.toNat, 128, 0]
def k0_mult12 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c1_i32_190 : BitVec 32 := 1#32
  let v318 : BitVec 32 := Scalar.addi v225 c1_i32_190
  let c512_i32_191 : BitVec 32 := 512#32
  let v319 : BitVec 32 := Scalar.muli v318 c512_i32_191
  v319
def k0_mult13 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c2_i32_232 : BitVec 32 := 2#32
  let v364 : BitVec 32 := Scalar.addi v225 c2_i32_232
  let c512_i32_233 : BitVec 32 := 512#32
  let v365 : BitVec 32 := Scalar.muli v364 c512_i32_233
  v365
def k0_mult14 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c2_i32_274 : BitVec 32 := 2#32
  let v410 : BitVec 32 := Scalar.addi v225 c2_i32_274
  let c512_i32_275 : BitVec 32 := 512#32
  let v411 : BitVec 32 := Scalar.muli v410 c512_i32_275
  v411
def k0_mult15 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c3_i32_316 : BitVec 32 := 3#32
  let v456 : BitVec 32 := Scalar.addi v225 c3_i32_316
  let c512_i32_317 : BitVec 32 := 512#32
  let v457 : BitVec 32 := Scalar.muli v456 c512_i32_317
  v457
def k0_mult16 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c3_i32_358 : BitVec 32 := 3#32
  let v502 : BitVec 32 := Scalar.addi v225 c3_i32_358
  let c512_i32_359 : BitVec 32 := 512#32
  let v503 : BitVec 32 := Scalar.muli v502 c512_i32_359
  v503
def k0_mult17 (i : grid0.Coords) (k0_t2 : Fin (k0_t2_loop i).trips) : BitVec 32 :=
  let c4_i32_106 : BitVec 32 := 4#32
  let c0_i32_53 : BitVec 32 := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let v130 : BitVec 32 := Scalar.subi v128 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg12 : BitVec 32 := Scf.iv v134 c1_i32_56 k0_t2
  let v225 : BitVec 32 := Scalar.muli c4_i32_106 arg12
  let c4_i32_400 : BitVec 32 := 4#32
  let v548 : BitVec 32 := Scalar.addi v225 c4_i32_400
  let c512_i32_401 : BitVec 32 := 512#32
  let v549 : BitVec 32 := Scalar.muli v548 c512_i32_401
  v549
def k0_cond1 (i : grid0.Coords) : BitVec 1 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v138 : BitVec 32 := Scalar.subi arg2 v137
  let c0_i32_58 : BitVec 32 := 0#32
  let v139 : BitVec 32 := Scalar.maxsi v138 c0_i32_58
  let c3_i32 : BitVec 32 := 3#32
  let v140 : BitVec 32 := Scalar.minsi v139 c3_i32
  let c0_i32_59 : BitVec 32 := 0#32
  let v141 : BitVec 1 := Scalar.cmpi .ne v140 c0_i32_59
  v141

def k0_cond2 (i : grid0.Coords) : BitVec 1 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v138 : BitVec 32 := Scalar.subi arg2 v137
  let c0_i32_58 : BitVec 32 := 0#32
  let v139 : BitVec 32 := Scalar.maxsi v138 c0_i32_58
  let c3_i32 : BitVec 32 := 3#32
  let v140 : BitVec 32 := Scalar.minsi v139 c3_i32
  let c1_i32_106 : BitVec 32 := 1#32
  let v225 : BitVec 32 := Scalar.subi v140 c1_i32_106
  let c0_i32_107 : BitVec 32 := 0#32
  let v226 : BitVec 1 := Scalar.cmpi .ne v225 c0_i32_107
  v226

def k0_cond3 (i : grid0.Coords) : BitVec 1 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v138 : BitVec 32 := Scalar.subi arg2 v137
  let c0_i32_58 : BitVec 32 := 0#32
  let v139 : BitVec 32 := Scalar.maxsi v138 c0_i32_58
  let c3_i32 : BitVec 32 := 3#32
  let v140 : BitVec 32 := Scalar.minsi v139 c3_i32
  let c1_i32_106 : BitVec 32 := 1#32
  let v225 : BitVec 32 := Scalar.subi v140 c1_i32_106
  let c1_i32_108 : BitVec 32 := 1#32
  let v228 : BitVec 32 := Scalar.subi v225 c1_i32_108
  let c0_i32_109 : BitVec 32 := 0#32
  let v229 : BitVec 1 := Scalar.cmpi .ne v228 c0_i32_109
  v229

def k0_mult18 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_110 : BitVec 32 := 0#32
  let v231 : BitVec 32 := Scalar.addi v137 c0_i32_110
  let c512_i32 : BitVec 32 := 512#32
  let v232 : BitVec 32 := Scalar.muli v231 c512_i32
  v232
def k0_off9 (i : grid0.Coords) (c0_i32_110 : BitVec 32) : Fin 3 → Nat :=
  let c0_111 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v231 : BitVec 32 := Scalar.addi v137 c0_i32_110
  let c512_i32 : BitVec 32 := 512#32
  let v232 : BitVec 32 := Scalar.muli v231 c512_i32
  let v233 : BitVec 32 := v232
  let v234 : Index := Scalar.indexCast v233
  let c128_112 : Index := 128#32
  ![0, v234.toNat, 128]
def k0_off10 (i : grid0.Coords) (c0_i32_121 : BitVec 32) : Fin 4 → Nat :=
  let c0_122 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v245 : BitVec 32 := Scalar.addi v137 c0_i32_121
  let v246 : Index := Scalar.indexCast v245
  let c0_123 : Index := 0#32
  let c0_124 : Index := 0#32
  ![0, v246.toNat, 0, 0]
def k0_mult19 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_151 : BitVec 32 := 1#32
  let v277 : BitVec 32 := Scalar.addi v137 c1_i32_151
  let c512_i32_152 : BitVec 32 := 512#32
  let v278 : BitVec 32 := Scalar.muli v277 c512_i32_152
  v278
def k0_off11 (i : grid0.Coords) (c1_i32_151 : BitVec 32) : Fin 3 → Nat :=
  let c0_153 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v277 : BitVec 32 := Scalar.addi v137 c1_i32_151
  let c512_i32_152 : BitVec 32 := 512#32
  let v278 : BitVec 32 := Scalar.muli v277 c512_i32_152
  let v279 : BitVec 32 := v278
  let v280 : Index := Scalar.indexCast v279
  let c0_154 : Index := 0#32
  ![0, v280.toNat, 0]
def k0_off12 (i : grid0.Coords) (c0_i32_163 : BitVec 32) : Fin 4 → Nat :=
  let c0_164 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v291 : BitVec 32 := Scalar.addi v137 c0_i32_163
  let v292 : Index := Scalar.indexCast v291
  let c128_165 : Index := 128#32
  let c0_166 : Index := 0#32
  ![0, v292.toNat, 128, 0]
def k0_mult20 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_193 : BitVec 32 := 1#32
  let v323 : BitVec 32 := Scalar.addi v137 c1_i32_193
  let c512_i32_194 : BitVec 32 := 512#32
  let v324 : BitVec 32 := Scalar.muli v323 c512_i32_194
  v324
def k0_mult21 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c2_i32_235 : BitVec 32 := 2#32
  let v369 : BitVec 32 := Scalar.addi v137 c2_i32_235
  let c512_i32_236 : BitVec 32 := 512#32
  let v370 : BitVec 32 := Scalar.muli v369 c512_i32_236
  v370
def k0_mult22 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c2_i32_277 : BitVec 32 := 2#32
  let v415 : BitVec 32 := Scalar.addi v137 c2_i32_277
  let c512_i32_278 : BitVec 32 := 512#32
  let v416 : BitVec 32 := Scalar.muli v415 c512_i32_278
  v416
def k0_mult23 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c3_i32_319 : BitVec 32 := 3#32
  let v461 : BitVec 32 := Scalar.addi v137 c3_i32_319
  let c512_i32_320 : BitVec 32 := 512#32
  let v462 : BitVec 32 := Scalar.muli v461 c512_i32_320
  v462
def k0_mult24 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c3_i32_368 : BitVec 32 := 3#32
  let v521 : BitVec 32 := Scalar.addi v137 c3_i32_368
  let c512_i32_369 : BitVec 32 := 512#32
  let v522 : BitVec 32 := Scalar.muli v521 c512_i32_369
  v522
def k0_mult25 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_110 : BitVec 32 := 0#32
  let v231 : BitVec 32 := Scalar.addi v137 c0_i32_110
  let c512_i32 : BitVec 32 := 512#32
  let v232 : BitVec 32 := Scalar.muli v231 c512_i32
  v232
def k0_off13 (i : grid0.Coords) (c0_i32_110 : BitVec 32) : Fin 3 → Nat :=
  let c0_111 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v231 : BitVec 32 := Scalar.addi v137 c0_i32_110
  let c512_i32 : BitVec 32 := 512#32
  let v232 : BitVec 32 := Scalar.muli v231 c512_i32
  let v233 : BitVec 32 := v232
  let v234 : Index := Scalar.indexCast v233
  let c128_112 : Index := 128#32
  ![0, v234.toNat, 128]
def k0_off14 (i : grid0.Coords) (c0_i32_121 : BitVec 32) : Fin 4 → Nat :=
  let c0_122 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v245 : BitVec 32 := Scalar.addi v137 c0_i32_121
  let v246 : Index := Scalar.indexCast v245
  let c0_123 : Index := 0#32
  let c0_124 : Index := 0#32
  ![0, v246.toNat, 0, 0]
def k0_mult26 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_151 : BitVec 32 := 1#32
  let v277 : BitVec 32 := Scalar.addi v137 c1_i32_151
  let c512_i32_152 : BitVec 32 := 512#32
  let v278 : BitVec 32 := Scalar.muli v277 c512_i32_152
  v278
def k0_off15 (i : grid0.Coords) (c1_i32_151 : BitVec 32) : Fin 3 → Nat :=
  let c0_153 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v277 : BitVec 32 := Scalar.addi v137 c1_i32_151
  let c512_i32_152 : BitVec 32 := 512#32
  let v278 : BitVec 32 := Scalar.muli v277 c512_i32_152
  let v279 : BitVec 32 := v278
  let v280 : Index := Scalar.indexCast v279
  let c0_154 : Index := 0#32
  ![0, v280.toNat, 0]
def k0_off16 (i : grid0.Coords) (c0_i32_163 : BitVec 32) : Fin 4 → Nat :=
  let c0_164 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v291 : BitVec 32 := Scalar.addi v137 c0_i32_163
  let v292 : Index := Scalar.indexCast v291
  let c128_165 : Index := 128#32
  let c0_166 : Index := 0#32
  ![0, v292.toNat, 128, 0]
def k0_mult27 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_193 : BitVec 32 := 1#32
  let v323 : BitVec 32 := Scalar.addi v137 c1_i32_193
  let c512_i32_194 : BitVec 32 := 512#32
  let v324 : BitVec 32 := Scalar.muli v323 c512_i32_194
  v324
def k0_mult28 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c2_i32_235 : BitVec 32 := 2#32
  let v369 : BitVec 32 := Scalar.addi v137 c2_i32_235
  let c512_i32_236 : BitVec 32 := 512#32
  let v370 : BitVec 32 := Scalar.muli v369 c512_i32_236
  v370
def k0_mult29 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c2_i32_284 : BitVec 32 := 2#32
  let v429 : BitVec 32 := Scalar.addi v137 c2_i32_284
  let c512_i32_285 : BitVec 32 := 512#32
  let v430 : BitVec 32 := Scalar.muli v429 c512_i32_285
  v430
def k0_mult30 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_108 : BitVec 32 := 0#32
  let v228 : BitVec 32 := Scalar.addi v137 c0_i32_108
  let c512_i32 : BitVec 32 := 512#32
  let v229 : BitVec 32 := Scalar.muli v228 c512_i32
  v229
def k0_off17 (i : grid0.Coords) (c0_i32_108 : BitVec 32) : Fin 3 → Nat :=
  let c0_109 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v228 : BitVec 32 := Scalar.addi v137 c0_i32_108
  let c512_i32 : BitVec 32 := 512#32
  let v229 : BitVec 32 := Scalar.muli v228 c512_i32
  let v230 : BitVec 32 := v229
  let v231 : Index := Scalar.indexCast v230
  let c128_110 : Index := 128#32
  ![0, v231.toNat, 128]
def k0_off18 (i : grid0.Coords) (c0_i32_119 : BitVec 32) : Fin 4 → Nat :=
  let c0_120 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v242 : BitVec 32 := Scalar.addi v137 c0_i32_119
  let v243 : Index := Scalar.indexCast v242
  let c0_121 : Index := 0#32
  let c0_122 : Index := 0#32
  ![0, v243.toNat, 0, 0]
def k0_mult31 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_149 : BitVec 32 := 1#32
  let v274 : BitVec 32 := Scalar.addi v137 c1_i32_149
  let c512_i32_150 : BitVec 32 := 512#32
  let v275 : BitVec 32 := Scalar.muli v274 c512_i32_150
  v275
def k0_off19 (i : grid0.Coords) : Fin 3 → Nat :=
  let c0_151 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_149 : BitVec 32 := 1#32
  let v274 : BitVec 32 := Scalar.addi v137 c1_i32_149
  let c512_i32_150 : BitVec 32 := 512#32
  let v275 : BitVec 32 := Scalar.muli v274 c512_i32_150
  let v276 : BitVec 32 := v275
  let v277 : Index := Scalar.indexCast v276
  let c0_152 : Index := 0#32
  ![0, v277.toNat, 0]
def k0_off20 (i : grid0.Coords) (c0_i32_168 : BitVec 32) : Fin 4 → Nat :=
  let c0_169 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let v302 : BitVec 32 := Scalar.addi v137 c0_i32_168
  let v303 : Index := Scalar.indexCast v302
  let c128_170 : Index := 128#32
  let c0_171 : Index := 0#32
  ![0, v303.toNat, 128, 0]
def k0_mult32 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c1_i32_198 : BitVec 32 := 1#32
  let v334 : BitVec 32 := Scalar.addi v137 c1_i32_198
  let c512_i32_199 : BitVec 32 := 512#32
  let v335 : BitVec 32 := Scalar.muli v334 c512_i32_199
  v335
def k0_mult33 (i : grid0.Coords) : BitVec 32 :=
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_106 : BitVec 32 := 0#32
  let v225 : BitVec 32 := Scalar.addi v137 c0_i32_106
  let c512_i32 : BitVec 32 := 512#32
  let v226 : BitVec 32 := Scalar.muli v225 c512_i32
  v226
def k0_off21 (i : grid0.Coords) : Fin 3 → Nat :=
  let c0_107 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_106 : BitVec 32 := 0#32
  let v225 : BitVec 32 := Scalar.addi v137 c0_i32_106
  let c512_i32 : BitVec 32 := 512#32
  let v226 : BitVec 32 := Scalar.muli v225 c512_i32
  let v227 : BitVec 32 := v226
  let v228 : Index := Scalar.indexCast v227
  let c128_108 : Index := 128#32
  ![0, v228.toNat, 128]
def k0_off22 (i : grid0.Coords) : Fin 4 → Nat :=
  let c0_125 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_124 : BitVec 32 := 0#32
  let v253 : BitVec 32 := Scalar.addi v137 c0_i32_124
  let v254 : Index := Scalar.indexCast v253
  let c0_126 : Index := 0#32
  let c0_127 : Index := 0#32
  ![0, v254.toNat, 0, 0]
def k0_off23 (i : grid0.Coords) : Fin 4 → Nat :=
  let c0_187 : Index := 0#32
  let arg2 : BitVec 32 := BitVec.ofNat 32 (i 2).val
  let c0_i32_46 : BitVec 32 := 0#32
  let v113 : BitVec 1 := Scalar.cmpi .sgt arg2 c0_i32_46
  let v114 : BitVec 32 := Scalar.extui v113
  let c0_i32_47 : BitVec 32 := 0#32
  let v115 : BitVec 1 := Scalar.cmpi .slt arg2 c0_i32_47
  let v116 : BitVec 32 := Scalar.extui v115
  let v117 : BitVec 32 := Scalar.subi v114 v116
  let c4_i32 : BitVec 32 := 4#32
  let c0_i32_48 : BitVec 32 := 0#32
  let v118 : BitVec 1 := Scalar.cmpi .sgt c4_i32 c0_i32_48
  let v119 : BitVec 32 := Scalar.extui v118
  let c0_i32_49 : BitVec 32 := 0#32
  let v120 : BitVec 1 := Scalar.cmpi .slt c4_i32 c0_i32_49
  let v121 : BitVec 32 := Scalar.extui v120
  let v122 : BitVec 32 := Scalar.subi v119 v121
  let v123 : BitVec 1 := Scalar.cmpi .ne v117 v122
  let v124 : BitVec 32 := Scalar.remsi arg2 c4_i32
  let c0_i32_50 : BitVec 32 := 0#32
  let v125 : BitVec 1 := Scalar.cmpi .ne v124 c0_i32_50
  let v126 : BitVec 1 := Scalar.andi v123 v125
  let v112 : BitVec 32 := Scalar.divsi arg2 c4_i32
  let c1_i32_51 : BitVec 32 := 1#32
  let v127 : BitVec 32 := Scalar.subi v112 c1_i32_51
  let v128 : BitVec 32 := Scalar.select v126 v127 v112
  let c4_i32_57 : BitVec 32 := 4#32
  let v137 : BitVec 32 := Scalar.muli v128 c4_i32_57
  let c0_i32_186 : BitVec 32 := 0#32
  let v341 : BitVec 32 := Scalar.addi v137 c0_i32_186
  let v342 : Index := Scalar.indexCast v341
  let c128_188 : Index := 128#32
  let c0_189 : Index := 0#32
  ![0, v342.toNat, 128, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x8x2x64 : Shape := ⟨5, ![2, 16384, 8, 2, 64]⟩
abbrev S2x16384x8x128 : Shape := ⟨4, ![2, 16384, 8, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x8x2x16384x16384 : Shape := ⟨5, ![2, 8, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x8x128x16384 : Shape := ⟨4, ![2, 8, 128, 16384]⟩
abbrev S128 : Shape := ⟨1, ![128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x1024 : Shape := ⟨3, ![2, 16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x8x2x64, .f32⟩
  | .hbm, ⟨1, _⟩ => ⟨S2x16384x8x2x64, .f32⟩
  | .hbm, ⟨2, _⟩ => ⟨S2x16384x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8x2x16384x16384, .f32⟩
  | .hbm, ⟨24, _⟩ => ⟨S_, .f32⟩
  | .hbm, ⟨25, _⟩ => ⟨S2x8x2x16384x16384, .f32⟩
  | .hbm, ⟨26, _⟩ => ⟨S2x8x2x16384x16384, .f32⟩
  | .hbm, ⟨27, _⟩ => ⟨S16384, .i32⟩
  | .hbm, ⟨28, _⟩ => ⟨S1x16384, .i32⟩
  | .hbm, ⟨29, _⟩ => ⟨S16384x1, .i32⟩
  | .hbm, ⟨30, _⟩ => ⟨S16384x16384, .i32⟩
  | .hbm, ⟨31, _⟩ => ⟨S16384x16384, .i32⟩
  | .hbm, ⟨32, _⟩ => ⟨S16384x16384, .i1⟩
  | .hbm, ⟨33, _⟩ => ⟨S_, .f32⟩
  | .hbm, ⟨34, _⟩ => ⟨S_, .f32⟩
  | .hbm, ⟨35, _⟩ => ⟨S2x8x2x16384x16384, .i1⟩
  | .hbm, ⟨36, _⟩ => ⟨S2x8x2x16384x16384, .f32⟩
  | .hbm, ⟨37, _⟩ => ⟨S2x8x2x16384x16384, .f32⟩
  | .hbm, ⟨38, _⟩ => ⟨S_, .f32⟩
  | .hbm, ⟨39, _⟩ => ⟨S2x8x2x16384, .f32⟩
  | .hbm, ⟨40, _⟩ => ⟨S_, .f32⟩
  | .hbm, ⟨41, _⟩ => ⟨S2x8x2x16384, .f32⟩
  | .hbm, ⟨42, _⟩ => ⟨S2x8x2x16384, .f32⟩
  | .hbm, ⟨43, _⟩ => ⟨S2x8x2x16384x1, .f32⟩
  | .hbm, ⟨44, _⟩ => ⟨S2x8x2x16384x16384, .f32⟩
  | .hbm, ⟨45, _⟩ => ⟨S2x8x2x16384x16384, .f32⟩
  | .hbm, ⟨46, _⟩ => ⟨S2x8x2x16384x16384, .f32⟩
  | .hbm, ⟨47, _⟩ => ⟨S_, .f32⟩
  | .hbm, ⟨48, _⟩ => ⟨S2x8x2x16384, .f32⟩
  | .hbm, ⟨49, _⟩ => ⟨S2x8x2x16384x1, .f32⟩
  | .hbm, ⟨50, _⟩ => ⟨S2x8x2x16384x16384, .f32⟩
  | .hbm, ⟨51, _⟩ => ⟨S2x8x2x16384x16384, .f32⟩
  | .hbm, ⟨52, _⟩ => ⟨S2x8x1x16384x16384, .f32⟩
  | .hbm, ⟨53, _⟩ => ⟨S2x8x16384x16384, .f32⟩
  | .hbm, ⟨54, _⟩ => ⟨S2x8x1x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x128x16384, .f32⟩
  | .hbm, ⟨60, _⟩ => ⟨S2x16384x8x128, .f32⟩
  | .hbm, ⟨61, _⟩ => ⟨S128, .f32⟩
  | .hbm, ⟨62, _⟩ => ⟨S2x16384x8x128, .f32⟩
  | .hbm, ⟨63, _⟩ => ⟨S_, .f32⟩
  | .hbm, ⟨64, _⟩ => ⟨S2x16384x8, .f32⟩
  | .hbm, ⟨65, _⟩ => ⟨S2x16384x8x1, .f32⟩
  | .hbm, ⟨66, _⟩ => ⟨S_, .f32⟩
  | .hbm, ⟨67, _⟩ => ⟨S2x16384x8x1, .f32⟩
  | .hbm, ⟨68, _⟩ => ⟨S2x16384x8x1, .f32⟩
  | .hbm, ⟨69, _⟩ => ⟨S_, .f32⟩
  | .hbm, ⟨70, _⟩ => ⟨S2x16384x8x1, .f32⟩
  | .hbm, ⟨71, _⟩ => ⟨S2x16384x8x1, .f32⟩
  | .hbm, ⟨72, _⟩ => ⟨S2x16384x8x1, .f32⟩
  | .hbm, ⟨73, _⟩ => ⟨S2x16384x8x128, .f32⟩
  | .hbm, ⟨74, _⟩ => ⟨S2x16384x8x128, .f32⟩
  | .hbm, ⟨75, _⟩ => ⟨S1x1x1x128, .f32⟩
  | .hbm, ⟨76, _⟩ => ⟨S2x16384x8x128, .f32⟩
  | .hbm, ⟨77, _⟩ => ⟨S2x16384x8x128, .f32⟩
  | .hbm, ⟨78, _⟩ => ⟨S_, .f32⟩
  | .hbm, ⟨79, _⟩ => ⟨S2x16384x8x128, .f32⟩
  | .hbm, ⟨80, _⟩ => ⟨S2x16384x8x128, .f32⟩
  | .hbm, ⟨81, _⟩ => ⟨S2x16384x1024, .f32⟩
  | .hbm, ⟨82, _⟩ => ⟨S2x16384x1024, .bf16⟩
  | _, _ => ⟨S2x16384x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel2.lean ====
abbrev S2x16384x1024 : Shape := ⟨3, ![2, 16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S3x5632 : Shape := ⟨2, ![3, 5632]⟩
abbrev S2816x1024 : Shape := ⟨2, ![2816, 1024]⟩
abbrev S1x512x1024 : Shape := ⟨3, ![1, 512, 1024]⟩
abbrev S8x5632 : Shape := ⟨2, ![8, 5632]⟩
abbrev S512x2816 : Shape := ⟨2, ![512, 2816]⟩
abbrev S520x256 : Shape := ⟨2, ![520, 256]⟩
abbrev S512x1024 : Shape := ⟨2, ![512, 1024]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S2x16384x1024, .bf16⟩
  | .hbm, ⟨7, _⟩ => ⟨S1024x5632, .f32⟩
  | .hbm, ⟨8, _⟩ => ⟨S1024x5632, .bf16⟩
  | .hbm, ⟨9, _⟩ => ⟨S3x5632, .f32⟩
  | .hbm, ⟨10, _⟩ => ⟨S2816x1024, .f32⟩
  | .hbm, ⟨11, _⟩ => ⟨S2816x1024, .bf16⟩
  | .hbm, ⟨12, _⟩ => ⟨S2x16384x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S8x5632, .f32⟩
  | .local _ .vmem, ⟨11, _⟩ => ⟨S512x2816, .bf16⟩
  | .local _ .vmem, ⟨12, _⟩ => ⟨S520x256, .f32⟩
  | .local _ .vmem, ⟨13, _⟩ => ⟨S520x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x16384x1024 : Shape := ⟨3, ![2, 16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S2x16384x5632 : Shape := ⟨3, ![2, 16384, 5632]⟩
abbrev S_ : Shape := ⟨0, ![]⟩
abbrev S2x16386x5632 : Shape := ⟨3, ![2, 16386, 5632]⟩
abbrev S1x1x5632 : Shape := ⟨3, ![1, 1, 5632]⟩
abbrev S5632 : Shape := ⟨1, ![5632]⟩
abbrev S2x16384x2816 : Shape := ⟨3, ![2, 16384, 2816]⟩
abbrev S2816x1024 : Shape := ⟨2, ![2816, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024x5632, .f32⟩
  | .hbm, ⟨7, _⟩ => ⟨S2x16384x5632, .f32⟩
  | .hbm, ⟨8, _⟩ => ⟨S_, .i32⟩
  | .hbm, ⟨9, _⟩ => ⟨S_, .f32⟩
  | .hbm, ⟨10, _⟩ => ⟨S2x16386x5632, .f32⟩
  | .hbm, ⟨11, _⟩ => ⟨S2x16384x5632, .f32⟩
  | .hbm, ⟨12, _⟩ => ⟨S1x1x5632, .f32⟩
  | .hbm, ⟨13, _⟩ => ⟨S5632, .f32⟩
  | .hbm, ⟨14, _⟩ => ⟨S1x1x5632, .f32⟩
  | .hbm, ⟨15, _⟩ => ⟨S2x16384x5632, .f32⟩
  | .hbm, ⟨16, _⟩ => ⟨S2x16384x5632, .f32⟩
  | .hbm, ⟨17, _⟩ => ⟨S_, .f32⟩
  | .hbm, ⟨18, _⟩ => ⟨S2x16384x5632, .f32⟩
  | .hbm, ⟨19, _⟩ => ⟨S2x16384x5632, .f32⟩
  | .hbm, ⟨20, _⟩ => ⟨S2x16384x5632, .f32⟩
  | .hbm, ⟨21, _⟩ => ⟨S1x1x5632, .f32⟩
  | .hbm, ⟨22, _⟩ => ⟨S5632, .f32⟩
  | .hbm, ⟨23, _⟩ => ⟨S1x1x5632, .f32⟩
  | .hbm, ⟨24, _⟩ => ⟨S2x16384x5632, .f32⟩
  | .hbm, ⟨25, _⟩ => ⟨S2x16384x5632, .f32⟩
  | .hbm, ⟨26, _⟩ => ⟨S2x16384x5632, .f32⟩
  | .hbm, ⟨27, _⟩ => ⟨S2x16384x5632, .f32⟩
  | .hbm, ⟨28, _⟩ => ⟨S1x1x5632, .f32⟩
  | .hbm, ⟨29, _⟩ => ⟨S5632, .f32⟩
  | .hbm, ⟨30, _⟩ => ⟨S1x1x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S5632, .f32⟩
  | .hbm, ⟨35, _⟩ => ⟨S1x1x5632, .f32⟩
  | .hbm, ⟨36, _⟩ => ⟨S2x16384x5632, .f32⟩
  | .hbm, ⟨37, _⟩ => ⟨S2x16384x5632, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S_, .f32⟩
  | .hbm, ⟨43, _⟩ => ⟨S2x16384x2816, .f32⟩
  | .hbm, ⟨44, _⟩ => ⟨S2x16384x2816, .f32⟩
  | .hbm, ⟨45, _⟩ => ⟨S_, .f32⟩
  | .hbm, ⟨46, _⟩ => ⟨S2x16384x2816, .f32⟩
  | .hbm, ⟨47, _⟩ => ⟨S2x16384x2816, .f32⟩
  | .hbm, ⟨48, _⟩ => ⟨S2x16384x2816, .f32⟩
  | .hbm, ⟨49, _⟩ => ⟨S2x16384x2816, .f32⟩
  | .hbm, ⟨50, _⟩ => ⟨S2816x1024, .f32⟩
  | .hbm, ⟨51, _⟩ => ⟨S2x16384x1024, .f32⟩
  | .hbm, ⟨52, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S2x16384x2048 : Shape := ⟨3, ![2, 16384, 2048]⟩
abbrev S1x1024x1024 : Shape := ⟨3, ![1, 1024, 1024]⟩
abbrev S1x512x512 : Shape := ⟨3, ![1, 512, 512]⟩
abbrev S1x512 : Shape := ⟨2, ![1, 512]⟩
abbrev S1x512x1024 : Shape := ⟨3, ![1, 512, 1024]⟩
abbrev S1x1024 : Shape := ⟨2, ![1, 1024]⟩
abbrev S1024x1024 : Shape := ⟨2, ![1024, 1024]⟩
abbrev S512x512 : Shape := ⟨2, ![512, 512]⟩
abbrev S512x1024 : Shape := ⟨2, ![512, 1024]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x512, .f32⟩
  | .hbm, ⟨2, _⟩ => ⟨S2x16384x2048, .bf16⟩
  | .hbm, ⟨3, _⟩ => ⟨S2x16384x1024, .f32⟩
  | .hbm, ⟨4, _⟩ => ⟨S1x1024x1024, .f32⟩
  | .hbm, ⟨5, _⟩ => ⟨S1x512x512, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S512x512, .f32⟩
  | .hbm, ⟨13, _⟩ => ⟨S512x512, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S2x16384x1024, .f32⟩
  | .hbm, ⟨19, _⟩ => ⟨S2x16384x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .f32⟩
  | .local _ .vmem, ⟨3, _⟩ => ⟨S1x512x512, .f32⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x16384x1024 : Shape := ⟨3, ![2, 16384, 1024]⟩
abbrev S2x16384x512 : Shape := ⟨3, ![2, 16384, 512]⟩
abbrev S2x16384x2048 : Shape := ⟨3, ![2, 16384, 2048]⟩
abbrev S1x1024x1024 : Shape := ⟨3, ![1, 1024, 1024]⟩
abbrev S1x512x512 : Shape := ⟨3, ![1, 512, 512]⟩
abbrev S1x512 : Shape := ⟨2, ![1, 512]⟩
abbrev S1x512x1024 : Shape := ⟨3, ![1, 512, 1024]⟩
abbrev S1x1024 : Shape := ⟨2, ![1, 1024]⟩
abbrev S1024x1024 : Shape := ⟨2, ![1024, 1024]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S512x1024 : Shape := ⟨2, ![512, 1024]⟩
abbrev S2x16384 : Shape := ⟨2, ![2, 16384]⟩
abbrev S2x16384x1 : Shape := ⟨3, ![2, 16384, 1]⟩
abbrev S1024 : Shape := ⟨1, ![1024]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x512, .f32⟩
  | .hbm, ⟨2, _⟩ => ⟨S2x16384x2048, .bf16⟩
  | .hbm, ⟨3, _⟩ => ⟨S2x16384x1024, .f32⟩
  | .hbm, ⟨4, _⟩ => ⟨S1x1024x1024, .f32⟩
  | .hbm, ⟨5, _⟩ => ⟨S1x512x512, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S2x16384x1024, .f32⟩
  | .hbm, ⟨11, _⟩ => ⟨S1024x1024, .f32⟩
  | .hbm, ⟨12, _⟩ => ⟨S2x16384x1024, .f32⟩
  | .hbm, ⟨13, _⟩ => ⟨S512x512, .f32⟩
  | .hbm, ⟨14, _⟩ => ⟨S2x16384x512, .f32⟩
  | .hbm, ⟨15, _⟩ => ⟨S512, .f32⟩
  | .hbm, ⟨16, _⟩ => ⟨S1x1x512, .f32⟩
  | .hbm, ⟨17, _⟩ => ⟨S2x16384x512, .f32⟩
  | .hbm, ⟨18, _⟩ => ⟨S2x16384x512, .f32⟩
  | .hbm, ⟨19, _⟩ => ⟨S2x16384x512, .f32⟩
  | .hbm, ⟨20, _⟩ => ⟨S2x16384x512, .f32⟩
  | .hbm, ⟨21, _⟩ => ⟨S_, .f32⟩
  | .hbm, ⟨22, _⟩ => ⟨S2x16384x512, .f32⟩
  | .hbm, ⟨23, _⟩ => ⟨S2x16384x512, .f32⟩
  | .hbm, ⟨24, _⟩ => ⟨S_, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S512x1024, .f32⟩
  | .hbm, ⟨29, _⟩ => ⟨S2x16384x1024, .f32⟩
  | .hbm, ⟨30, _⟩ => ⟨S2x16384x2048, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S1024x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x64 : Shape := ⟨2, ![1, 64]⟩
abbrev S1x1024x2048 : Shape := ⟨3, ![1, 1024, 2048]⟩
abbrev S1024x2048 : Shape := ⟨2, ![1024, 2048]⟩
abbrev S1024x16x2x2x32 : Shape := ⟨5, ![1024, 16, 2, 2, 32]⟩
abbrev S1x1024x3584 : Shape := ⟨3, ![1, 1024, 3584]⟩
abbrev S1024x3584 : Shape := ⟨2, ![1024, 3584]⟩
abbrev S1024x5632 : Shape := ⟨2, ![1024, 5632]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16 : Shape := ⟨1, ![16]⟩
abbrev S8x1x2x1 : Shape := ⟨4, ![8, 1, 2, 1]⟩
abbrev S8x2x2x32 : Shape := ⟨4, ![8, 2, 2, 32]⟩
abbrev S1024 : Shape := ⟨1, ![1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S64 : Shape := ⟨1, ![64]⟩
abbrev S1x2x1x32 : Shape := ⟨4, ![1, 2, 1, 32]⟩
abbrev S2x32x1024x512 : Shape := ⟨4, ![2, 32, 1024, 512]⟩
abbrev S2x16384x512 : Shape := ⟨3, ![2, 16384, 512]⟩
abbrev S2x16384x2048 : Shape := ⟨3, ![2, 16384, 2048]⟩
abbrev S1x512x1024 : Shape := ⟨3, ![1, 512, 1024]⟩
abbrev S512x128 : Shape := ⟨2, ![512, 128]⟩
abbrev S1x1x1024x512 : Shape := ⟨4, ![1, 1, 1024, 512]⟩
abbrev S1x512x512 : Shape := ⟨3, ![1, 512, 512]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1024x512 : Shape := ⟨2, ![1024, 512]⟩
abbrev S512x512 : Shape := ⟨2, ![512, 512]⟩
abbrev S512x2048 : Shape := ⟨2, ![512, 2048]⟩

abbrev nBuf : Space → Nat
  | .hbm => 69
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5632, .f32⟩
  | .hbm, ⟨3, _⟩ => ⟨S1x64, .f32⟩
  | .hbm, ⟨4, _⟩ => ⟨S1x64, .f32⟩
  | .hbm, ⟨5, _⟩ => ⟨S1x1024x2048, .f32⟩
  | .hbm, ⟨6, _⟩ => ⟨S1024x2048, .f32⟩
  | .hbm, ⟨7, _⟩ => ⟨S1024x16x2x2x32, .f32⟩
  | .hbm, ⟨8, _⟩ => ⟨S1024x16x2x2x32, .f32⟩
  | .hbm, ⟨9, _⟩ => ⟨S1024x2048, .f32⟩
  | .hbm, ⟨10, _⟩ => ⟨S1x1024x3584, .f32⟩
  | .hbm, ⟨11, _⟩ => ⟨S1024x3584, .f32⟩
  | .hbm, ⟨12, _⟩ => ⟨S1024x5632, .f32⟩
  | .hbm, ⟨13, _⟩ => ⟨S1024x5632, .bf16⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S16384, .f32⟩
  | .hbm, ⟨31, _⟩ => ⟨S16384x1, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x128, .f32⟩
  | .hbm, ⟨39, _⟩ => ⟨S16384x32, .f32⟩
  | .hbm, ⟨40, _⟩ => ⟨S16384x32, .f32⟩
  | .hbm, ⟨41, _⟩ => ⟨S16384x128, .f32⟩
  | .hbm, ⟨42, _⟩ => ⟨S16, .i32⟩
  | .hbm, ⟨43, _⟩ => ⟨S8x1x2x1, .i32⟩
  | .hbm, ⟨44, _⟩ => ⟨S8x2x2x32, .i32⟩
  | .hbm, ⟨45, _⟩ => ⟨S1024, .i32⟩
  | .hbm, ⟨46, _⟩ => ⟨S1024x1, .i32⟩
  | .hbm, ⟨47, _⟩ => ⟨S128, .i32⟩
  | .hbm, ⟨48, _⟩ => ⟨S1x128, .i32⟩
  | .hbm, ⟨49, _⟩ => ⟨S1024x128, .i32⟩
  | .hbm, ⟨50, _⟩ => ⟨S1024x128, .i32⟩
  | .hbm, ⟨51, _⟩ => ⟨S1024x128, .i1⟩
  | .hbm, ⟨52, _⟩ => ⟨S1024x128, .bf16⟩
  | .hbm, ⟨53, _⟩ => ⟨S128x1024, .bf16⟩
  | .hbm, ⟨54, _⟩ => ⟨S128x1024, .bf16⟩
  | .hbm, ⟨55, _⟩ => ⟨S256x1024, .bf16⟩
  | .hbm, ⟨56, _⟩ => ⟨S64, .f32⟩
  | .hbm, ⟨57, _⟩ => ⟨S1x2x1x32, .f32⟩
  | .hbm, ⟨58, _⟩ => ⟨S8x2x2x32, .f32⟩
  | .hbm, ⟨59, _⟩ => ⟨S1x1024, .f32⟩
  | .hbm, ⟨60, _⟩ => ⟨S64, .f32⟩
  | .hbm, ⟨61, _⟩ => ⟨S1x2x1x32, .f32⟩
  | .hbm, ⟨62, _⟩ => ⟨S8x2x2x32, .f32⟩
  | .hbm, ⟨63, _⟩ => ⟨S1x1024, .f32⟩
  | .hbm, ⟨64, _⟩ => ⟨S2x32x1024x512, .bf16⟩
  | .hbm, ⟨65, _⟩ => ⟨S2x16384x1024, .bf16⟩
  | .hbm, ⟨66, _⟩ => ⟨S2x32x1024x512, .bf16⟩
  | .hbm, ⟨67, _⟩ => ⟨S2x16384x512, .f32⟩
  | .hbm, ⟨68, _⟩ => ⟨S2x16384x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024, .f32⟩
  | .local _ .vmem, ⟨5, _⟩ => ⟨S1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x128, .bf16⟩
  | .local _ .vmem, ⟨11, _⟩ => ⟨S256x1024, .bf16⟩
  | .local _ .vmem, ⟨12, _⟩ => ⟨S1x1x1024x512, .bf16⟩
  | .local _ .vmem, ⟨13, _⟩ => ⟨S1x1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1x1024x512, .bf16⟩
  | .local _ .vmem, ⟨17, _⟩ => ⟨S1x1x1024x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x2048, .bf16⟩
  | .local _ .vmem, ⟨21, _⟩ => ⟨S1x512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v54_2 : Ref sig .tc := ⟨.hbm, 66, rfl⟩
abbrev main_v54_3 : Ref sig .tc := ⟨.hbm, 67, rfl⟩
abbrev main_v54_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x64 : Shape := ⟨2, ![1, 64]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S1024x5632 : Shape := ⟨2, ![1024, 5632]⟩
abbrev S2x16384x5632 : Shape := ⟨3, ![2, 16384, 5632]⟩
abbrev S2x16384x512 : Shape := ⟨3, ![2, 16384, 512]⟩
abbrev S2x16384x2048 : Shape := ⟨3, ![2, 16384, 2048]⟩
abbrev S2x16384x8x2x64 : Shape := ⟨5, ![2, 16384, 8, 2, 64]⟩
abbrev S64 : Shape := ⟨1, ![64]⟩
abbrev S2x16384x8x2 : Shape := ⟨4, ![2, 16384, 8, 2]⟩
abbrev S2x16384x8x2x1 : Shape := ⟨5, ![2, 16384, 8, 2, 1]⟩
abbrev S1x1x1x1x64 : Shape := ⟨5, ![1, 1, 1, 1, 64]⟩
abbrev S1x16384x1x1x32 : Shape := ⟨5, ![1, 16384, 1, 1, 32]⟩
abbrev S2x16384x8x2x32 : Shape := ⟨5, ![2, 16384, 8, 2, 32]⟩
abbrev S2x16384x8x1x2x32 : Shape := ⟨6, ![2, 16384, 8, 1, 2, 32]⟩
abbrev S2x16384x8x2x2x32 : Shape := ⟨6, ![2, 16384, 8, 2, 2, 32]⟩
abbrev S2x32x512x1024 : Shape := ⟨4, ![2, 32, 512, 1024]⟩
abbrev S2x32x1024x512 : Shape := ⟨4, ![2, 32, 1024, 512]⟩

abbrev nBuf : Space → Nat
  | .hbm => 142
  | .vmem => 0
  | .smem => 0
  | _ => 0

abbrev hbmTy0_0 (i : Nat) : BufTy := match i % 128 with
  | 0 => ⟨S2x16384x1024, .f32⟩
  | 1 => ⟨S1x1024, .f32⟩
  | 2 => ⟨S1x1024x5632, .f32⟩
  | 3 => ⟨S1x64, .f32⟩
  | 4 => ⟨S1x64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S16384, .i32⟩
  | 22 => ⟨S16384, .f32⟩
  | 23 => ⟨S16384x1, .f32⟩
  | 24 => ⟨S1x32, .f32⟩
  | 25 => ⟨S16384x32, .f32⟩
  | 26 => ⟨S16384x32, .f32⟩
  | 27 => ⟨S16384x32, .f32⟩
  | 28 => ⟨S16384x32, .f32⟩
  | 29 => ⟨S16384x32, .f32⟩
  | 30 => ⟨S1024, .f32⟩
  | 31 => ⟨S2x16384x1024, .f32⟩
  | 32 => ⟨S_, .f32⟩
  | 33 => ⟨S2x16384, .f32⟩
  | 34 => ⟨S2x16384x1, .f32⟩
  | 35 => ⟨S_, .f32⟩
  | 36 => ⟨S2x16384x1, .f32⟩
  | 37 => ⟨S2x16384x1, .f32⟩
  | 38 => ⟨S_, .f32⟩
  | 39 => ⟨S2x16384x1, .f32⟩
  | 40 => ⟨S2x16384x1, .f32⟩
  | 41 => ⟨S2x16384x1, .f32⟩
  | 42 => ⟨S2x16384x1024, .f32⟩
  | 43 => ⟨S2x16384x1024, .f32⟩
  | 44 => ⟨S1x1x1024, .f32⟩
  | 45 => ⟨S2x16384x1024, .f32⟩
  | 46 => ⟨S2x16384x1024, .f32⟩
  | 47 => ⟨S1024x5632, .f32⟩
  | 48 => ⟨S2x16384x5632, .f32⟩
  | 49 => ⟨S2x16384x1024, .f32⟩
  | 50 => ⟨S2x16384x1024, .f32⟩
  | 51 => ⟨S2x16384x1024, .f32⟩
  | 52 => ⟨S2x16384x512, .f32⟩
  | 53 => ⟨S2x16384x2048, .f32⟩
  | 54 => ⟨S2x16384x8x2x64, .f32⟩
  | 55 => ⟨S64, .f32⟩
  | 56 => ⟨S2x16384x8x2x64, .f32⟩
  | 57 => ⟨S_, .f32⟩
  | 58 => ⟨S2x16384x8x2, .f32⟩
  | 59 => ⟨S2x16384x8x2x1, .f32⟩
  | 60 => ⟨S_, .f32⟩
  | 61 => ⟨S2x16384x8x2x1, .f32⟩
  | 62 => ⟨S2x16384x8x2x1, .f32⟩
  | 63 => ⟨S_, .f32⟩
  | 64 => ⟨S2x16384x8x2x1, .f32⟩
  | 65 => ⟨S2x16384x8x2x1, .f32⟩
  | 66 => ⟨S2x16384x8x2x1, .f32⟩
  | 67 => ⟨S2x16384x8x2x64, .f32⟩
  | 68 => ⟨S2x16384x8x2x64, .f32⟩
  | 69 => ⟨S1x1x1x1x64, .f32⟩
  | 70 => ⟨S2x16384x8x2x64, .f32⟩
  | 71 => ⟨S2x16384x8x2x64, .f32⟩
  | 72 => ⟨S1x16384x1x1x32, .f32⟩
  | 73 => ⟨S1x16384x1x1x32, .f32⟩
  | 74 => ⟨S2x16384x8x2x32, .f32⟩
  | 75 => ⟨S2x16384x8x2x32, .f32⟩
  | 76 => ⟨S2x16384x8x2x32, .f32⟩
  | 77 => ⟨S2x16384x8x2x32, .f32⟩
  | 78 => ⟨S2x16384x8x2x32, .f32⟩
  | 79 => ⟨S2x16384x8x2x32, .f32⟩
  | 80 => ⟨S2x16384x8x2x32, .f32⟩
  | 81 => ⟨S2x16384x8x2x32, .f32⟩
  | 82 => ⟨S2x16384x8x2x32, .f32⟩
  | 83 => ⟨S2x16384x8x2x32, .f32⟩
  | 84 => ⟨S2x16384x8x2x32, .f32⟩
  | 85 => ⟨S2x16384x8x2x32, .f32⟩
  | 86 => ⟨S2x16384x8x1x2x32, .f32⟩
  | 87 => ⟨S2x16384x8x1x2x32, .f32⟩
  | 88 => ⟨S2x16384x8x2x2x32, .f32⟩
  | 89 => ⟨S2x16384x1024, .f32⟩
  | 90 => ⟨S2x16384x8x2x64, .f32⟩
  | 91 => ⟨S64, .f32⟩
  | 92 => ⟨S2x16384x8x2x64, .f32⟩
  | 93 => ⟨S_, .f32⟩
  | 94 => ⟨S2x16384x8x2, .f32⟩
  | 95 => ⟨S2x16384x8x2x1, .f32⟩
  | 96 => ⟨S_, .f32⟩
  | 97 => ⟨S2x16384x8x2x1, .f32⟩
  | 98 => ⟨S2x16384x8x2x1, .f32⟩
  | 99 => ⟨S_, .f32⟩
  | 100 => ⟨S2x16384x8x2x1, .f32⟩
  | 101 => ⟨S2x16384x8x2x1, .f32⟩
  | 102 => ⟨S2x16384x8x2x1, .f32⟩
  | 103 => ⟨S2x16384x8x2x64, .f32⟩
  | 104 => ⟨S2x16384x8x2x64, .f32⟩
  | 105 => ⟨S1x1x1x1x64, .f32⟩
  | 106 => ⟨S2x16384x8x2x64, .f32⟩
  | 107 => ⟨S2x16384x8x2x64, .f32⟩
  | 108 => ⟨S1x16384x1x1x32, .f32⟩
  | 109 => ⟨S1x16384x1x1x32, .f32⟩
  | 110 => ⟨S2x16384x8x2x32, .f32⟩
  | 111 => ⟨S2x16384x8x2x32, .f32⟩
  | 112 => ⟨S2x16384x8x2x32, .f32⟩
  | 113 => ⟨S2x16384x8x2x32, .f32⟩
  | 114 => ⟨S2x16384x8x2x32, .f32⟩
  | 115 => ⟨S2x16384x8x2x32, .f32⟩
  | 116 => ⟨S2x16384x8x2x32, .f32⟩
  | 117 => ⟨S2x16384x8x2x32, .f32⟩
  | 118 => ⟨S2x16384x8x2x32, .f32⟩
  | 119 => ⟨S2x16384x8x2x32, .f32⟩
  | 120 => ⟨S2x16384x8x2x32, .f32⟩
  | 121 => ⟨S2x16384x8x2x32, .f32⟩
  | 122 => ⟨S2x16384x8x1x2x32, .f32⟩
  | 123 => ⟨S2x16384x8x1x2x32, .f32⟩
  | 124 => ⟨S2x16384x8x2x2x32, .f32⟩
  | 125 => ⟨S2x16384x1024, .f32⟩
  | 126 => ⟨S2x32x512x1024, .f32⟩
  | 127 => ⟨S2x32x1024x512, .f32⟩
  | _ => ⟨S2x16384x1024, .f32⟩

abbrev hbmTy0_1 (i : Nat) : BufTy := match i % 128 with
  | 0 => ⟨S2x32x1024x512, .bf16⟩
  | 1 => ⟨S2x16384x1024, .bf16⟩
  | 2 => ⟨S2x32x512x1024, .f32⟩
  | 3 => ⟨S2x32x1024x512, .f32⟩
  | 4 => ⟨S2x32x1024x512, .bf16⟩
  | 5 => ⟨S2x16384x2048, .f32⟩
  | 6 => ⟨S2x16384x2048, .f32⟩
  | 7 => ⟨S_, .f32⟩
  | 8 => ⟨S2x16384x2048, .f32⟩
  | 9 => ⟨S2x16384x2048, .f32⟩
  | 10 => ⟨S_, .f32⟩
  | 11 => ⟨S2x16384x2048, .f32⟩
  | 12 => ⟨S2x16384x2048, .f32⟩
  | 13 => ⟨S2x16384x2048, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_cst_14 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩

abbrev nD : Nat := 1
abbrev τ : Topo := Topo.v7x

variable {F : FTy → Type} [FloatOps F]
-- ==== Proof.Steps.lean ====
/-
  The attention kernel's body as a sequence of named steps.

  The body works on key blocks of 512 rows. Per block and head it does two things: it puts the scores of both softmax
  components into a buffer (`scoresF`, and `scoresD` for the block on the diagonal, which leaves out the quarter the
  mask would clear), and it consumes such a buffer into the row sums and the accumulator (`consumeF`, `consumeD`). This
  file names those steps as programs and shows that the printed loop body, and each branch of the printed
  conditional, is a sequence of them.
-/
module

public import proofs.«01_k».proof.Proof.Gen.KernelIdeal.Frame
public import proofs.«01_k».proof.Proof.Gen.KernelIdeal.Skeleton

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F]

/-- A program of the kernel's core. -/
abbrev TP (F : FTy → Type) [FloatOps F] (α : Type) : Type 1 := Prog (TpuEff nD τ sig (Elt F) Λ₀ .tc) α

abbrev BufT : Type := Memref sig .tc .vmem S2x512x512 .f32
abbrev AccT : Type := Memref sig .tc .vmem S2x2x128x512 .f32
abbrev KT : Type := Memref sig .tc .vmem S1x16384x256 .bf16
abbrev VT : Type := Memref sig .tc .vmem S1x32x256x512 .bf16

/-! ## The rectangles of the scratch buffers -/

theorem bufIn (c : Fin 2) : ∀ a, (![c.val, 0, 0] : Fin 3 → ℕ) a + S1x512x512.size a ≤ S2x512x512.size a := by
  revert c; decide
theorem bufLoIn (c : Fin 2) : ∀ a, (![c.val, 0, 0] : Fin 3 → ℕ) a + S1x256x512.size a ≤ S2x512x512.size a := by
  revert c; decide
theorem bufHiIn (c : Fin 2) : ∀ a, (![c.val, 256, 256] : Fin 3 → ℕ) a + S1x256x256.size a ≤ S2x512x512.size a := by
  revert c; decide
theorem accIn (s c : Fin 2) : ∀ a, (![s.val, c.val, 0, 0] : Fin 4 → ℕ) a + S1x1x128x512.size a ≤ S2x2x128x512.size a := by
  revert s c; decide
theorem accHiIn (s c : Fin 2) : ∀ a, (![s.val, c.val, 0, 256] : Fin 4 → ℕ) a + S1x1x128x256.size a ≤ S2x2x128x512.size a := by
  revert s c; decide

/-- Component `c` of a score buffer: whole, its upper half, its lower right quarter. -/
abbrev bufR (c : Fin 2) : Rect S2x512x512 := Rect.unit (s := S2x512x512) ![c.val, 0, 0] S1x512x512.size (bufIn c)
abbrev bufLo (c : Fin 2) : Rect S2x512x512 := Rect.unit (s := S2x512x512) ![c.val, 0, 0] S1x256x512.size (bufLoIn c)
abbrev bufHi (c : Fin 2) : Rect S2x512x512 := Rect.unit (s := S2x512x512) ![c.val, 256, 256] S1x256x256.size (bufHiIn c)
/-- Head `s`, component `c` of the accumulator: whole, and its right half. -/
abbrev accR (s c : Fin 2) : Rect S2x2x128x512 := Rect.unit (s := S2x2x128x512) ![s.val, c.val, 0, 0] S1x1x128x512.size (accIn s c)
abbrev accHi (s c : Fin 2) : Rect S2x2x128x512 := Rect.unit (s := S2x2x128x512) ![s.val, c.val, 0, 256] S1x1x128x256.size (accHiIn s c)

/-! ## The values a step computes -/

/-- The scores of one component: keys by queries. -/
def dotF (K : FVec F S512x128 .bf16) (q : FVec F S128x512 .bf16) : FVec F S512x512 .f32 :=
  matmul dot_S512x128_S128x512_S512x512_1_0_0_1_n_n none K q (constant S512x512 .f32 0x00000000#32)
/-- The upper half of the diagonal block's scores. -/
def dotLo (K : FVec F S512x128 .bf16) (q : FVec F S128x512 .bf16) : FVec F S256x512 .f32 :=
  matmul dot_S256x128_S128x512_S256x512_1_0_0_1_n_n none (extractStridedSlice S256x128 ![0, 0] K slices_S512x128_o0_0_S256x128) q
    (constant S256x512 .f32 0x00000000#32)
/-- The lower right quarter of the diagonal block's scores. -/
def dotHi (K : FVec F S512x128 .bf16) (q : FVec F S128x512 .bf16) : FVec F S256x256 .f32 :=
  matmul dot_S256x128_S128x256_S256x256_1_0_0_1_n_n none (extractStridedSlice S256x128 ![256, 0] K slices_S512x128_o256_0_S256x128)
    (extractStridedSlice S128x256 ![0, 256] q slices_S128x512_o0_256_S128x256) (constant S256x256 .f32 0x00000000#32)

/-- A block's row sums, folded to eight rows. -/
def sumF (Z : FVec F S512x512 .f32) : FVec F S8x512 .f32 :=
  multiReduction .add [0] S8x512 (shapeCast S64x8x512 (exp2 Z) shapeCasts_S512x512_S64x8x512) 0x00000000#32
    reduces_S64x8x512_S8x512 (.inl rfl) rfl
/-- A block's product with the values. -/
def pvF (v : FVec F S128x512 .bf16) (Z : FVec F S512x512 .f32) : FVec F S128x512 .f32 :=
  matmul dot_S128x512_S512x512_S128x512_1_0_0_1_n_n none v (truncf .bf16 (exp2 Z) bitsLt_bf16_f32)
    (constant S128x512 .f32 0x00000000#32)

/-- The masked weights of the diagonal block's two parts. -/
def pLo (Z : FVec F S256x512 .f32) : FVec F S256x512 .f32 :=
  select (cmpi .sle (iota .tc S256x512 32 [0] iota_S256x512_d0_w32) (iota .tc S256x512 32 [1] iota_S256x512_d1_w32)) (exp2 Z)
    (broadcast S256x512 (Scalar.ofBits .f32 0x00000000#32))
def pHi (Z : FVec F S256x256 .f32) : FVec F S256x256 .f32 :=
  select (cmpi .sle (iota .tc S256x256 32 [0] iota_S256x256_d0_w32) (iota .tc S256x256 32 [1] iota_S256x256_d1_w32)) (exp2 Z)
    (broadcast S256x256 (Scalar.ofBits .f32 0x00000000#32))
def sumLo (Z : FVec F S256x512 .f32) : FVec F S8x512 .f32 :=
  multiReduction .add [0] S8x512 (shapeCast S32x8x512 (pLo Z) shapeCasts_S256x512_S32x8x512) 0x00000000#32
    reduces_S32x8x512_S8x512 (.inl rfl) rfl
def sumHi (Z : FVec F S256x256 .f32) : FVec F S8x512 .f32 :=
  concatenate S8x512 1 [⟨S8x256, broadcast S8x256 (Scalar.ofBits (F := F) .f32 0x00000000#32)⟩,
    ⟨S8x256, multiReduction .add [0] S8x256 (shapeCast S32x8x256 (pHi Z) shapeCasts_S256x256_S32x8x256) 0x00000000#32
      reduces_S32x8x256_S8x256 (.inl rfl) rfl⟩] concatenates_S8x256_S8x256_S8x512_d1
def pvLo (v : FVec F S128x512 .bf16) (Z : FVec F S256x512 .f32) : FVec F S128x512 .f32 :=
  matmul dot_S128x256_S256x512_S128x512_1_0_0_1_n_n none (extractStridedSlice S128x256 ![0, 0] v slices_S128x512_o0_0_S128x256)
    (truncf .bf16 (pLo Z) bitsLt_bf16_f32) (constant S128x512 .f32 0x00000000#32)
def pvHi (v : FVec F S128x512 .bf16) (Z : FVec F S256x256 .f32) : FVec F S128x256 .f32 :=
  matmul dot_S128x256_S256x256_S128x256_1_0_0_1_n_n none (extractStridedSlice S128x256 ![0, 256] v slices_S128x512_o0_256_S128x256)
    (truncf .bf16 (pHi Z) bitsLt_bf16_f32) (constant S128x256 .f32 0x00000000#32)

/-! ## The steps -/

/-- Puts `Z` into component `c` of a score buffer. -/
def putF (b : BufT) (c : Fin 2) (Z : FVec F S512x512 .f32) : TP F PUnit := do
  let _v : Vec F S1x512x512 .f32 ← Prog.lift (.load b (bufR c).toLoadRect (View.loadsAt_vmem h_S1x512x512))
  Prog.lift (.store b (bufR c) (shapeCast S1x512x512 Z shapeCasts_S512x512_S1x512x512) Finset.univ (View.stores_vmem_bits_univ h_S1x512x512 rfl) (.inl rfl))
def putLo (b : BufT) (c : Fin 2) (Z : FVec F S256x512 .f32) : TP F PUnit := do
  let _v : Vec F S1x256x512 .f32 ← Prog.lift (.load b (bufLo c).toLoadRect (View.loadsAt_vmem h_S1x256x512))
  Prog.lift (.store b (bufLo c) (shapeCast S1x256x512 Z shapeCasts_S256x512_S1x256x512) Finset.univ (View.stores_vmem_bits_univ h_S1x256x512 rfl) (.inl rfl))
def putHi (b : BufT) (c : Fin 2) (Z : FVec F S256x256 .f32) : TP F PUnit := do
  let _v : Vec F S1x256x256 .f32 ← Prog.lift (.load b (bufHi c).toLoadRect (View.loadsAt_vmem h_S1x256x256))
  Prog.lift (.store b (bufHi c) (shapeCast S1x256x256 Z shapeCasts_S256x256_S1x256x256) Finset.univ (View.stores_vmem_bits_univ h_S1x256x256 rfl) (.inl rfl))

/-- A block of keys, and a block of values, of one head. -/
def getK (a5 : KT) (o : Fin 3 → ℕ) (ho : ∀ a, o a + S1x512x128.size a ≤ S1x16384x256.size a) : TP F (FVec F S512x128 .bf16) := do
  let v : Vec F S1x512x128 .bf16 ← Prog.lift (.load a5 (Rect.unit (s := S1x16384x256) o S1x512x128.size ho).toLoadRect (View.loadsAt_vmem h_S1x512x128))
  pure (shapeCast S512x128 v shapeCasts_S1x512x128_S512x128)
def getV (a6 : VT) (o : Fin 4 → ℕ) (ho : ∀ a, o a + S1x1x128x512.size a ≤ S1x32x256x512.size a) : TP F (FVec F S128x512 .bf16) := do
  let v : Vec F S1x1x128x512 .bf16 ← Prog.lift (.load a6 (Rect.unit (s := S1x32x256x512) o S1x1x128x512.size ho).toLoadRect (View.loadsAt_vmem h_S1x1x128x512))
  pure (shapeCast S128x512 v shapeCasts_S1x1x128x512_S128x512)

/-- Both components' scores of a block into a buffer. -/
def scoresF (b : BufT) (K : FVec F S512x128 .bf16) (q0 q1 : FVec F S128x512 .bf16) : TP F PUnit := do
  putF b 0 (dotF K q0)
  putF b 1 (dotF K q1)
def scoresD (b : BufT) (K : FVec F S512x128 .bf16) (q0 q1 : FVec F S128x512 .bf16) : TP F PUnit := do
  putLo b 0 (dotLo K q0)
  putHi b 0 (dotHi K q0)
  putLo b 1 (dotLo K q1)
  putHi b 1 (dotHi K q1)

/-- Adds to the accumulator of head `s`, component `c`. -/
def addAcc (a9 : AccT) (s c : Fin 2) (d : FVec F S128x512 .f32) : TP F PUnit := do
  let v : Vec F S1x1x128x512 .f32 ← Prog.lift (.load a9 (accR s c).toLoadRect (View.loadsAt_vmem h_S1x1x128x512))
  let _w : Vec F S1x1x128x512 .f32 ← Prog.lift (.load a9 (accR s c).toLoadRect (View.loadsAt_vmem h_S1x1x128x512))
  Prog.lift (.store a9 (accR s c) (shapeCast S1x1x128x512 (addf (shapeCast S128x512 v shapeCasts_S1x1x128x512_S128x512) d) shapeCasts_S128x512_S1x1x128x512)
    Finset.univ (View.stores_vmem_bits_univ h_S1x1x128x512 rfl) (.inl rfl))
/-- Adds to its right half. -/
def addHi (a9 : AccT) (s c : Fin 2) (d : FVec F S128x256 .f32) : TP F PUnit := do
  let v : Vec F S1x1x128x256 .f32 ← Prog.lift (.load a9 (accHi s c).toLoadRect (View.loadsAt_vmem h_S1x1x128x256))
  let _w : Vec F S1x1x128x256 .f32 ← Prog.lift (.load a9 (accHi s c).toLoadRect (View.loadsAt_vmem h_S1x1x128x256))
  Prog.lift (.store a9 (accHi s c) (shapeCast S1x1x128x256 (addf (shapeCast S128x256 v shapeCasts_S1x1x128x256_S128x256) d) shapeCasts_S128x256_S1x1x128x256)
    Finset.univ (View.stores_vmem_bits_univ h_S1x1x128x256 rfl) (.inl rfl))

/-- One component of a buffer into its row sums and accumulator. -/
def consF1 (a9 : AccT) (b : BufT) (s c : Fin 2) (v : FVec F S128x512 .bf16) (l : FVec F S8x512 .f32) : TP F (FVec F S8x512 .f32) := do
  let z : Vec F S1x512x512 .f32 ← Prog.lift (.load b (bufR c).toLoadRect (View.loadsAt_vmem h_S1x512x512))
  addAcc a9 s c (pvF v (shapeCast S512x512 z shapeCasts_S1x512x512_S512x512))
  pure (addf l (sumF (shapeCast S512x512 z shapeCasts_S1x512x512_S512x512)))
def consD1 (a9 : AccT) (b : BufT) (s c : Fin 2) (v : FVec F S128x512 .bf16) (l : FVec F S8x512 .f32) : TP F (FVec F S8x512 .f32) := do
  let z : Vec F S1x256x512 .f32 ← Prog.lift (.load b (bufLo c).toLoadRect (View.loadsAt_vmem h_S1x256x512))
  let y : Vec F S1x256x256 .f32 ← Prog.lift (.load b (bufHi c).toLoadRect (View.loadsAt_vmem h_S1x256x256))
  addAcc a9 s c (pvLo v (shapeCast S256x512 z shapeCasts_S1x256x512_S256x512))
  addHi a9 s c (pvHi v (shapeCast S256x256 y shapeCasts_S1x256x256_S256x256))
  pure (addf (addf l (sumLo (shapeCast S256x512 z shapeCasts_S1x256x512_S256x512)))
    (sumHi (shapeCast S256x256 y shapeCasts_S1x256x256_S256x256)))

def consumeF (a9 : AccT) (b : BufT) (s : Fin 2) (v : FVec F S128x512 .bf16) (l0 l1 : FVec F S8x512 .f32) :
    TP F (FVec F S8x512 .f32 × FVec F S8x512 .f32) := do
  let x ← consF1 a9 b s 0 v l0
  let y ← consF1 a9 b s 1 v l1
  pure (x, y)
def consumeD (a9 : AccT) (b : BufT) (s : Fin 2) (v : FVec F S128x512 .bf16) (l0 l1 : FVec F S8x512 .f32) :
    TP F (FVec F S8x512 .f32 × FVec F S8x512 .f32) := do
  let x ← consD1 a9 b s 0 v l0
  let y ← consD1 a9 b s 1 v l1
  pure (x, y)

/-- The four row sums: head 0's two components, then head 1's. -/
abbrev Sums (F : FTy → Type) [FloatOps F] : Type := FVec F S8x512 .f32 × FVec F S8x512 .f32 × FVec F S8x512 .f32 × FVec F S8x512 .f32

/-- One full block, the next block's head 0 scores put by `next`. -/
def block (a5 : KT) (a6 : VT) (a9 : AccT) (a10 a11 : BufT) (next : BufT → FVec F S512x128 .bf16 → TP F PUnit)
    (o1 : Fin 3 → ℕ) (h1 : ∀ a, o1 a + S1x512x128.size a ≤ S1x16384x256.size a)
    (o2 : Fin 4 → ℕ) (h2 : ∀ a, o2 a + S1x1x128x512.size a ≤ S1x32x256x512.size a)
    (o3 : Fin 3 → ℕ) (h3 : ∀ a, o3 a + S1x512x128.size a ≤ S1x16384x256.size a)
    (o4 : Fin 4 → ℕ) (h4 : ∀ a, o4 a + S1x1x128x512.size a ≤ S1x32x256x512.size a)
    (q10 q11 : FVec F S128x512 .bf16) (l : Sums F) : TP F (Sums F) := do
  let K1 ← getK a5 o1 h1
  scoresF a11 K1 q10 q11
  let V0 ← getV a6 o2 h2
  let x ← consumeF a9 a10 0 V0 l.1 l.2.1
  let K0 ← getK a5 o3 h3
  next a10 K0
  let V1 ← getV a6 o4 h4
  let y ← consumeF a9 a11 1 V1 l.2.2.1 l.2.2.2
  pure (x.1, x.2, y.1, y.2)

/-- The diagonal block. -/
def diag (a5 : KT) (a6 : VT) (a9 : AccT) (a10 a11 : BufT)
    (o1 : Fin 3 → ℕ) (h1 : ∀ a, o1 a + S1x512x128.size a ≤ S1x16384x256.size a)
    (o2 : Fin 4 → ℕ) (h2 : ∀ a, o2 a + S1x1x128x512.size a ≤ S1x32x256x512.size a)
    (o4 : Fin 4 → ℕ) (h4 : ∀ a, o4 a + S1x1x128x512.size a ≤ S1x32x256x512.size a)
    (q10 q11 : FVec F S128x512 .bf16) (l : Sums F) : TP F (Sums F) := do
  let K1 ← getK a5 o1 h1
  scoresD a11 K1 q10 q11
  let V0 ← getV a6 o2 h2
  let x ← consumeD a9 a10 0 V0 l.1 l.2.1
  let V1 ← getV a6 o4 h4
  let y ← consumeD a9 a11 1 V1 l.2.2.1 l.2.2.2
  pure (x.1, x.2, y.1, y.2)

/-- A trip of the main loop: four full blocks. -/
def trip (i : grid0.Coords) (a5 : KT) (a6 : VT) (a9 : AccT) (a10 a11 : BufT) (q00 q01 q10 q11 : FVec F S128x512 .bf16)
    (k : Fin (k0_t1_loop i).trips) (l : Sums F) : TP F (Sums F) := do
  let l ← block a5 a6 a9 a10 a11 (fun b K => scoresF b K q00 q01) (k0_off1 i k 0#32) (k0_off1_inb i k 0) (k0_off2 i k 0#32) (k0_off2_inb i k 0)
    (k0_off3 i k 1#32) (k0_off3_inb i k 0) (k0_off4 i k 0#32) (k0_off4_inb i k 0) q10 q11 l
  let l ← block a5 a6 a9 a10 a11 (fun b K => scoresF b K q00 q01) (k0_off1 i k 1#32) (k0_off1_inb i k 1) (k0_off2 i k 1#32) (k0_off2_inb i k 1)
    (k0_off3 i k 2#32) (k0_off3_inb i k 1) (k0_off4 i k 1#32) (k0_off4_inb i k 1) q10 q11 l
  let l ← block a5 a6 a9 a10 a11 (fun b K => scoresF b K q00 q01) (k0_off1 i k 2#32) (k0_off1_inb i k 2) (k0_off2 i k 2#32) (k0_off2_inb i k 2)
    (k0_off3 i k 3#32) (k0_off3_inb i k 2) (k0_off4 i k 2#32) (k0_off4_inb i k 2) q10 q11 l
  block a5 a6 a9 a10 a11 (fun b K => scoresF b K q00 q01) (k0_off1 i k 3#32) (k0_off1_inb i k 3) (k0_off2 i k 3#32) (k0_off2_inb i k 3)
    (k0_off3 i k 4#32) (k0_off3_inb i k 3) (k0_off4 i k 3#32) (k0_off4_inb i k 3) q10 q11 l

set_option maxHeartbeats 4000000 in
theorem t1_eq (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole) (arg2 : BitVec 32)
    (v46 v47 v94 v95 : FVec F S128x512 .bf16) (c4 v112 v114 v116 : BitVec 32) :
    k0_t1_body i arg3 harg3 arg4 harg4 arg5 harg5 arg6 harg6 arg7 harg7 arg8 harg8 arg9 harg9 arg10 harg10 arg11 harg11
      arg2 v46 v47 v94 v95 c4 v112 v114 v116
    = trip i arg5 arg6 arg9 arg10 arg11 v46 v47 v94 v95 := rfl

end Cert.Attn

end
-- ==== Proof.Body.lean ====
/-
  The whole attention kernel as its named steps: the queries' two softmax components, the first block's scores, the main
  loop, the remainder by cases (the `lax.switch`), the diagonal block, and the two heads' epilogues.
-/
module

public import proofs.«01_k».proof.Proof.Steps

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F]

/-! ## The queries' components -/

/-- The lane group of each row: the row's number over 32, rounded down. -/
def laneGroup : IVec S128x512 32 :=
  let r := iota .tc S128x512 32 [0] iota_S128x512_d0_w32
  let d := divsi r (broadcast S128x512 32#32)
  let sg := subi (extui 32 (cmpi .sgt r (broadcast S128x512 0#32)) natLt_1_32) (extui 32 (cmpi .slt r (broadcast S128x512 0#32)) natLt_1_32)
  let neg := cmpi .ne sg (broadcast S128x512 (Scalar.subi (Scalar.extui (Scalar.cmpi .sgt 32#32 0#32)) (Scalar.extui (Scalar.cmpi .slt 32#32 0#32))))
  let frac := cmpi .ne (remsi r (broadcast S128x512 32#32)) (broadcast S128x512 0#32)
  select (andi neg frac) (subi d (broadcast S128x512 1#32)) d

/-- Where a row belongs to component 0: its lane group is even. -/
def comp0 : IVec S128x512 1 :=
  let two : BitVec 32 := Scalar.select (Scalar.cmpi .eq 2#32 0#32) 1#32 2#32
  let m := remsi laneGroup (broadcast S128x512 two)
  let nz := cmpi .ne m (broadcast S128x512 0#32)
  let sgn := xori (cmpi .slt m (broadcast S128x512 0#32)) (broadcastTo S128x512 (broadcast S128x512 (Scalar.cmpi .slt two 0#32)) broadcasts_S128x512_S128x512)
  cmpi .eq (select (andi sgn nz) (addi m (broadcast S128x512 two)) m) (broadcast S128x512 0#32)

/-- A head's queries with the other component's rows cleared. -/
def qc0 (q : FVec F S128x512 .bf16) : FVec F S128x512 .bf16 := select comp0 q (broadcast S128x512 (Scalar.ofBits .bf16 0x0000#16))
def qc1 (q : FVec F S128x512 .bf16) : FVec F S128x512 .bf16 := select comp0 (broadcast S128x512 (Scalar.ofBits .bf16 0x0000#16)) q

/-! ## The epilogue's values -/

/-- The eight folded rows of a row sum, added. -/
def total (l : FVec F S8x512 .f32) : FVec F S1x512 .f32 :=
  shapeCast S1x512 (multiReduction .add [0] S512 l 0x00000000#32 reduces_S8x512_S512 (.inl rfl) rfl) shapeCasts_S512_S1x512

/-- An accumulator over its row sums. -/
def normed (a : FVec F S128x512 .f32) (l : FVec F S1x512 .f32) : FVec F S128x512 .f32 :=
  mulf a (broadcastTo S128x512 (divf (broadcast S1x512 (Scalar.ofBits .f32 0x3F800000#32)) l) broadcasts_S1x512_S128x512)

/-- The two components' difference. -/
def differ (lam : Elt F .f32) (a0 a1 : FVec F S128x512 .f32) (l0 l1 : FVec F S1x512 .f32) : FVec F S128x512 .f32 :=
  subf (normed a0 l0) (mulf (broadcast S128x512 lam) (normed a1 l1))

/-- The root mean square's inverse. -/
def rinv (x : FVec F S128x512 .f32) : FVec F S1x512 .f32 :=
  rsqrt (addf (divf (shapeCast S1x512 (multiReduction .add [0] S512 (mulf x x) 0x00000000#32 reduces_S128x512_S512 (.inl rfl) rfl) shapeCasts_S512_S1x512)
    (broadcast S1x512 (Scalar.ofBits .f32 0x43000000#32))) (broadcast S1x512 (Scalar.ofBits .f32 0x358637BD#32)))

/-- One head's result block. -/
def finish (lam : Elt F .f32) (g : Vec F S128x1 .f32) (a0 a1 : FVec F S128x512 .f32) (l0 l1 : FVec F S1x512 .f32) : FVec F S1x512x128 .bf16 :=
  let x := differ lam a0 a1 l0 l1
  let y := mulf (mulf (mulf x (broadcastTo S128x512 (rinv x) broadcasts_S1x512_S128x512))
    (broadcastTo S128x512 (shapeCast S128x1 g shapeCasts_S128x1_S128x1) broadcasts_S128x1_S128x512)) (broadcast S128x512 (Scalar.ofBits .f32 0x3F4CCCCD#32))
  shapeCast S1x512x128 (truncf .bf16 (transpose S512x128 [1, 0] y transposes_S128x512_p1_0_S512x128) bitsLt_bf16_f32) shapeCasts_S512x128_S1x512x128

/-! ## The remainder -/

section
variable (i : grid0.Coords) (a5 : KT) (a6 : VT) (a9 : AccT) (a10 a11 : BufT) (q00 q01 q10 q11 : FVec F S128x512 .bf16)

/-- Three full blocks, then the diagonal. -/
def tail3 (h1 : k0_cond1 i = 1#1) (h2 : k0_cond2 i = 1#1) (h3 : k0_cond3 i = 1#1) (l : Sums F) : TP F (Sums F) := do
  let l ← block a5 a6 a9 a10 a11 (fun b K => scoresF b K q00 q01) (k0_off9 i 0#32) (k0_off9_inb i h1 h2 h3 0) (k0_off10 i 0#32) (k0_off10_inb i h1 h2 h3 0)
    (k0_off11 i 1#32) (k0_off11_inb i h1 h2 h3 0) (k0_off12 i 0#32) (k0_off12_inb i h1 h2 h3 0) q10 q11 l
  let l ← block a5 a6 a9 a10 a11 (fun b K => scoresF b K q00 q01) (k0_off9 i 1#32) (k0_off9_inb i h1 h2 h3 1) (k0_off10 i 1#32) (k0_off10_inb i h1 h2 h3 1)
    (k0_off11 i 2#32) (k0_off11_inb i h1 h2 h3 1) (k0_off12 i 1#32) (k0_off12_inb i h1 h2 h3 1) q10 q11 l
  let l ← block a5 a6 a9 a10 a11 (fun b K => scoresD b K q00 q01) (k0_off9 i 2#32) (k0_off9_inb i h1 h2 h3 2) (k0_off10 i 2#32) (k0_off10_inb i h1 h2 h3 2)
    (k0_off11 i 3#32) (k0_off11_inb i h1 h2 h3 2) (k0_off12 i 2#32) (k0_off12_inb i h1 h2 h3 2) q10 q11 l
  diag a5 a6 a9 a10 a11 (k0_off9 i 3#32) (k0_off9_inb i h1 h2 h3 3) (k0_off10 i 3#32) (k0_off10_inb i h1 h2 h3 3) (k0_off12 i 3#32)
    (k0_off12_inb i h1 h2 h3 3) q10 q11 l
/-- Two. -/
def tail2 (h1 : k0_cond1 i = 1#1) (h2 : k0_cond2 i = 1#1) (h3 : ¬k0_cond3 i = 1#1) (l : Sums F) : TP F (Sums F) := do
  let l ← block a5 a6 a9 a10 a11 (fun b K => scoresF b K q00 q01) (k0_off13 i 0#32) (k0_off13_inb i h1 h2 h3 0) (k0_off14 i 0#32) (k0_off14_inb i h1 h2 h3 0)
    (k0_off15 i 1#32) (k0_off15_inb i h1 h2 h3 0) (k0_off16 i 0#32) (k0_off16_inb i h1 h2 h3 0) q10 q11 l
  let l ← block a5 a6 a9 a10 a11 (fun b K => scoresD b K q00 q01) (k0_off13 i 1#32) (k0_off13_inb i h1 h2 h3 1) (k0_off14 i 1#32) (k0_off14_inb i h1 h2 h3 1)
    (k0_off15 i 2#32) (k0_off15_inb i h1 h2 h3 1) (k0_off16 i 1#32) (k0_off16_inb i h1 h2 h3 1) q10 q11 l
  diag a5 a6 a9 a10 a11 (k0_off13 i 2#32) (k0_off13_inb i h1 h2 h3 2) (k0_off14 i 2#32) (k0_off14_inb i h1 h2 h3 2) (k0_off16 i 2#32)
    (k0_off16_inb i h1 h2 h3 2) q10 q11 l
/-- One. -/
def tail1 (h1 : k0_cond1 i = 1#1) (h2 : ¬k0_cond2 i = 1#1) (l : Sums F) : TP F (Sums F) := do
  let l ← block a5 a6 a9 a10 a11 (fun b K => scoresD b K q00 q01) (k0_off17 i 0#32) (k0_off17_inb i h1 h2 0) (k0_off18 i 0#32) (k0_off18_inb i h1 h2 0)
    (k0_off19 i) (k0_off19_inb i h1 h2) (k0_off20 i 0#32) (k0_off20_inb i h1 h2 0) q10 q11 l
  diag a5 a6 a9 a10 a11 (k0_off17 i 1#32) (k0_off17_inb i h1 h2 1) (k0_off18 i 1#32) (k0_off18_inb i h1 h2 1) (k0_off20 i 1#32)
    (k0_off20_inb i h1 h2 1) q10 q11 l
/-- None. -/
def tail0 (h1 : ¬k0_cond1 i = 1#1) (l : Sums F) : TP F (Sums F) :=
  diag a5 a6 a9 a10 a11 (k0_off21 i) (k0_off21_inb i h1) (k0_off22 i) (k0_off22_inb i h1) (k0_off23 i) (k0_off23_inb i h1) q10 q11 l

/-- The printed conditional. -/
def tails (l : Sums F) : TP F (Sums F) :=
  if h1 : k0_cond1 i = 1#1 then
    (if h2 : k0_cond2 i = 1#1 then
      (if h3 : k0_cond3 i = 1#1 then tail3 i a5 a6 a9 a10 a11 q00 q01 q10 q11 h1 h2 h3 l
        else tail2 i a5 a6 a9 a10 a11 q00 q01 q10 q11 h1 h2 h3 l)
      else tail1 i a5 a6 a9 a10 a11 q00 q01 q10 q11 h1 h2 l)
    else tail0 i a5 a6 a9 a10 a11 q10 q11 h1 l

/-- The conditional with what follows it in each branch, as it is printed. -/
def tailsK {β : Type} (l : Sums F) (k : Sums F → TP F β) : TP F β :=
  if h1 : k0_cond1 i = 1#1 then
    (if h2 : k0_cond2 i = 1#1 then
      (if h3 : k0_cond3 i = 1#1 then tail3 i a5 a6 a9 a10 a11 q00 q01 q10 q11 h1 h2 h3 l >>= k
        else tail2 i a5 a6 a9 a10 a11 q00 q01 q10 q11 h1 h2 h3 l >>= k)
      else tail1 i a5 a6 a9 a10 a11 q00 q01 q10 q11 h1 h2 l >>= k)
    else tail0 i a5 a6 a9 a10 a11 q10 q11 h1 l >>= k

theorem tailsK_eq {β : Type} (l : Sums F) (k : Sums F → TP F β) :
    tailsK i a5 a6 a9 a10 a11 q00 q01 q10 q11 l k = tails i a5 a6 a9 a10 a11 q00 q01 q10 q11 l >>= k := by
  unfold tailsK tails
  split
  · split
    · split <;> rfl
    · rfl
  · rfl
end

/-- The number of the main loop's trips as the program computes it, where its remainder loop starts. -/
def loopEnd (i : grid0.Coords) : BitVec 32 :=
  let n : BitVec 32 := BitVec.ofNat 32 (i 2).val
  let sg := Scalar.subi (Scalar.extui (Scalar.cmpi .sgt n 0#32)) (Scalar.extui (Scalar.cmpi .slt n 0#32))
  let s4 := Scalar.subi (Scalar.extui (Scalar.cmpi .sgt 4#32 0#32)) (Scalar.extui (Scalar.cmpi .slt 4#32 0#32))
  let q := Scalar.divsi n 4#32
  let f := Scalar.select (Scalar.andi (Scalar.cmpi .ne sg s4) (Scalar.cmpi .ne (Scalar.remsi n 4#32) 0#32)) (Scalar.subi q 1#32) q
  Scalar.addi 0#32 (Scalar.muli (Scalar.divsi (Scalar.subi f 0#32) 1#32) 1#32)

/-- One component of the accumulator. -/
def getAcc (a9 : AccT) (s c : Fin 2) : TP F (FVec F S128x512 .f32) := do
  let v : Vec F S1x1x128x512 .f32 ← Prog.lift (.load a9 (accR s c).toLoadRect (View.loadsAt_vmem h_S1x1x128x512))
  pure (shapeCast S128x512 v shapeCasts_S1x1x128x512_S128x512)

/-- What the middle part leaves: the four row sums and the first accumulator. -/
abbrev Mid (F : FTy → Type) [FloatOps F] : Type :=
  Σ' (_ : FVec F S1x512 .f32) (_ : FVec F S1x512 .f32) (_ : FVec F S1x512 .f32) (_ : FVec F S1x512 .f32), FVec F S128x512 .f32

/-- The main loop, the printed remainder loop (no trip), the remainder by cases, and the first accumulator read. -/
def mid (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole)
    (q00 q01 q10 q11 : FVec F S128x512 .bf16) : TP F (Mid F) := do
  let l ← Scf.Loop.for (k0_t1_loop i) (k0_t1_ok i) ((broadcast S8x512 (Scalar.ofBits .f32 0x00000000#32), broadcast S8x512 (Scalar.ofBits .f32 0x00000000#32), broadcast S8x512 (Scalar.ofBits .f32 0x00000000#32), broadcast S8x512 (Scalar.ofBits .f32 0x00000000#32)) : Sums F)
    (trip i arg5 arg6 arg9 arg10 arg11 q00 q01 q10 q11)
  let l ← Scf.Loop.for (k0_t2_loop i) (k0_t2_ok i) l
    (k0_t2_body i arg3 harg3 arg4 harg4 arg5 harg5 arg6 harg6 arg7 harg7 arg8 harg8 arg9 harg9 arg10 harg10 arg11 harg11
      (BitVec.ofNat 32 (i 2).val) q00 q01 q10 q11 4#32 (Scalar.divsi (BitVec.ofNat 32 (i 2).val) 4#32)
      (Scalar.extui (Scalar.cmpi .sgt (BitVec.ofNat 32 (i 2).val) 0#32)) (Scalar.extui (Scalar.cmpi .slt (BitVec.ofNat 32 (i 2).val) 0#32)) (loopEnd i))
  let l ← tails i arg5 arg6 arg9 arg10 arg11 q00 q01 q10 q11 l
  let a00 ← getAcc arg9 0 0
  pure ⟨total l.1, total l.2.1, total l.2.2.1, total l.2.2.2, a00⟩

theorem bindc {α β : Type} {x y : TP F α} {f g : α → TP F β} (h : x = y) (k : ∀ a, f a = g a) : (x >>= f) = (y >>= g) := by
  rw [h, funext k]

set_option maxHeartbeats 4000000 in
theorem mid_eq (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole)
    (q00 q01 q10 q11 : FVec F S128x512 .bf16) :
    k0_part70 (F := F) i arg3 harg3 arg4 harg4 arg5 harg5 arg6 harg6 arg7 harg7 arg8 harg8 arg9 harg9 arg10 harg10 arg11 harg11 (BitVec.ofNat 32 (i 2).val) q00 q01 q10 q11 4#32 (Scalar.divsi (BitVec.ofNat 32 (i 2).val) 4#32)
      (Scalar.extui (Scalar.cmpi .sgt (BitVec.ofNat 32 (i 2).val) 0#32)) (Scalar.extui (Scalar.cmpi .slt (BitVec.ofNat 32 (i 2).val) 0#32))
    = mid i arg3 harg3 arg4 harg4 arg5 harg5 arg6 harg6 arg7 harg7 arg8 harg8 arg9 harg9 arg10 harg10 arg11 harg11 q00 q01 q10 q11 := by
  rw [k0_part70_eq_skeleton]
  unfold k0_part70_skel mid
  refine bindc (F := F) ?_ (fun l => ?_)
  · rw [t1_eq]; rfl
  obtain ⟨l0, l1, l2, l3⟩ := l
  refine bindc (F := F) ?_ (fun l => ?_)
  · rfl
  obtain ⟨l0, l1, l2, l3⟩ := l
  rw [← tailsK_eq]
  unfold tailsK
  rfl

/-- The structured kernel with its middle part given. -/
def bodyOf (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole)
    (mid : FVec F S128x512 .bf16 → FVec F S128x512 .bf16 → FVec F S128x512 .bf16 → FVec F S128x512 .bf16 → TP F (Mid F)) : TP F PUnit := do
  let q0 : Vec F S1x1x128x512 .bf16 ← Prog.lift (.load arg4 (Rect.unit (s := S1x1x256x512) ![0, 0, 0, 0] S1x1x128x512.size inb_S1x1x256x512_S1x1x128x512_0_0_0_0).toLoadRect (View.loadsAt_vmem h_S1x1x128x512))
  let q1 : Vec F S1x1x128x512 .bf16 ← Prog.lift (.load arg4 (Rect.unit (s := S1x1x256x512) ![0, 0, 128, 0] S1x1x128x512.size inb_S1x1x256x512_S1x1x128x512_0_0_128_0).toLoadRect (View.loadsAt_vmem h_S1x1x128x512))
  let _z : Vec F S2x2x128x512 .f32 ← Prog.lift (.load arg9 (Rect.unit (s := S2x2x128x512) ![0, 0, 0, 0] S2x2x128x512.size inb_S2x2x128x512_S2x2x128x512_0_0_0_0).toLoadRect (View.loadsAt_vmem h_S2x2x128x512))
  Prog.lift (.store arg9 (Rect.unit (s := S2x2x128x512) ![0, 0, 0, 0] S2x2x128x512.size inb_S2x2x128x512_S2x2x128x512_0_0_0_0) (shapeCast S2x2x128x512 (broadcast S2x2x128x512 (Scalar.ofBits (F := F) .f32 0x00000000#32)) shapeCasts_S2x2x128x512_S2x2x128x512) Finset.univ (View.stores_vmem_bits_univ h_S2x2x128x512 rfl) (.inl rfl))
  let q00 := qc0 (shapeCast S128x512 q0 shapeCasts_S1x1x128x512_S128x512)
  let q01 := qc1 (shapeCast S128x512 q0 shapeCasts_S1x1x128x512_S128x512)
  let q10 := qc0 (shapeCast S128x512 q1 shapeCasts_S1x1x128x512_S128x512)
  let q11 := qc1 (shapeCast S128x512 q1 shapeCasts_S1x1x128x512_S128x512)
  let K ← getK arg5 ![0, 0, 0] inb_S1x16384x256_S1x512x128_0_0_0
  scoresF arg10 K q00 q01
  let r ← mid q00 q01 q10 q11
  let a01 ← getAcc arg9 0 1
  let lam : Elt F .f32 ← smemLoad arg3 (Rect.unit (s := S1x1) ![0, 0] S1x1.size inb_S1x1_S1x1_0_0) numel1_S1x1 rfl
  let g : Vec F S128x1 .f32 ← Prog.lift (.load arg7 (Rect.unit (s := S128x1) ![0, 0] S128x1.size inb_S128x1_S128x1_0_0).toLoadRect (View.loadsAt_vmem h_S128x1))
  let _o : Vec F S1x512x128 .bf16 ← Prog.lift (.load arg8 (Rect.unit (s := S1x512x256) ![0, 0, 0] S1x512x128.size inb_S1x512x256_S1x512x128_0_0_0).toLoadRect (View.loadsAt_vmem h_S1x512x128))
  Prog.lift (.store arg8 (Rect.unit (s := S1x512x256) ![0, 0, 0] S1x512x128.size inb_S1x512x256_S1x512x128_0_0_0) (finish lam g r.2.2.2.2 a01 r.1 r.2.1) Finset.univ (View.stores_vmem h_S1x512x128 (harg8.storeExact_slice rfl _ packedbf16_S1x512x256_S1x512x128_0_0_0) (fun _ => rfl)) (.inl rfl))
  let a10 ← getAcc arg9 1 0
  let a11 ← getAcc arg9 1 1
  let lam' : Elt F .f32 ← smemLoad arg3 (Rect.unit (s := S1x1) ![0, 0] S1x1.size inb_S1x1_S1x1_0_0) numel1_S1x1 rfl
  let g' : Vec F S128x1 .f32 ← Prog.lift (.load arg7 (Rect.unit (s := S128x1) ![0, 0] S128x1.size inb_S128x1_S128x1_0_0).toLoadRect (View.loadsAt_vmem h_S128x1))
  let _o' : Vec F S1x512x128 .bf16 ← Prog.lift (.load arg8 (Rect.unit (s := S1x512x256) ![0, 0, 128] S1x512x128.size inb_S1x512x256_S1x512x128_0_0_128).toLoadRect (View.loadsAt_vmem h_S1x512x128))
  Prog.lift (.store arg8 (Rect.unit (s := S1x512x256) ![0, 0, 128] S1x512x128.size inb_S1x512x256_S1x512x128_0_0_128) (finish lam' g' a10 a11 r.2.2.1 r.2.2.2.1) Finset.univ (View.stores_vmem h_S1x512x128 (harg8.storeExact_slice rfl _ packedbf16_S1x512x256_S1x512x128_0_0_128) (fun _ => rfl)) (.inl rfl))
  pure ⟨⟩

/-- The structured kernel. -/
def body (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole) : TP F PUnit :=
  bodyOf i arg3 harg3 arg4 harg4 arg5 harg5 arg6 harg6 arg7 harg7 arg8 harg8 arg9 harg9 arg10 harg10 arg11 harg11 (mid i arg3 harg3 arg4 harg4 arg5 harg5 arg6 harg6 arg7 harg7 arg8 harg8 arg9 harg9 arg10 harg10 arg11 harg11)

set_option maxHeartbeats 4000000 in
/-- The printed kernel is the structured one. -/
theorem kernel_eq (i : grid0.Coords) (arg3 : Memref sig .tc .smem S1x1 .f32) (harg3 : arg3.IsWhole)
    (arg4 : Memref sig .tc .vmem S1x1x256x512 .bf16) (harg4 : arg4.IsWhole) (arg5 : KT) (harg5 : arg5.IsWhole)
    (arg6 : VT) (harg6 : arg6.IsWhole) (arg7 : Memref sig .tc .vmem S128x1 .f32) (harg7 : arg7.IsWhole)
    (arg8 : Memref sig .tc .vmem S1x512x256 .bf16) (harg8 : arg8.IsWhole) (arg9 : AccT) (harg9 : arg9.IsWhole)
    (arg10 : BufT) (harg10 : arg10.IsWhole) (arg11 : BufT) (harg11 : arg11.IsWhole) :
    cc0_attention_bounded (F := F) i arg3 harg3 arg4 harg4 arg5 harg5 arg6 harg6 arg7 harg7 arg8 harg8 arg9 harg9 arg10 harg10 arg11 harg11 = body i arg3 harg3 arg4 harg4 arg5 harg5 arg6 harg6 arg7 harg7 arg8 harg8 arg9 harg9 arg10 harg10 arg11 harg11 := by
  have h : cc0_attention_bounded (F := F) i arg3 harg3 arg4 harg4 arg5 harg5 arg6 harg6 arg7 harg7 arg8 harg8 arg9 harg9 arg10 harg10 arg11 harg11
      = bodyOf i arg3 harg3 arg4 harg4 arg5 harg5 arg6 harg6 arg7 harg7 arg8 harg8 arg9 harg9 arg10 harg10 arg11 harg11
        (fun q00 q01 q10 q11 => k0_part70 i arg3 harg3 arg4 harg4 arg5 harg5 arg6 harg6 arg7 harg7 arg8 harg8 arg9 harg9 arg10 harg10 arg11 harg11 (BitVec.ofNat 32 (i 2).val) q00 q01 q10 q11 4#32 (Scalar.divsi (BitVec.ofNat 32 (i 2).val) 4#32)
      (Scalar.extui (Scalar.cmpi .sgt (BitVec.ofNat 32 (i 2).val) 0#32)) (Scalar.extui (Scalar.cmpi .slt (BitVec.ofNat 32 (i 2).val) 0#32))) := rfl
  rw [h, body]
  exact congrArg _ (funext fun q00 => funext fun q01 => funext fun q10 => funext fun q11 => mid_eq ..)

end Cert.Attn

end
-- ==== Proof.Hoare.lean ====
/-
  A Hoare logic for the attention kernel's body over the vectors its buffers hold: `Ht P p Q` says that the program `p`,
  started with the buffers at a state that meets `P`, ends with a result and a state that meet `Q`. Loads read a window
  of a held vector and stores put one.
-/
module

public import proofs.«01_k».proof.Proof.Body
public import Idealize.ShloMosaic.Lib.VecWindow

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-- The resources of the run. -/
abbrev MM (F : FTy → Type) [FloatOps F] : Type := MT nD τ sig Unit (Elt F) ℕ (UR sig nD τ) ℕ

/-- The memrefs the body is called with. -/
structure Mems where
  a3 : Memref sig .tc .smem S1x1 .f32
  a4 : Memref sig .tc .vmem S1x1x256x512 .bf16
  a5 : KT
  a6 : VT
  a7 : Memref sig .tc .vmem S128x1 .f32
  a8 : Memref sig .tc .vmem S1x512x256 .bf16
  a9 : AccT
  a10 : BufT
  a11 : BufT

/-- What the input memrefs hold. -/
structure Ins (F : FTy → Type) [FloatOps F] where
  x3 : Vec F S1x1 .f32
  x4 : Vec F S1x1x256x512 .bf16
  x5 : Vec F S1x16384x256 .bf16
  x6 : Vec F S1x32x256x512 .bf16
  x7 : Vec F S128x1 .f32

/-- What the memrefs the body writes hold. -/
structure St (F : FTy → Type) [FloatOps F] where
  x8 : Vec F S1x512x256 .bf16
  x9 : Vec F S2x2x128x512 .f32
  x10 : Vec F S2x512x512 .f32
  x11 : Vec F S2x512x512 .f32

variable (c : Dev nD) (M : Mems) (X : Ins F)

/-- The memrefs held at given vectors. -/
def Held (s : St F) : sProp (MM F) :=
  iprop(owns (c : Thread nD τ) M.a3 fullShare X.x3 ∗ owns (c : Thread nD τ) M.a4 fullShare X.x4
    ∗ owns (c : Thread nD τ) M.a5 fullShare X.x5 ∗ owns (c : Thread nD τ) M.a6 fullShare X.x6
    ∗ owns (c : Thread nD τ) M.a7 fullShare X.x7 ∗ owns (c : Thread nD τ) M.a8 fullShare s.x8
    ∗ owns (c : Thread nD τ) M.a9 fullShare s.x9 ∗ owns (c : Thread nD τ) M.a10 fullShare s.x10
    ∗ owns (c : Thread nD τ) M.a11 fullShare s.x11)

/-- The weakest precondition of a program of the body. -/
abbrev wpT {α : Type} (p : TP F α) (Q : α → sProp (MM F)) : sProp (MM F) :=
  wp frame (wpE (defs₀ (F := F)) Variants.none (c : Thread nD τ) none) Set.univ p Q

/-- From states that meet `P`, the program ends at a result and state that meet `Q`. -/
def Ht {α : Type} (P : St F → Prop) (p : TP F α) (Q : α → St F → Prop) : Prop :=
  ∀ s, P s → Held c M X s ⊢ wpT c p (fun r => iprop(∃ s', ⌜Q r s'⌝ ∗ Held c M X s'))

variable {c M X}

theorem Ht.bind {α β : Type} {P : St F → Prop} {p : TP F α} {k : α → TP F β} {Q : α → St F → Prop} {R : β → St F → Prop}
    (hp : Ht c M X P p Q) (hk : ∀ r, Ht c M X (Q r) (k r) R) : Ht c M X P (p >>= k) R := by
  intro s hs
  refine (hp s hs).trans ?_
  unfold wpT
  rw [wp_bind]
  refine wp_mono _ _ _ fun r => ?_
  iintro ⟨%s', %h', H⟩
  iapply (hk r s' h')
  iexact H

theorem Ht.pure {α : Type} {P : St F → Prop} {v : α} {Q : α → St F → Prop} (h : ∀ s, P s → Q v s) :
    Ht c M X P (Pure.pure v : TP F α) Q := by
  intro s hs
  refine BIBase.Entails.trans ?_ (le_wp_ret _ _ _ v _)
  iintro H
  iexists s
  isplitr
  · ipureintro; exact h s hs
  · iexact H

theorem Ht.mono {α : Type} {P P' : St F → Prop} {p : TP F α} {Q Q' : α → St F → Prop} (hp : Ht c M X P p Q)
    (hP : ∀ s, P' s → P s) (hQ : ∀ r s, Q r s → Q' r s) : Ht c M X P' p Q' := by
  intro s hs
  refine (hp s (hP s hs)).trans (wp_mono _ _ _ fun r => ?_)
  iintro ⟨%s', %h', H⟩
  iexists s'
  isplitr
  · ipureintro; exact hQ _ _ h'
  · iexact H

/-- A counted loop, by an invariant of the trips. -/
theorem Ht.loop {σ : Type} {P : St F → Prop} {Q : σ → St F → Prop} (l : Scf.Loop 32) (hok : Scf.OK l.lb l.ub l.st) (init : σ)
    (f : Fin l.trips → σ → TP F σ) (I : ℕ → σ → St F → Prop) (h0 : ∀ s, P s → I 0 init s)
    (hstep : ∀ (k : Fin l.trips) (a : σ), Ht c M X (I k.val a) (f k a) (I (k.val + 1))) (hQ : ∀ a s, I l.trips a s → Q a s) :
    Ht c M X P (Scf.Loop.for l hok init f) Q := by
  intro s hs
  have hb : ∀ (k : Fin (Scf.trips l.lb l.ub l.st)) (acc : σ),
      (fun (k : ℕ) (a : σ) => (iprop(∃ s', ⌜I k a s'⌝ ∗ Held c M X s') : sProp (MM F))) k acc
        ⊢ wpT c (f k acc) ((fun (k : ℕ) (a : σ) => (iprop(∃ s', ⌜I k a s'⌝ ∗ Held c M X s') : sProp (MM F))) (k.val + 1)) := by
    intro k acc
    iintro ⟨%s', %h', H⟩
    iapply (hstep k acc s' h')
    iexact H
  have hf := Scf.wp_for frame (wpE (defs₀ (F := F)) Variants.none (c : Thread nD τ) none) Set.univ l.lb l.ub l.st hok init f
    (fun k a => iprop(∃ s', ⌜I k a s'⌝ ∗ Held c M X s')) hb (Q := fun a => iprop(∃ s', ⌜Q a s'⌝ ∗ Held c M X s'))
  refine BIBase.Entails.trans ?_ hf
  iintro H
  isplitl [H]
  · iexists s
    isplitr
    · ipureintro; exact h0 s hs
    · iexact H
  · iintro %a ⟨%s', %h', H⟩
    iexists s'
    isplitr
    · ipureintro; exact hQ _ _ h'
    · iexact H

/-- A load of a held memref. -/
theorem wp_load_owns {cs : CoreSpace} {sh : Shape} {e : EltTy} (m : Memref sig .tc cs sh e) (Y : sh.Idx → Elt F e) (off size : Fin sh.rank → ℕ)
    (inb : ∀ a, off a + size a ≤ sh.size a) (hl : m.view.LoadsAt (Rect.unit off size inb).toLoadRect) {β : Type}
    (k : _ → TP F β) (Q : β → sProp (MM F)) :
    owns (c : Thread nD τ) m fullShare Y
      ⊢ iprop((owns (c : Thread nD τ) m fullShare Y -∗ wpT c (k (window Y off size inb)) Q)
        -∗ wpT c (Prog.op (TpuEff.load m (Rect.unit off size inb).toLoadRect hl) k) Q) := by
  unfold owns
  iintro ⟨%f, %hf, H⟩ HK
  have hw : window Y off size inb = m.view.readAt (Elt F) (Rect.unit off size inb).toLoadRect f := by
    subst hf; exact (View.readAt_unit m.view f inb rfl inb).symm
  rw [hw]
  ihave Hw := (wp_load (defs := defs₀ (F := F)) Variants.none (c : Thread nD τ) none Set.univ (Q := Q) (m := m)
    (r := (Rect.unit off size inb).toLoadRect) (hl := hl) (k := k) (q := fullShare) (f := f) (S := m.view.set)
    (m.view.setOn_subset_set _)) $$ H
  iapply Hw
  iintro H
  iapply HK
  iexists f
  isplitr
  · ipureintro; exact hf
  · iexact H

/-- A store to a held memref. -/
theorem wp_store_owns {cs : CoreSpace} {sh : Shape} {e : EltTy} (m : Memref sig .tc cs sh e) (Y : sh.Idx → Elt F e) (off size : Fin sh.rank → ℕ)
    (inb : ∀ a, off a + size a ≤ sh.size a) (w : (Rect.unit off size inb).shape.Idx → Elt F e)
    (hx : (m.access (Rect.unit off size inb)).Stores Finset.univ) (hm : Finset.univ = Finset.univ ∨ ∀ a, (Rect.unit off size inb).stride a = 1) {β : Type}
    (k : PUnit → TP F β) (Q : β → sProp (MM F)) :
    owns (c : Thread nD τ) m fullShare Y
      ⊢ iprop((owns (c : Thread nD τ) m fullShare (put Y off size w) -∗ wpT c (k ⟨⟩) Q)
        -∗ wpT c (Prog.op (TpuEff.store m (Rect.unit off size inb) w Finset.univ hx hm) k) Q) := by
  unfold owns
  iintro ⟨%f, %hf, H⟩ HK
  ihave Hw := (wp_store_writes₀ (defs := defs₀ (F := F)) Variants.none (c : Thread nD τ) none Set.univ (Q := Q) (m := m)
    (r := Rect.unit off size inb) (w := w) (hx := hx) (hm := hm) (k := k) (f := f) (S := m.view.set)
    (m.view.set_slice_subset _)) $$ H
  iapply Hw
  iintro H
  iapply HK
  iexists (m.view.writes (Elt F) f [⟨Rect.unit off size inb, w⟩])
  isplitr
  · ipureintro
    rw [View.read_writes_cons_put m.view f inb w [] rfl, View.writes_nil, hf]
  · iexact H

/-- A load, at a state: the memref's part split off and given back. -/
theorem Ht.load {P : St F → Prop} {cs : CoreSpace} {sh : Shape} {e : EltTy} {m : Memref sig .tc cs sh e} (Y : St F → (sh.Idx → Elt F e))
    (hsp : ∀ s, Held c M X s ⊢ iprop(owns (c : Thread nD τ) m fullShare (Y s) ∗ (owns (c : Thread nD τ) m fullShare (Y s) -∗ Held c M X s)))
    {off size : Fin sh.rank → ℕ} {inb : ∀ a, off a + size a ≤ sh.size a} {hl : m.view.LoadsAt (Rect.unit off size inb).toLoadRect}
    {Q : _ → St F → Prop} (hQ : ∀ s, P s → Q (window (Y s) off size inb) s) :
    Ht c M X P (Prog.lift (TpuEff.load m (Rect.unit off size inb).toLoadRect hl)) Q := by
  intro s hs
  refine (hsp s).trans ?_
  iintro ⟨H, HR⟩
  unfold Prog.lift
  ihave Hw := (wp_load_owns m (Y s) off size inb hl Prog.ret (fun r => iprop(∃ s', ⌜Q r s'⌝ ∗ Held c M X s'))) $$ H
  iapply Hw
  iintro H
  iapply (le_wp_ret _ _ _ _ _)
  iexists s
  isplitr
  · ipureintro; exact hQ s hs
  · iapply HR; iexact H

/-- A store, at a state. -/
theorem Ht.store {P : St F → Prop} {cs : CoreSpace} {sh : Shape} {e : EltTy} {m : Memref sig .tc cs sh e} (Y : St F → (sh.Idx → Elt F e))
    (upd : St F → (sh.Idx → Elt F e) → St F)
    (hsp : ∀ s, Held c M X s ⊢ iprop(owns (c : Thread nD τ) m fullShare (Y s) ∗ (∀ Z, owns (c : Thread nD τ) m fullShare Z -∗ Held c M X (upd s Z))))
    {off size : Fin sh.rank → ℕ} {inb : ∀ a, off a + size a ≤ sh.size a} {w : (Rect.unit off size inb).shape.Idx → Elt F e}
    {hx : (m.access (Rect.unit off size inb)).Stores Finset.univ} {hm : Finset.univ = Finset.univ ∨ ∀ a, (Rect.unit off size inb).stride a = 1}
    {Q : PUnit → St F → Prop} (hQ : ∀ s, P s → Q ⟨⟩ (upd s (put (Y s) off size w))) :
    Ht c M X P (Prog.lift (TpuEff.store m (Rect.unit off size inb) w Finset.univ hx hm)) Q := by
  intro s hs
  refine (hsp s).trans ?_
  iintro ⟨H, HR⟩
  unfold Prog.lift
  ihave Hw := (wp_store_owns m (Y s) off size inb w hx hm Prog.ret (fun r => iprop(∃ s', ⌜Q r s'⌝ ∗ Held c M X s'))) $$ H
  iapply Hw
  iintro H
  iapply (le_wp_ret _ _ _ _ _)
  iexists (upd s (put (Y s) off size w))
  isplitr
  · ipureintro; exact hQ s hs
  · iapply HR; iexact H

/-! ## Each memref's part -/

theorem part3 (s : St F) : Held c M X s ⊢ iprop(owns (c : Thread nD τ) M.a3 fullShare X.x3 ∗ (owns (c : Thread nD τ) M.a3 fullShare X.x3 -∗ Held c M X s)) := by
  unfold Held
  iintro ⟨H3, H4, H5, H6, H7, H8, H9, H10, H11⟩
  isplitl [H3]; · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part4 (s : St F) : Held c M X s ⊢ iprop(owns (c : Thread nD τ) M.a4 fullShare X.x4 ∗ (owns (c : Thread nD τ) M.a4 fullShare X.x4 -∗ Held c M X s)) := by
  unfold Held
  iintro ⟨H3, H4, H5, H6, H7, H8, H9, H10, H11⟩
  isplitl [H4]; · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part5 (s : St F) : Held c M X s ⊢ iprop(owns (c : Thread nD τ) M.a5 fullShare X.x5 ∗ (owns (c : Thread nD τ) M.a5 fullShare X.x5 -∗ Held c M X s)) := by
  unfold Held
  iintro ⟨H3, H4, H5, H6, H7, H8, H9, H10, H11⟩
  isplitl [H5]; · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part6 (s : St F) : Held c M X s ⊢ iprop(owns (c : Thread nD τ) M.a6 fullShare X.x6 ∗ (owns (c : Thread nD τ) M.a6 fullShare X.x6 -∗ Held c M X s)) := by
  unfold Held
  iintro ⟨H3, H4, H5, H6, H7, H8, H9, H10, H11⟩
  isplitl [H6]; · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part7 (s : St F) : Held c M X s ⊢ iprop(owns (c : Thread nD τ) M.a7 fullShare X.x7 ∗ (owns (c : Thread nD τ) M.a7 fullShare X.x7 -∗ Held c M X s)) := by
  unfold Held
  iintro ⟨H3, H4, H5, H6, H7, H8, H9, H10, H11⟩
  isplitl [H7]; · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
/-- For the written memrefs, given back at anything. -/
theorem part8 (s : St F) : Held c M X s ⊢ iprop(owns (c : Thread nD τ) M.a8 fullShare s.x8 ∗ (∀ Z, owns (c : Thread nD τ) M.a8 fullShare Z -∗ Held c M X { s with x8 := Z })) := by
  unfold Held
  iintro ⟨H3, H4, H5, H6, H7, H8, H9, H10, H11⟩
  isplitl [H8]; · iexact H8
  iintro %Z H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part9 (s : St F) : Held c M X s ⊢ iprop(owns (c : Thread nD τ) M.a9 fullShare s.x9 ∗ (∀ Z, owns (c : Thread nD τ) M.a9 fullShare Z -∗ Held c M X { s with x9 := Z })) := by
  unfold Held
  iintro ⟨H3, H4, H5, H6, H7, H8, H9, H10, H11⟩
  isplitl [H9]; · iexact H9
  iintro %Z H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part10 (s : St F) : Held c M X s ⊢ iprop(owns (c : Thread nD τ) M.a10 fullShare s.x10 ∗ (∀ Z, owns (c : Thread nD τ) M.a10 fullShare Z -∗ Held c M X { s with x10 := Z })) := by
  unfold Held
  iintro ⟨H3, H4, H5, H6, H7, H8, H9, H10, H11⟩
  isplitl [H10]; · iexact H10
  iintro %Z H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem part11 (s : St F) : Held c M X s ⊢ iprop(owns (c : Thread nD τ) M.a11 fullShare s.x11 ∗ (∀ Z, owns (c : Thread nD τ) M.a11 fullShare Z -∗ Held c M X { s with x11 := Z })) := by
  unfold Held
  iintro ⟨H3, H4, H5, H6, H7, H8, H9, H10, H11⟩
  isplitl [H11]; · iexact H11
  iintro %Z H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- A part given back as it was taken. -/
theorem same {A H : sProp (MM F)} {B : Type} {b : B} {K : B → sProp (MM F)} {G : B → sProp (MM F)} (h : H ⊢ iprop(A ∗ (∀ z, K z -∗ G z))) :
    H ⊢ iprop(A ∗ (K b -∗ G b)) := by
  refine h.trans ?_
  iintro ⟨HA, HR⟩
  isplitl [HA]; · iexact HA
  iintro HK
  iapply HR
  iexact HK

end Cert.Attn

end
-- ==== Proof.Reads.lean ====
/-
  What the scratch buffers' parts read after a step's stores.
-/
module

public import proofs.«01_k».proof.Proof.Hoare
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe
open Idealize.ShloMosaic.VecWindow

variable {F : FTy → Type} [FloatOps F]

/-- Head `s`, component `c` of the accumulator. -/
def accOf (x : Vec F S2x2x128x512 .f32) (s c : Fin 2) : FVec F S128x512 .f32 :=
  shapeCast S128x512 (window x ![s.val, c.val, 0, 0] S1x1x128x512.size (accIn s c)) shapeCasts_S1x1x128x512_S128x512
/-- Component `c` of a score buffer, its upper half and its lower right quarter. -/
def bufOf (x : Vec F S2x512x512 .f32) (c : Fin 2) : FVec F S512x512 .f32 :=
  shapeCast S512x512 (window x ![c.val, 0, 0] S1x512x512.size (bufIn c)) shapeCasts_S1x512x512_S512x512
def loOf (x : Vec F S2x512x512 .f32) (c : Fin 2) : FVec F S256x512 .f32 :=
  shapeCast S256x512 (window x ![c.val, 0, 0] S1x256x512.size (bufLoIn c)) shapeCasts_S1x256x512_S256x512
def hiOf (x : Vec F S2x512x512 .f32) (c : Fin 2) : FVec F S256x256 .f32 :=
  shapeCast S256x256 (window x ![c.val, 256, 256] S1x256x256.size (bufHiIn c)) shapeCasts_S1x256x256_S256x256
/-- A block of keys and of values. -/
def kAt (x : Vec F S1x16384x256 .bf16) (o : Fin 3 → ℕ) (ho : ∀ a, o a + S1x512x128.size a ≤ S1x16384x256.size a) : FVec F S512x128 .bf16 :=
  shapeCast S512x128 (window x o S1x512x128.size ho) shapeCasts_S1x512x128_S512x128
def vAt (x : Vec F S1x32x256x512 .bf16) (o : Fin 4 → ℕ) (ho : ∀ a, o a + S1x1x128x512.size a ≤ S1x32x256x512.size a) : FVec F S128x512 .bf16 :=
  shapeCast S128x512 (window x o S1x1x128x512.size ho) shapeCasts_S1x1x128x512_S128x512

theorem hiIn2 : ∀ a, (![0, 256] : Fin 2 → ℕ) a + S128x256.size a ≤ S128x512.size a := by decide
/-- The accumulator with `d` added to its right half. -/
def widen (a : FVec F S128x512 .f32) (d : FVec F S128x256 .f32) : FVec F S128x512 .f32 :=
  put a ![0, 256] S128x256.size (addf (window a ![0, 256] S128x256.size hiIn2) d)

/-- The upper half and the lower right quarter of a block's scores. -/
def upper (Z : FVec F S512x512 .f32) : FVec F S256x512 .f32 := fun i => Z (ix2 ⟨(i 0).val, by have := ValueIdx.idx2_lt0 i; omega⟩ (i 1))
def quarter (Z : FVec F S512x512 .f32) : FVec F S256x256 .f32 := fun i =>
  Z (ix2 ⟨256 + (i 0).val, by have := ValueIdx.idx2_lt0 i; omega⟩ ⟨256 + (i 1).val, by have := ValueIdx.idx2_lt1 i; omega⟩)

theorem accOf_apply (x : Vec F S2x2x128x512 .f32) (s c : Fin 2) (i : Fin 128) (j : Fin 512) : accOf x s c (ix2 i j) = x (ix4 s c i j) := by
  unfold accOf
  refine (shapeCast_apply _ _ _ (ix4 0 0 i j) ?_).trans ?_
  · simp [Shape.rowMajor_val_two, Shape.rowMajor_val_four]
  · exact congrArg x (funext fun a => Fin.ext (by
      match a with
      | ⟨0, _⟩ => show s.val + 1 * 0 = s.val; omega
      | ⟨1, _⟩ => show c.val + 1 * 0 = c.val; omega
      | ⟨2, _⟩ => show 0 + 1 * i.val = i.val; omega
      | ⟨3, _⟩ => show 0 + 1 * j.val = j.val; omega))
theorem bufOf_apply (x : Vec F S2x512x512 .f32) (c : Fin 2) (i : Fin 512) (j : Fin 512) : bufOf x c (ix2 i j) = x (ix3 c i j) := by
  unfold bufOf
  refine (shapeCast_apply _ _ _ (ix3 0 i j) ?_).trans ?_
  · simp [Shape.rowMajor_val_two, Shape.rowMajor_val_three]
  · exact congrArg x (funext fun a => Fin.ext (by
      match a with
      | ⟨0, _⟩ => show c.val + 1 * 0 = c.val; omega
      | ⟨1, _⟩ => show 0 + 1 * i.val = i.val; omega
      | ⟨2, _⟩ => show 0 + 1 * j.val = j.val; omega))
theorem loOf_apply (x : Vec F S2x512x512 .f32) (c : Fin 2) (i : Fin 256) (j : Fin 512) :
    loOf x c (ix2 i j) = x (ix3 c ⟨i.val, by omega⟩ j) := by
  unfold loOf
  refine (shapeCast_apply _ _ _ (ix3 0 i j) ?_).trans ?_
  · simp [Shape.rowMajor_val_two, Shape.rowMajor_val_three]
  · exact congrArg x (funext fun a => Fin.ext (by
      match a with
      | ⟨0, _⟩ => show c.val + 1 * 0 = c.val; omega
      | ⟨1, _⟩ => show 0 + 1 * i.val = i.val; omega
      | ⟨2, _⟩ => show 0 + 1 * j.val = j.val; omega))
theorem hiOf_apply (x : Vec F S2x512x512 .f32) (c : Fin 2) (i : Fin 256) (j : Fin 256) :
    hiOf x c (ix2 i j) = x (ix3 c ⟨256 + i.val, by omega⟩ ⟨256 + j.val, by omega⟩) := by
  unfold hiOf
  refine (shapeCast_apply _ _ _ (ix3 0 i j) ?_).trans ?_
  · simp [Shape.rowMajor_val_two, Shape.rowMajor_val_three]
  · exact congrArg x (funext fun a => Fin.ext (by
      match a with
      | ⟨0, _⟩ => show c.val + 1 * 0 = c.val; omega
      | ⟨1, _⟩ => show 256 + 1 * i.val = 256 + i.val; omega
      | ⟨2, _⟩ => show 256 + 1 * j.val = 256 + j.val; omega))

theorem loOf_eq (x : Vec F S2x512x512 .f32) (c : Fin 2) : loOf x c = upper (bufOf x c) := by
  funext i
  obtain ⟨a, b, rfl⟩ : ∃ (a : Fin 256) (b : Fin 512), i = ix2 a b := ⟨i 0, i 1, eq_ix2 i⟩
  rw [loOf_apply]
  exact (bufOf_apply x c ⟨a.val, by omega⟩ b).symm
theorem hiOf_eq (x : Vec F S2x512x512 .f32) (c : Fin 2) : hiOf x c = quarter (bufOf x c) := by
  funext i
  obtain ⟨a, b, rfl⟩ : ∃ (a : Fin 256) (b : Fin 256), i = ix2 a b := ⟨i 0, i 1, eq_ix2 i⟩
  rw [hiOf_apply]
  exact (bufOf_apply x c ⟨256 + a.val, by omega⟩ ⟨256 + b.val, by omega⟩).symm

/-! ## After a put -/

theorem bufOf_put (x : Vec F S2x512x512 .f32) (c : Fin 2) (Z : FVec F S512x512 .f32) :
    bufOf (put x ![c.val, 0, 0] S1x512x512.size (shapeCast S1x512x512 Z shapeCasts_S512x512_S1x512x512)) c = Z := by
  unfold bufOf
  rw [window_put_same]
  exact shapeCast_shapeCast Z _ _
theorem bufOf_put_ne (x : Vec F S2x512x512 .f32) (c c' : Fin 2) (hc : c' ≠ c) (w : S1x512x512.Idx → Elt F .f32) :
    bufOf (put x ![c.val, 0, 0] S1x512x512.size w) c' = bufOf x c' := by
  unfold bufOf
  rw [window_put_of_disjoint x ![c.val, 0, 0] S1x512x512.size ![c'.val, 0, 0] S1x512x512.size (bufIn c') w (0 : Fin 3)]
  have : c'.val ≠ c.val := fun h => hc (Fin.ext h)
  show c'.val + 1 ≤ c.val ∨ c.val + 1 ≤ c'.val
  omega
theorem loOf_put (x : Vec F S2x512x512 .f32) (c : Fin 2) (Z : FVec F S256x512 .f32) :
    loOf (put x ![c.val, 0, 0] S1x256x512.size (shapeCast S1x256x512 Z shapeCasts_S256x512_S1x256x512)) c = Z := by
  unfold loOf
  rw [window_put_same]
  exact shapeCast_shapeCast Z _ _
theorem hiOf_put (x : Vec F S2x512x512 .f32) (c : Fin 2) (Z : FVec F S256x256 .f32) :
    hiOf (put x ![c.val, 256, 256] S1x256x256.size (shapeCast S1x256x256 Z shapeCasts_S256x256_S1x256x256)) c = Z := by
  unfold hiOf
  rw [window_put_same]
  exact shapeCast_shapeCast Z _ _
theorem loOf_putHi (x : Vec F S2x512x512 .f32) (c c' : Fin 2) (w : S1x256x256.Idx → Elt F .f32) :
    loOf (put x ![c.val, 256, 256] S1x256x256.size w) c' = loOf x c' := by
  unfold loOf
  rw [window_put_of_disjoint x ![c.val, 256, 256] S1x256x256.size ![c'.val, 0, 0] S1x256x512.size (bufLoIn c') w (1 : Fin 3)]
  exact .inl (by show 0 + 256 ≤ 256; omega)
theorem loOf_putLo (x : Vec F S2x512x512 .f32) (c c' : Fin 2) (hc : c' ≠ c) (w : S1x256x512.Idx → Elt F .f32) :
    loOf (put x ![c.val, 0, 0] S1x256x512.size w) c' = loOf x c' := by
  unfold loOf
  rw [window_put_of_disjoint x ![c.val, 0, 0] S1x256x512.size ![c'.val, 0, 0] S1x256x512.size (bufLoIn c') w (0 : Fin 3)]
  have : c'.val ≠ c.val := fun h => hc (Fin.ext h)
  show c'.val + 1 ≤ c.val ∨ c.val + 1 ≤ c'.val
  omega
theorem hiOf_putLo (x : Vec F S2x512x512 .f32) (c c' : Fin 2) (w : S1x256x512.Idx → Elt F .f32) :
    hiOf (put x ![c.val, 0, 0] S1x256x512.size w) c' = hiOf x c' := by
  unfold hiOf
  rw [window_put_of_disjoint x ![c.val, 0, 0] S1x256x512.size ![c'.val, 256, 256] S1x256x256.size (bufHiIn c') w (1 : Fin 3)]
  exact .inr (by show 0 + 256 ≤ 256; omega)
theorem hiOf_putHi (x : Vec F S2x512x512 .f32) (c c' : Fin 2) (hc : c' ≠ c) (w : S1x256x256.Idx → Elt F .f32) :
    hiOf (put x ![c.val, 256, 256] S1x256x256.size w) c' = hiOf x c' := by
  unfold hiOf
  rw [window_put_of_disjoint x ![c.val, 256, 256] S1x256x256.size ![c'.val, 256, 256] S1x256x256.size (bufHiIn c') w (0 : Fin 3)]
  have : c'.val ≠ c.val := fun h => hc (Fin.ext h)
  show c'.val + 1 ≤ c.val ∨ c.val + 1 ≤ c'.val
  omega

theorem accOf_put (x : Vec F S2x2x128x512 .f32) (s c : Fin 2) (Z : FVec F S128x512 .f32) :
    accOf (put x ![s.val, c.val, 0, 0] S1x1x128x512.size (shapeCast S1x1x128x512 Z shapeCasts_S128x512_S1x1x128x512)) s c = Z := by
  unfold accOf
  rw [window_put_same]
  exact shapeCast_shapeCast Z _ _
theorem sep_of_ne {s c s' c' : Fin 2} (h : ¬(s' = s ∧ c' = c)) :
    (s'.val + 1 ≤ s.val ∨ s.val + 1 ≤ s'.val) ∨ (c'.val + 1 ≤ c.val ∨ c.val + 1 ≤ c'.val) := by
  by_cases h1 : s' = s
  · have : c'.val ≠ c.val := fun h2 => h ⟨h1, Fin.ext h2⟩
    omega
  · have : s'.val ≠ s.val := fun h2 => h1 (Fin.ext h2)
    omega
theorem accOf_put_ne (x : Vec F S2x2x128x512 .f32) (s c s' c' : Fin 2) (h : ¬(s' = s ∧ c' = c)) (w : S1x1x128x512.Idx → Elt F .f32) :
    accOf (put x ![s.val, c.val, 0, 0] S1x1x128x512.size w) s' c' = accOf x s' c' := by
  unfold accOf
  rcases sep_of_ne h with h | h
  · rw [window_put_of_disjoint x ![s.val, c.val, 0, 0] S1x1x128x512.size ![s'.val, c'.val, 0, 0] S1x1x128x512.size (accIn s' c') w (0 : Fin 4) h]
  · rw [window_put_of_disjoint x ![s.val, c.val, 0, 0] S1x1x128x512.size ![s'.val, c'.val, 0, 0] S1x1x128x512.size (accIn s' c') w (1 : Fin 4) h]
theorem accOf_putHi_ne (x : Vec F S2x2x128x512 .f32) (s c s' c' : Fin 2) (h : ¬(s' = s ∧ c' = c)) (w : S1x1x128x256.Idx → Elt F .f32) :
    accOf (put x ![s.val, c.val, 0, 256] S1x1x128x256.size w) s' c' = accOf x s' c' := by
  unfold accOf
  rcases sep_of_ne h with h | h
  · rw [window_put_of_disjoint x ![s.val, c.val, 0, 256] S1x1x128x256.size ![s'.val, c'.val, 0, 0] S1x1x128x512.size (accIn s' c') w (0 : Fin 4) h]
  · rw [window_put_of_disjoint x ![s.val, c.val, 0, 256] S1x1x128x256.size ![s'.val, c'.val, 0, 0] S1x1x128x512.size (accIn s' c') w (1 : Fin 4) h]

theorem widen_apply (a : FVec F S128x512 .f32) (d : FVec F S128x256 .f32) (i : Fin 128) (j : Fin 512) :
    widen a d (ix2 i j) = if h : 256 ≤ j.val then FloatOps.addf (a (ix2 i j)) (d (ix2 i ⟨j.val - 256, by omega⟩)) else a (ix2 i j) := by
  unfold widen put
  by_cases hj : 256 ≤ j.val
  · have h : ∀ x : Fin 2, (![0, 256] : Fin 2 → ℕ) x ≤ ((ix2 i j : S128x512.Idx) x).val ∧ ((ix2 i j : S128x512.Idx) x).val < (![0, 256] : Fin 2 → ℕ) x + S128x256.size x := by
      intro x
      match x with
      | ⟨0, _⟩ => exact ⟨Nat.zero_le _, by show i.val < 0 + 128; omega⟩
      | ⟨1, _⟩ => exact ⟨hj, by show j.val < 256 + 256; omega⟩
    rw [dif_pos h, dif_pos hj]
    have e1 : (Rect.unitLocal (s := S128x512) (off := ![0, 256]) (size := S128x256.size) (ix2 i j) h) = (ix2 i ⟨j.val - 256, by omega⟩ : S128x256.Idx) :=
      funext fun x => Fin.ext (by
        match x with
        | ⟨0, _⟩ => show i.val - 0 = i.val; omega
        | ⟨1, _⟩ => rfl)
    rw [e1]
    show FloatOps.addf (window a ![0, 256] S128x256.size hiIn2 (ix2 i ⟨j.val - 256, by omega⟩)) _ = _
    congr 1
    exact congrArg a (funext fun x => Fin.ext (by
        match x with
        | ⟨0, _⟩ => show 0 + 1 * i.val = i.val; omega
        | ⟨1, _⟩ => show 256 + 1 * (j.val - 256) = j.val; omega))
  · have h : ¬ ∀ x : Fin 2, (![0, 256] : Fin 2 → ℕ) x ≤ ((ix2 i j : S128x512.Idx) x).val ∧ ((ix2 i j : S128x512.Idx) x).val < (![0, 256] : Fin 2 → ℕ) x + S128x256.size x :=
      fun h => hj (h 1).1
    rw [dif_neg h, dif_neg hj]

theorem accOf_putHi (x : Vec F S2x2x128x512 .f32) (s c : Fin 2) (d : FVec F S128x256 .f32) :
    accOf (put x ![s.val, c.val, 0, 256] S1x1x128x256.size (shapeCast S1x1x128x256
      (addf (shapeCast S128x256 (window x ![s.val, c.val, 0, 256] S1x1x128x256.size (accHiIn s c)) shapeCasts_S1x1x128x256_S128x256) d)
      shapeCasts_S128x256_S1x1x128x256)) s c = widen (accOf x s c) d := by
  funext y
  obtain ⟨i, j, rfl⟩ : ∃ (i : Fin 128) (j : Fin 512), y = ix2 i j := ⟨y 0, y 1, eq_ix2 y⟩
  rw [widen_apply, accOf_apply, accOf_apply]
  unfold put
  by_cases hj : 256 ≤ j.val
  · have h : ∀ a : Fin 4, (![s.val, c.val, 0, 256] : Fin 4 → ℕ) a ≤ ((ix4 s c i j : S2x2x128x512.Idx) a).val
        ∧ ((ix4 s c i j : S2x2x128x512.Idx) a).val < (![s.val, c.val, 0, 256] : Fin 4 → ℕ) a + S1x1x128x256.size a := by
      intro a
      match a with
      | ⟨0, _⟩ => exact ⟨le_refl _, by show s.val < s.val + 1; omega⟩
      | ⟨1, _⟩ => exact ⟨le_refl _, by show c.val < c.val + 1; omega⟩
      | ⟨2, _⟩ => exact ⟨Nat.zero_le _, by show i.val < 0 + 128; omega⟩
      | ⟨3, _⟩ => exact ⟨hj, by show j.val < 256 + 256; omega⟩
    rw [dif_pos h, dif_pos hj]
    have e1 : (Rect.unitLocal (s := S2x2x128x512) (off := ![s.val, c.val, 0, 256]) (size := S1x1x128x256.size) (ix4 s c i j) h)
        = (ix4 0 0 i ⟨j.val - 256, by omega⟩ : S1x1x128x256.Idx) :=
      funext fun a => Fin.ext (by
        match a with
        | ⟨0, _⟩ => show s.val - s.val = 0; omega
        | ⟨1, _⟩ => show c.val - c.val = 0; omega
        | ⟨2, _⟩ => show i.val - 0 = i.val; omega
        | ⟨3, _⟩ => rfl)
    rw [e1]
    refine (shapeCast_apply (s := S128x256) (t := S1x1x128x256) _ _ _ (ix2 i ⟨j.val - 256, by omega⟩) ?_).trans ?_
    · simp [Shape.rowMajor_val_two, Shape.rowMajor_val_four]
    · show FloatOps.addf (shapeCast S128x256 _ _ _) _ = _
      congr 1
      refine (shapeCast_apply (s := S1x1x128x256) (t := S128x256) _ _ _ (ix4 0 0 i ⟨j.val - 256, by omega⟩) ?_).trans ?_
      · simp [Shape.rowMajor_val_two, Shape.rowMajor_val_four]
      · exact congrArg x (funext fun a => Fin.ext (by
          match a with
          | ⟨0, _⟩ => show s.val + 1 * 0 = s.val; omega
          | ⟨1, _⟩ => show c.val + 1 * 0 = c.val; omega
          | ⟨2, _⟩ => show 0 + 1 * i.val = i.val; omega
          | ⟨3, _⟩ => show 256 + 1 * (j.val - 256) = j.val; omega))
  · have h : ¬ ∀ a : Fin 4, (![s.val, c.val, 0, 256] : Fin 4 → ℕ) a ≤ ((ix4 s c i j : S2x2x128x512.Idx) a).val
        ∧ ((ix4 s c i j : S2x2x128x512.Idx) a).val < (![s.val, c.val, 0, 256] : Fin 4 → ℕ) a + S1x1x128x256.size a :=
      fun h => hj (h 3).1
    rw [dif_neg h, dif_neg hj]

end Cert.Attn

end
-- ==== Proof.Run.lean ====
/-
  The steps' Hoare triples, and a block's: from `n` key blocks consumed to `n + 1`.
-/
module

public import proofs.«01_k».proof.Proof.Reads

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-- A memref the body writes, as a place of the state. -/
structure Slot (c : Dev nD) (M : Mems) (X : Ins F) {sh : Shape} {e : EltTy} (m : Memref sig .tc .vmem sh e) where
  get : St F → (sh.Idx → Elt F e)
  set : St F → (sh.Idx → Elt F e) → St F
  split : ∀ s, Held c M X s ⊢ iprop(owns (c : Thread nD τ) m fullShare (get s) ∗ (∀ Z, owns (c : Thread nD τ) m fullShare Z -∗ Held c M X (set s Z)))
  set_get : ∀ s, set s (get s) = s
  get_set : ∀ s Z, get (set s Z) = Z
  set_set : ∀ s Z W, set (set s Z) W = set s W

variable {c : Dev nD} {M : Mems} {X : Ins F}

def slot8 : Slot c M X M.a8 := ⟨fun s => s.x8, fun s Z => { s with x8 := Z }, part8, fun _ => rfl, fun _ _ => rfl, fun _ _ _ => rfl⟩
def slot9 : Slot c M X M.a9 := ⟨fun s => s.x9, fun s Z => { s with x9 := Z }, part9, fun _ => rfl, fun _ _ => rfl, fun _ _ _ => rfl⟩
def slot10 : Slot c M X M.a10 := ⟨fun s => s.x10, fun s Z => { s with x10 := Z }, part10, fun _ => rfl, fun _ _ => rfl, fun _ _ _ => rfl⟩
def slot11 : Slot c M X M.a11 := ⟨fun s => s.x11, fun s Z => { s with x11 := Z }, part11, fun _ => rfl, fun _ _ => rfl, fun _ _ _ => rfl⟩

section
variable {P : St F → Prop} {sh : Shape} {e : EltTy} {m : Memref sig .tc .vmem sh e} (sl : Slot c M X m)
  {off size : Fin sh.rank → ℕ} {inb : ∀ a, off a + size a ≤ sh.size a}

theorem Slot.load {hl : m.view.LoadsAt (Rect.unit off size inb).toLoadRect}
    {Q : _ → St F → Prop} (hQ : ∀ s, P s → Q (window (sl.get s) off size inb) s) :
    Ht c M X P (Prog.lift (TpuEff.load m (Rect.unit off size inb).toLoadRect hl)) Q :=
  Ht.load sl.get (fun s => by
    have h := same (b := sl.get s) (sl.split s)
    rwa [sl.set_get] at h) hQ

theorem Slot.store {w : (Rect.unit off size inb).shape.Idx → Elt F e}
    {hx : (m.access (Rect.unit off size inb)).Stores Finset.univ} {hm : Finset.univ = Finset.univ ∨ ∀ a, (Rect.unit off size inb).stride a = 1}
    {Q : PUnit → St F → Prop} (hQ : ∀ s, P s → Q ⟨⟩ (sl.set s (put (sl.get s) off size w))) :
    Ht c M X P (Prog.lift (TpuEff.store m (Rect.unit off size inb) w Finset.univ hx hm)) Q :=
  Ht.store sl.get sl.set sl.split hQ
end

/-! ## The steps -/

section
variable {P : St F → Prop} {b : BufT} (sl : Slot c M X b)

theorem putF_ht (cc : Fin 2) (Z : FVec F S512x512 .f32) {Q : PUnit → St F → Prop}
    (hQ : ∀ s, P s → Q ⟨⟩ (sl.set s (put (sl.get s) ![cc.val, 0, 0] S1x512x512.size (shapeCast S1x512x512 Z shapeCasts_S512x512_S1x512x512)))) :
    Ht c M X P (putF b cc Z) Q :=
  Ht.bind (Q := fun _ => P) (sl.load fun s h => h) fun _ => sl.store hQ
theorem putLo_ht (cc : Fin 2) (Z : FVec F S256x512 .f32) {Q : PUnit → St F → Prop}
    (hQ : ∀ s, P s → Q ⟨⟩ (sl.set s (put (sl.get s) ![cc.val, 0, 0] S1x256x512.size (shapeCast S1x256x512 Z shapeCasts_S256x512_S1x256x512)))) :
    Ht c M X P (putLo b cc Z) Q :=
  Ht.bind (Q := fun _ => P) (sl.load fun s h => h) fun _ => sl.store hQ
theorem putHi_ht (cc : Fin 2) (Z : FVec F S256x256 .f32) {Q : PUnit → St F → Prop}
    (hQ : ∀ s, P s → Q ⟨⟩ (sl.set s (put (sl.get s) ![cc.val, 256, 256] S1x256x256.size (shapeCast S1x256x256 Z shapeCasts_S256x256_S1x256x256)))) :
    Ht c M X P (putHi b cc Z) Q :=
  Ht.bind (Q := fun _ => P) (sl.load fun s h => h) fun _ => sl.store hQ

/-- A buffer that holds both components' scores; one that holds the diagonal block's parts. -/
def Full (Z : Fin 2 → FVec F S512x512 .f32) (x : Vec F S2x512x512 .f32) : Prop := ∀ cc, bufOf x cc = Z cc
def Diag (L : Fin 2 → FVec F S256x512 .f32) (H : Fin 2 → FVec F S256x256 .f32) (x : Vec F S2x512x512 .f32) : Prop :=
  ∀ cc, loOf x cc = L cc ∧ hiOf x cc = H cc

theorem Full.diag {Z : Fin 2 → FVec F S512x512 .f32} {x : Vec F S2x512x512 .f32} (h : Full Z x) :
    Diag (fun cc => upper (Z cc)) (fun cc => quarter (Z cc)) x :=
  fun cc => ⟨by rw [loOf_eq, h cc], by rw [hiOf_eq, h cc]⟩

theorem scoresF_ht (K : FVec F S512x128 .bf16) (q : Fin 2 → FVec F S128x512 .bf16) {Q : PUnit → St F → Prop}
    (hQ : ∀ s, P s → ∀ x, Full (fun cc => dotF K (q cc)) x → Q ⟨⟩ (sl.set s x)) :
    Ht c M X P (scoresF b K (q 0) (q 1)) Q := by
  refine Ht.bind (Q := fun _ s => ∃ s0, P s0 ∧ s = sl.set s0 (put (sl.get s0) ![(0 : Fin 2).val, 0, 0] S1x512x512.size
      (shapeCast S1x512x512 (dotF K (q 0)) shapeCasts_S512x512_S1x512x512))) (putF_ht sl 0 _ fun s h => ⟨s, h, rfl⟩) fun _ =>
    putF_ht sl 1 _ fun s h => ?_
  obtain ⟨s0, h0, rfl⟩ := h
  rw [sl.get_set, sl.set_set]
  refine hQ s0 h0 _ fun cc => ?_
  match cc with
  | 0 => rw [bufOf_put_ne _ 1 0 (by decide), bufOf_put]
  | 1 => rw [bufOf_put]

theorem scoresD_ht (K : FVec F S512x128 .bf16) (q : Fin 2 → FVec F S128x512 .bf16) {Q : PUnit → St F → Prop}
    (hQ : ∀ s, P s → ∀ x, Diag (fun cc => dotLo K (q cc)) (fun cc => dotHi K (q cc)) x → Q ⟨⟩ (sl.set s x)) :
    Ht c M X P (scoresD b K (q 0) (q 1)) Q := by
  refine Ht.bind (Q := fun _ s => ∃ s0, P s0 ∧ ∃ x, s = sl.set s0 x ∧ loOf x 0 = dotLo K (q 0))
    (putLo_ht sl 0 _ fun s h => ⟨s, h, _, rfl, loOf_put ..⟩) fun _ => ?_
  refine Ht.bind (Q := fun _ s => ∃ s0, P s0 ∧ ∃ x, s = sl.set s0 x ∧ loOf x 0 = dotLo K (q 0) ∧ hiOf x 0 = dotHi K (q 0))
    (putHi_ht sl 0 _ fun s h => ?_) fun _ => ?_
  · obtain ⟨s0, h0, x, rfl, h1⟩ := h
    rw [sl.get_set, sl.set_set]
    exact ⟨s0, h0, _, rfl, by rw [loOf_putHi, h1], hiOf_put ..⟩
  refine Ht.bind (Q := fun _ s => ∃ s0, P s0 ∧ ∃ x, s = sl.set s0 x ∧ loOf x 0 = dotLo K (q 0) ∧ hiOf x 0 = dotHi K (q 0)
      ∧ loOf x 1 = dotLo K (q 1)) (putLo_ht sl 1 _ fun s h => ?_) fun _ => ?_
  · obtain ⟨s0, h0, x, rfl, h1, h2⟩ := h
    rw [sl.get_set, sl.set_set]
    exact ⟨s0, h0, _, rfl, by rw [loOf_putLo _ 1 0 (by decide), h1], by rw [hiOf_putLo, h2], loOf_put ..⟩
  refine putHi_ht sl 1 _ fun s h => ?_
  obtain ⟨s0, h0, x, rfl, h1, h2, h3⟩ := h
  rw [sl.get_set, sl.set_set]
  refine hQ s0 h0 _ fun cc => ?_
  match cc with
  | 0 => exact ⟨by rw [loOf_putHi, h1], by rw [hiOf_putHi _ 1 0 (by decide), h2]⟩
  | 1 => exact ⟨by rw [loOf_putHi, h3], hiOf_put ..⟩
end

theorem getK_ht {P : St F → Prop} {o : Fin 3 → ℕ} {ho : ∀ a, o a + S1x512x128.size a ≤ S1x16384x256.size a} {Q : _ → St F → Prop}
    (hQ : ∀ s, P s → Q (kAt X.x5 o ho) s) : Ht c M X P (getK M.a5 o ho) Q :=
  Ht.bind (Q := fun r s => P s ∧ r = window X.x5 o S1x512x128.size ho) (Ht.load (fun _ => X.x5) part5 fun s h => ⟨h, rfl⟩)
    fun r => Ht.pure fun s h => h.2 ▸ hQ s h.1
theorem getV_ht {P : St F → Prop} {o : Fin 4 → ℕ} {ho : ∀ a, o a + S1x1x128x512.size a ≤ S1x32x256x512.size a} {Q : _ → St F → Prop}
    (hQ : ∀ s, P s → Q (vAt X.x6 o ho) s) : Ht c M X P (getV M.a6 o ho) Q :=
  Ht.bind (Q := fun r s => P s ∧ r = window X.x6 o S1x1x128x512.size ho) (Ht.load (fun _ => X.x6) part6 fun s h => ⟨h, rfl⟩)
    fun r => Ht.pure fun s h => h.2 ▸ hQ s h.1
theorem getAcc_ht {P : St F → Prop} {s c' : Fin 2} {Q : _ → St F → Prop}
    (hQ : ∀ st, P st → Q (accOf st.x9 s c') st) : Ht c M X P (getAcc M.a9 s c') Q :=
  Ht.bind (Q := fun r st => P st ∧ r = window st.x9 ![s.val, c'.val, 0, 0] S1x1x128x512.size (accIn s c'))
    ((slot9 (c := c) (M := M) (X := X)).load fun s h => ⟨h, rfl⟩) fun r => Ht.pure fun s h => h.2 ▸ hQ s h.1

/-- An accumulator buffer that differs from `x` in head `s`, component `cc` alone, where it holds `a`. -/
def Upd (x y : Vec F S2x2x128x512 .f32) (s cc : Fin 2) (a : FVec F S128x512 .f32) : Prop :=
  ∀ s' c', accOf y s' c' = if s' = s ∧ c' = cc then a else accOf x s' c'

theorem addAcc_ht {P : St F → Prop} (s cc : Fin 2) (d : FVec F S128x512 .f32) {Q : PUnit → St F → Prop}
    (hQ : ∀ st, P st → ∀ y, Upd st.x9 y s cc (addf (accOf st.x9 s cc) d) → Q ⟨⟩ { st with x9 := y }) :
    Ht c M X P (addAcc M.a9 s cc d) Q := by
  refine Ht.bind (Q := fun r st => P st ∧ r = window st.x9 ![s.val, cc.val, 0, 0] S1x1x128x512.size (accIn s cc))
    ((slot9 (c := c) (M := M) (X := X)).load fun s h => ⟨h, rfl⟩) fun r => ?_
  refine Ht.bind (Q := fun _ st => P st ∧ r = window st.x9 ![s.val, cc.val, 0, 0] S1x1x128x512.size (accIn s cc))
    ((slot9 (c := c) (M := M) (X := X)).load fun s h => h) fun _ => ?_
  refine (slot9 (c := c) (M := M) (X := X)).store fun st h => ?_
  obtain ⟨h, rfl⟩ := h
  refine hQ st h _ fun s' c' => ?_
  split
  · rename_i hc; obtain ⟨rfl, rfl⟩ := hc; exact accOf_put ..
  · rename_i hc; exact accOf_put_ne _ _ _ _ _ hc _

theorem addHi_ht {P : St F → Prop} (s cc : Fin 2) (d : FVec F S128x256 .f32) {Q : PUnit → St F → Prop}
    (hQ : ∀ st, P st → ∀ y, Upd st.x9 y s cc (widen (accOf st.x9 s cc) d) → Q ⟨⟩ { st with x9 := y }) :
    Ht c M X P (addHi M.a9 s cc d) Q := by
  refine Ht.bind (Q := fun r st => P st ∧ r = window st.x9 ![s.val, cc.val, 0, 256] S1x1x128x256.size (accHiIn s cc))
    ((slot9 (c := c) (M := M) (X := X)).load fun s h => ⟨h, rfl⟩) fun r => ?_
  refine Ht.bind (Q := fun _ st => P st ∧ r = window st.x9 ![s.val, cc.val, 0, 256] S1x1x128x256.size (accHiIn s cc))
    ((slot9 (c := c) (M := M) (X := X)).load fun s h => h) fun _ => ?_
  refine (slot9 (c := c) (M := M) (X := X)).store fun st h => ?_
  obtain ⟨h, rfl⟩ := h
  refine hQ st h _ fun s' c' => ?_
  split
  · rename_i hc; obtain ⟨rfl, rfl⟩ := hc; exact accOf_putHi ..
  · rename_i hc; exact accOf_putHi_ne _ _ _ _ _ hc _

section
variable {P : St F → Prop} {b : BufT} (sl : Slot c M X b) (h9 : ∀ s y, sl.get { s with x9 := y } = sl.get s)
include h9

theorem consF1_ht (s cc : Fin 2) (v : FVec F S128x512 .bf16) (l : FVec F S8x512 .f32) {Q : _ → St F → Prop}
    (hQ : ∀ st, P st → ∀ y, Upd st.x9 y s cc (addf (accOf st.x9 s cc) (pvF v (bufOf (sl.get st) cc))) →
      Q (addf l (sumF (bufOf (sl.get st) cc))) { st with x9 := y }) :
    Ht c M X P (consF1 M.a9 b s cc v l) Q := by
  refine Ht.bind (Q := fun r st => P st ∧ r = window (sl.get st) ![cc.val, 0, 0] S1x512x512.size (bufIn cc)) (sl.load fun s h => ⟨h, rfl⟩) fun r => ?_
  refine Ht.bind (Q := fun _ st => ∃ s0, P s0 ∧ ∃ y, st = { s0 with x9 := y } ∧ r = window (sl.get s0) ![cc.val, 0, 0] S1x512x512.size (bufIn cc)
    ∧ Upd s0.x9 y s cc (addf (accOf s0.x9 s cc) (pvF v (bufOf (sl.get s0) cc)))) (addAcc_ht s cc _ fun st h y hy => ?_) fun _ => Ht.pure fun st h => ?_
  · obtain ⟨h, rfl⟩ := h
    exact ⟨st, h, y, rfl, rfl, hy⟩
  · obtain ⟨s0, h0, y, rfl, rfl, hy⟩ := h
    exact hQ s0 h0 y hy

theorem consD1_ht (s cc : Fin 2) (v : FVec F S128x512 .bf16) (l : FVec F S8x512 .f32) {Q : _ → St F → Prop}
    (hQ : ∀ st, P st → ∀ y, Upd st.x9 y s cc (widen (addf (accOf st.x9 s cc) (pvLo v (loOf (sl.get st) cc))) (pvHi v (hiOf (sl.get st) cc))) →
      Q (addf (addf l (sumLo (loOf (sl.get st) cc))) (sumHi (hiOf (sl.get st) cc))) { st with x9 := y }) :
    Ht c M X P (consD1 M.a9 b s cc v l) Q := by
  refine Ht.bind (Q := fun r st => P st ∧ r = window (sl.get st) ![cc.val, 0, 0] S1x256x512.size (bufLoIn cc)) (sl.load fun s h => ⟨h, rfl⟩) fun r => ?_
  refine Ht.bind (Q := fun r' st => (P st ∧ r = window (sl.get st) ![cc.val, 0, 0] S1x256x512.size (bufLoIn cc))
    ∧ r' = window (sl.get st) ![cc.val, 256, 256] S1x256x256.size (bufHiIn cc)) (sl.load fun s h => ⟨h, rfl⟩) fun r' => ?_
  refine Ht.bind (Q := fun _ st => ∃ s0, P s0 ∧ ∃ y, st = { s0 with x9 := y } ∧ r = window (sl.get s0) ![cc.val, 0, 0] S1x256x512.size (bufLoIn cc)
    ∧ r' = window (sl.get s0) ![cc.val, 256, 256] S1x256x256.size (bufHiIn cc)
    ∧ Upd s0.x9 y s cc (addf (accOf s0.x9 s cc) (pvLo v (loOf (sl.get s0) cc)))) (addAcc_ht s cc _ fun st h y hy => ?_) fun _ => ?_
  · obtain ⟨⟨h, rfl⟩, rfl⟩ := h
    exact ⟨st, h, y, rfl, rfl, rfl, hy⟩
  refine Ht.bind (Q := fun _ st => ∃ s0, P s0 ∧ ∃ y, st = { s0 with x9 := y } ∧ r = window (sl.get s0) ![cc.val, 0, 0] S1x256x512.size (bufLoIn cc)
    ∧ r' = window (sl.get s0) ![cc.val, 256, 256] S1x256x256.size (bufHiIn cc)
    ∧ Upd s0.x9 y s cc (widen (addf (accOf s0.x9 s cc) (pvLo v (loOf (sl.get s0) cc))) (pvHi v (hiOf (sl.get s0) cc))))
    (addHi_ht s cc _ fun st h y hy => ?_) fun _ => Ht.pure fun st h => ?_
  · obtain ⟨s0, h0, y0, rfl, rfl, rfl, hy0⟩ := h
    refine ⟨s0, h0, y, rfl, rfl, rfl, fun s' c' => ?_⟩
    have e := hy s' c'
    have e0 : accOf y0 s cc = addf (accOf s0.x9 s cc) (pvLo v (loOf (sl.get s0) cc)) := (hy0 s cc).trans (if_pos ⟨rfl, rfl⟩)
    change accOf y s' c' = if s' = s ∧ c' = cc then widen (accOf y0 s cc) (pvHi v (hiOf (sl.get s0) cc)) else accOf y0 s' c' at e
    rw [e, e0]
    split
    · rfl
    · rename_i hc; exact (hy0 s' c').trans (if_neg hc)
  · obtain ⟨s0, h0, y, rfl, rfl, rfl, hy⟩ := h
    exact hQ s0 h0 y hy

/-- Both components consumed: head `s` of the accumulator updated. -/
def Upd2 (x y : Vec F S2x2x128x512 .f32) (s : Fin 2) (a : Fin 2 → FVec F S128x512 .f32) : Prop :=
  ∀ s' c', accOf y s' c' = if s' = s then a c' else accOf x s' c'

omit h9 in
theorem Upd.two {x y z : Vec F S2x2x128x512 .f32} {s : Fin 2} {a : Fin 2 → FVec F S128x512 .f32} (h0 : Upd x y s 0 (a 0))
    (h1 : Upd y z s 1 (a 1)) : Upd2 x z s a := by
  intro s' c'
  rw [h1 s' c', h0 s' c']
  match c' with
  | 0 => by_cases h : s' = s <;> simp [h]
  | 1 => by_cases h : s' = s <;> simp [h]

theorem consumeF_ht (s : Fin 2) (v : FVec F S128x512 .bf16) (l0 l1 : FVec F S8x512 .f32) {Q : _ → St F → Prop}
    (hQ : ∀ st, P st → ∀ y, Upd2 st.x9 y s (fun cc => addf (accOf st.x9 s cc) (pvF v (bufOf (sl.get st) cc))) →
      Q (addf l0 (sumF (bufOf (sl.get st) 0)), addf l1 (sumF (bufOf (sl.get st) 1))) { st with x9 := y }) :
    Ht c M X P (consumeF M.a9 b s v l0 l1) Q := by
  refine Ht.bind (Q := fun r st => ∃ s0, P s0 ∧ ∃ y, st = { s0 with x9 := y } ∧ r = addf l0 (sumF (bufOf (sl.get s0) 0))
    ∧ Upd s0.x9 y s 0 (addf (accOf s0.x9 s 0) (pvF v (bufOf (sl.get s0) 0)))) (consF1_ht sl h9 s 0 v l0 fun st h y hy => ⟨st, h, y, rfl, rfl, hy⟩) fun r => ?_
  refine Ht.bind (Q := fun r' st => Q (r, r') st) (consF1_ht sl h9 s 1 v l1 fun st h y hy => ?_) fun r' => Ht.pure fun st h => h
  obtain ⟨s0, h0, y0, rfl, rfl, hy0⟩ := h
  simp only [h9 s0 y0] at hy ⊢
  refine hQ s0 h0 y (Upd.two hy0 ?_)
  have e : accOf y0 s 1 = accOf s0.x9 s 1 := (hy0 s 1).trans (if_neg (by simp))
  intro s' c'
  have := hy s' c'
  rw [this]
  show (if s' = s ∧ c' = 1 then addf (accOf y0 s 1) (pvF v (bufOf (sl.get s0) 1)) else accOf y0 s' c') = _
  rw [e]

theorem consumeD_ht (s : Fin 2) (v : FVec F S128x512 .bf16) (l0 l1 : FVec F S8x512 .f32) {Q : _ → St F → Prop}
    (hQ : ∀ st, P st → ∀ y, Upd2 st.x9 y s (fun cc => widen (addf (accOf st.x9 s cc) (pvLo v (loOf (sl.get st) cc))) (pvHi v (hiOf (sl.get st) cc))) →
      Q (addf (addf l0 (sumLo (loOf (sl.get st) 0))) (sumHi (hiOf (sl.get st) 0)), addf (addf l1 (sumLo (loOf (sl.get st) 1))) (sumHi (hiOf (sl.get st) 1)))
        { st with x9 := y }) :
    Ht c M X P (consumeD M.a9 b s v l0 l1) Q := by
  refine Ht.bind (Q := fun r st => ∃ s0, P s0 ∧ ∃ y, st = { s0 with x9 := y } ∧ r = addf (addf l0 (sumLo (loOf (sl.get s0) 0))) (sumHi (hiOf (sl.get s0) 0))
    ∧ Upd s0.x9 y s 0 (widen (addf (accOf s0.x9 s 0) (pvLo v (loOf (sl.get s0) 0))) (pvHi v (hiOf (sl.get s0) 0))))
    (consD1_ht sl h9 s 0 v l0 fun st h y hy => ⟨st, h, y, rfl, rfl, hy⟩) fun r => ?_
  refine Ht.bind (Q := fun r' st => Q (r, r') st) (consD1_ht sl h9 s 1 v l1 fun st h y hy => ?_) fun r' => Ht.pure fun st h => h
  obtain ⟨s0, h0, y0, rfl, rfl, hy0⟩ := h
  simp only [h9 s0 y0] at hy ⊢
  refine hQ s0 h0 y (Upd.two hy0 ?_)
  have e : accOf y0 s 1 = accOf s0.x9 s 1 := (hy0 s 1).trans (if_neg (by simp))
  intro s' c'
  have := hy s' c'
  rw [this]
  show (if s' = s ∧ c' = 1 then widen (addf (accOf y0 s 1) (pvLo v (loOf (sl.get s0) 1))) (pvHi v (hiOf (sl.get s0) 1)) else accOf y0 s' c') = _
  rw [e]
end

/-! ## A block -/

/-- The accumulators and what the two score buffers are known to hold. -/
def Abs (A : Fin 2 → Fin 2 → FVec F S128x512 .f32) (B10 B11 : Vec F S2x512x512 .f32 → Prop) (s : St F) : Prop :=
  (∀ h cc, accOf s.x9 h cc = A h cc) ∧ B10 s.x10 ∧ B11 s.x11

/-- Row sums by head and component, as the program carries them. -/
def pack (l : Fin 2 → Fin 2 → FVec F S8x512 .f32) : Sums F := (l 0 0, l 0 1, l 1 0, l 1 1)

theorem block_ht {next : BufT → FVec F S512x128 .bf16 → TP F PUnit}
    {o1 : Fin 3 → ℕ} {h1 : ∀ a, o1 a + S1x512x128.size a ≤ S1x16384x256.size a}
    {o2 : Fin 4 → ℕ} {h2 : ∀ a, o2 a + S1x1x128x512.size a ≤ S1x32x256x512.size a}
    {o3 : Fin 3 → ℕ} {h3 : ∀ a, o3 a + S1x512x128.size a ≤ S1x16384x256.size a}
    {o4 : Fin 4 → ℕ} {h4 : ∀ a, o4 a + S1x1x128x512.size a ≤ S1x32x256x512.size a}
    (q1 : Fin 2 → FVec F S128x512 .bf16) (A : Fin 2 → Fin 2 → FVec F S128x512 .f32) (L : Fin 2 → Fin 2 → FVec F S8x512 .f32)
    (Z : Fin 2 → FVec F S512x512 .f32) (N : Vec F S2x512x512 .f32 → Prop)
    (hn : ∀ (P : St F → Prop) (Q : PUnit → St F → Prop), (∀ s, P s → ∀ x, N x → Q ⟨⟩ { s with x10 := x }) → Ht c M X P (next M.a10 (kAt X.x5 o3 h3)) Q) :
    Ht c M X (Abs A (Full Z) (fun _ => True))
      (block M.a5 M.a6 M.a9 M.a10 M.a11 next o1 h1 o2 h2 o3 h3 o4 h4 (q1 0) (q1 1) (pack L))
      (fun r s => r = pack (fun s cc => addf (L s cc) (sumF (if s = 0 then Z cc else dotF (kAt X.x5 o1 h1) (q1 cc))))
        ∧ Abs (fun s cc => addf (A s cc) (pvF (if s = 0 then vAt X.x6 o2 h2 else vAt X.x6 o4 h4) (if s = 0 then Z cc else dotF (kAt X.x5 o1 h1) (q1 cc)))) N (fun _ => True) s) := by
  refine Ht.bind (getK_ht (Q := fun r s => Abs A (Full Z) (fun _ => True) s ∧ r = kAt X.x5 o1 h1) fun s h => ⟨h, rfl⟩) fun K1 => ?_
  refine Ht.bind (Q := fun _ s => Abs A (Full Z) (Full fun cc => dotF (kAt X.x5 o1 h1) (q1 cc)) s)
    (scoresF_ht (slot11 (c := c) (M := M) (X := X)) K1 q1 fun s h x hx => ?_) fun _ => ?_
  · obtain ⟨h, rfl⟩ := h
    exact ⟨h.1, h.2.1, hx⟩
  refine Ht.bind (getV_ht (Q := fun r s => Abs A (Full Z) (Full fun cc => dotF (kAt X.x5 o1 h1) (q1 cc)) s ∧ r = vAt X.x6 o2 h2) fun s h => ⟨h, rfl⟩) fun V0 => ?_
  refine Ht.bind (Q := fun r s => r = (addf (L 0 0) (sumF (Z 0)), addf (L 0 1) (sumF (Z 1)))
      ∧ Abs (fun s cc => if s = 0 then addf (A s cc) (pvF (vAt X.x6 o2 h2) (Z cc)) else A s cc) (fun _ => True) (Full fun cc => dotF (kAt X.x5 o1 h1) (q1 cc)) s)
    (consumeF_ht (slot10 (c := c) (M := M) (X := X)) (fun _ _ => rfl) 0 V0 _ _ fun s h y hy => ?_) fun x => ?_
  · obtain ⟨⟨hA, hZ, hN⟩, rfl⟩ := h
    refine ⟨?_, fun s' c' => ?_, trivial, hN⟩
    · show (addf _ (sumF (bufOf s.x10 0)), addf _ (sumF (bufOf s.x10 1))) = _
      rw [hZ 0, hZ 1]; rfl
    · refine (hy s' c').trans ?_
      split
      · rename_i e; subst e
        show addf (accOf s.x9 0 c') (pvF _ (bufOf s.x10 c')) = _
        rw [hA, hZ c']
        exact (if_pos rfl).symm
      · rename_i e; exact (hA s' c').trans (if_neg e).symm
  refine Ht.bind (getK_ht (Q := fun r s => (x = (addf (L 0 0) (sumF (Z 0)), addf (L 0 1) (sumF (Z 1)))
      ∧ Abs (fun s cc => if s = 0 then addf (A s cc) (pvF (vAt X.x6 o2 h2) (Z cc)) else A s cc) (fun _ => True) (Full fun cc => dotF (kAt X.x5 o1 h1) (q1 cc)) s)
      ∧ r = kAt X.x5 o3 h3) fun s h => ⟨h, rfl⟩) fun K0 => ?_
  refine Ht.bind (Q := fun _ s => x = (addf (L 0 0) (sumF (Z 0)), addf (L 0 1) (sumF (Z 1)))
      ∧ Abs (fun s cc => if s = 0 then addf (A s cc) (pvF (vAt X.x6 o2 h2) (Z cc)) else A s cc) N (Full fun cc => dotF (kAt X.x5 o1 h1) (q1 cc)) s) ?_ fun _ => ?_
  · intro s h
    obtain ⟨h', rfl⟩ := h
    exact hn (fun s => x = (addf (L 0 0) (sumF (Z 0)), addf (L 0 1) (sumF (Z 1)))
      ∧ Abs (fun s cc => if s = 0 then addf (A s cc) (pvF (vAt X.x6 o2 h2) (Z cc)) else A s cc) (fun _ => True) (Full fun cc => dotF (kAt X.x5 o1 h1) (q1 cc)) s)
      _ (fun s h x hx => ⟨h.1, h.2.1, hx, h.2.2.2⟩) s h'
  refine Ht.bind (getV_ht (Q := fun r s => (x = (addf (L 0 0) (sumF (Z 0)), addf (L 0 1) (sumF (Z 1)))
      ∧ Abs (fun s cc => if s = 0 then addf (A s cc) (pvF (vAt X.x6 o2 h2) (Z cc)) else A s cc) N (Full fun cc => dotF (kAt X.x5 o1 h1) (q1 cc)) s)
      ∧ r = vAt X.x6 o4 h4) fun s h => ⟨h, rfl⟩) fun V1 => ?_
  refine Ht.bind (Q := fun r s => (x = (addf (L 0 0) (sumF (Z 0)), addf (L 0 1) (sumF (Z 1)))
      ∧ r = (addf (L 1 0) (sumF (dotF (kAt X.x5 o1 h1) (q1 0))), addf (L 1 1) (sumF (dotF (kAt X.x5 o1 h1) (q1 1)))))
      ∧ Abs (fun s cc => addf (A s cc) (pvF (if s = 0 then vAt X.x6 o2 h2 else vAt X.x6 o4 h4) (if s = 0 then Z cc else dotF (kAt X.x5 o1 h1) (q1 cc)))) N (fun _ => True) s)
    (consumeF_ht (slot11 (c := c) (M := M) (X := X)) (fun _ _ => rfl) 1 V1 _ _ fun s h y hy => ?_) fun x' => Ht.pure fun s h => ?_
  · obtain ⟨⟨hx, hA, hZ, hN⟩, rfl⟩ := h
    refine ⟨⟨hx, ?_⟩, fun s' c' => ?_, hZ, trivial⟩
    · show (addf _ (sumF (bufOf s.x11 0)), addf _ (sumF (bufOf s.x11 1))) = _
      rw [hN 0, hN 1]; rfl
    · refine (hy s' c').trans ?_
      by_cases e : s' = 0
      · subst e
        rw [if_neg (by decide)]
        refine (hA 0 c').trans ?_
        simp
      · obtain rfl : s' = 1 := by omega
        rw [if_pos rfl]
        show addf (accOf s.x9 1 c') (pvF _ (bufOf s.x11 c')) = _
        rw [hA, hN c']
        simp
  · obtain ⟨⟨rfl, rfl⟩, h⟩ := h
    exact ⟨rfl, h⟩

theorem diag_ht {o1 : Fin 3 → ℕ} {h1 : ∀ a, o1 a + S1x512x128.size a ≤ S1x16384x256.size a}
    {o2 : Fin 4 → ℕ} {h2 : ∀ a, o2 a + S1x1x128x512.size a ≤ S1x32x256x512.size a}
    {o4 : Fin 4 → ℕ} {h4 : ∀ a, o4 a + S1x1x128x512.size a ≤ S1x32x256x512.size a}
    (q1 : Fin 2 → FVec F S128x512 .bf16) (A : Fin 2 → Fin 2 → FVec F S128x512 .f32) (L : Fin 2 → Fin 2 → FVec F S8x512 .f32)
    (zl : Fin 2 → FVec F S256x512 .f32) (zh : Fin 2 → FVec F S256x256 .f32) :
    Ht c M X (Abs A (Diag zl zh) (fun _ => True))
      (diag M.a5 M.a6 M.a9 M.a10 M.a11 o1 h1 o2 h2 o4 h4 (q1 0) (q1 1) (pack L))
      (fun r s => r = pack (fun s cc => addf (addf (L s cc) (sumLo (if s = 0 then zl cc else dotLo (kAt X.x5 o1 h1) (q1 cc))))
          (sumHi (if s = 0 then zh cc else dotHi (kAt X.x5 o1 h1) (q1 cc))))
        ∧ Abs (fun s cc => widen (addf (A s cc) (pvLo (if s = 0 then vAt X.x6 o2 h2 else vAt X.x6 o4 h4) (if s = 0 then zl cc else dotLo (kAt X.x5 o1 h1) (q1 cc))))
          (pvHi (if s = 0 then vAt X.x6 o2 h2 else vAt X.x6 o4 h4) (if s = 0 then zh cc else dotHi (kAt X.x5 o1 h1) (q1 cc)))) (fun _ => True) (fun _ => True) s) := by
  refine Ht.bind (getK_ht (Q := fun r s => Abs A (Diag zl zh) (fun _ => True) s ∧ r = kAt X.x5 o1 h1) fun s h => ⟨h, rfl⟩) fun K1 => ?_
  refine Ht.bind (Q := fun _ s => Abs A (Diag zl zh) (Diag (fun cc => dotLo (kAt X.x5 o1 h1) (q1 cc)) (fun cc => dotHi (kAt X.x5 o1 h1) (q1 cc))) s)
    (scoresD_ht (slot11 (c := c) (M := M) (X := X)) K1 q1 fun s h x hx => ?_) fun _ => ?_
  · obtain ⟨h, rfl⟩ := h
    exact ⟨h.1, h.2.1, hx⟩
  refine Ht.bind (getV_ht (Q := fun r s => Abs A (Diag zl zh) (Diag (fun cc => dotLo (kAt X.x5 o1 h1) (q1 cc)) (fun cc => dotHi (kAt X.x5 o1 h1) (q1 cc))) s
    ∧ r = vAt X.x6 o2 h2) fun s h => ⟨h, rfl⟩) fun V0 => ?_
  refine Ht.bind (Q := fun r s => r = (addf (addf (L 0 0) (sumLo (zl 0))) (sumHi (zh 0)), addf (addf (L 0 1) (sumLo (zl 1))) (sumHi (zh 1)))
      ∧ Abs (fun s cc => if s = 0 then widen (addf (A s cc) (pvLo (vAt X.x6 o2 h2) (zl cc))) (pvHi (vAt X.x6 o2 h2) (zh cc)) else A s cc) (fun _ => True)
        (Diag (fun cc => dotLo (kAt X.x5 o1 h1) (q1 cc)) (fun cc => dotHi (kAt X.x5 o1 h1) (q1 cc))) s)
    (consumeD_ht (slot10 (c := c) (M := M) (X := X)) (fun _ _ => rfl) 0 V0 _ _ fun s h y hy => ?_) fun x => ?_
  · obtain ⟨⟨hA, hZ, hN⟩, rfl⟩ := h
    refine ⟨?_, fun s' c' => ?_, trivial, hN⟩
    · show (addf (addf _ (sumLo (loOf s.x10 0))) (sumHi (hiOf s.x10 0)), addf (addf _ (sumLo (loOf s.x10 1))) (sumHi (hiOf s.x10 1))) = _
      rw [(hZ 0).1, (hZ 1).1, (hZ 0).2, (hZ 1).2]; rfl
    · refine (hy s' c').trans ?_
      split
      · rename_i e; subst e
        show widen (addf (accOf s.x9 0 c') (pvLo _ (loOf s.x10 c'))) (pvHi _ (hiOf s.x10 c')) = _
        rw [hA, (hZ c').1, (hZ c').2]
        exact (if_pos rfl).symm
      · rename_i e; exact (hA s' c').trans (if_neg e).symm
  refine Ht.bind (getV_ht (Q := fun r s => (x = (addf (addf (L 0 0) (sumLo (zl 0))) (sumHi (zh 0)), addf (addf (L 0 1) (sumLo (zl 1))) (sumHi (zh 1)))
      ∧ Abs (fun s cc => if s = 0 then widen (addf (A s cc) (pvLo (vAt X.x6 o2 h2) (zl cc))) (pvHi (vAt X.x6 o2 h2) (zh cc)) else A s cc) (fun _ => True)
        (Diag (fun cc => dotLo (kAt X.x5 o1 h1) (q1 cc)) (fun cc => dotHi (kAt X.x5 o1 h1) (q1 cc))) s)
      ∧ r = vAt X.x6 o4 h4) fun s h => ⟨h, rfl⟩) fun V1 => ?_
  refine Ht.bind (Q := fun r s => (x = (addf (addf (L 0 0) (sumLo (zl 0))) (sumHi (zh 0)), addf (addf (L 0 1) (sumLo (zl 1))) (sumHi (zh 1)))
      ∧ r = (addf (addf (L 1 0) (sumLo (dotLo (kAt X.x5 o1 h1) (q1 0)))) (sumHi (dotHi (kAt X.x5 o1 h1) (q1 0))),
        addf (addf (L 1 1) (sumLo (dotLo (kAt X.x5 o1 h1) (q1 1)))) (sumHi (dotHi (kAt X.x5 o1 h1) (q1 1)))))
      ∧ Abs (fun s cc => widen (addf (A s cc) (pvLo (if s = 0 then vAt X.x6 o2 h2 else vAt X.x6 o4 h4) (if s = 0 then zl cc else dotLo (kAt X.x5 o1 h1) (q1 cc))))
          (pvHi (if s = 0 then vAt X.x6 o2 h2 else vAt X.x6 o4 h4) (if s = 0 then zh cc else dotHi (kAt X.x5 o1 h1) (q1 cc)))) (fun _ => True) (fun _ => True) s)
    (consumeD_ht (slot11 (c := c) (M := M) (X := X)) (fun _ _ => rfl) 1 V1 _ _ fun s h y hy => ?_) fun x' => Ht.pure fun s h => ?_
  · obtain ⟨⟨hx, hA, hZ, hN⟩, rfl⟩ := h
    refine ⟨⟨hx, ?_⟩, fun s' c' => ?_, hZ, trivial⟩
    · show (addf (addf _ (sumLo (loOf s.x11 0))) (sumHi (hiOf s.x11 0)), addf (addf _ (sumLo (loOf s.x11 1))) (sumHi (hiOf s.x11 1))) = _
      rw [(hN 0).1, (hN 1).1, (hN 0).2, (hN 1).2]; rfl
    · refine (hy s' c').trans ?_
      by_cases e : s' = 0
      · subst e
        rw [if_neg (by decide)]
        refine (hA 0 c').trans ?_
        simp
      · obtain rfl : s' = 1 := by omega
        rw [if_pos rfl]
        show widen (addf (accOf s.x9 1 c') (pvLo _ (loOf s.x11 c'))) (pvHi _ (hiOf s.x11 c')) = _
        rw [hA, (hN c').1, (hN c').2]
        simp
  · obtain ⟨⟨rfl, rfl⟩, h⟩ := h
    exact ⟨rfl, h⟩

end Cert.Attn

end
-- ==== Proof.Offsets.lean ====
/-
  The printed offsets, trip counts and conditions in closed form, in the query block's number.
-/
module

public import proofs.«01_k».proof.Proof.Reads

@[expose] public section

set_option maxRecDepth 16384

noncomputable section

namespace Cert.Attn

open Cert.KernelIdeal Cert.KernelIdeal.Gen
open Idealize.ShloMosaic Idealize.ShloMosaic.TcCoe

/-- A grid point of query block `m`. -/
def at2 (m : Fin 32) : grid0.Coords := fun a => match a with
  | ⟨0, _⟩ => (0 : Fin 2)
  | ⟨1, _⟩ => (0 : Fin 4)
  | ⟨2, _⟩ => m

theorem trips_at : ∀ m : Fin 32, (k0_t1_loop (at2 m)).trips = m.val / 4 := by decide +kernel
theorem cond1_at : ∀ m : Fin 32, k0_cond1 (at2 m) = 1#1 ↔ m.val % 4 ≠ 0 := by decide +kernel
theorem cond2_at : ∀ m : Fin 32, k0_cond2 (at2 m) = 1#1 ↔ m.val % 4 ≠ 1 := by decide +kernel
theorem cond3_at : ∀ m : Fin 32, k0_cond3 (at2 m) = 1#1 ↔ m.val % 4 ≠ 2 := by decide +kernel

theorem off9_at : ∀ m : Fin 32, ∀ c : Fin 4, k0_off9 (at2 m) (BitVec.ofNat 32 c.val) = ![0, 512 * (4 * (m.val / 4) + c.val), 128] := by decide +kernel
theorem off10_at : ∀ m : Fin 32, ∀ c : Fin 4, k0_off10 (at2 m) (BitVec.ofNat 32 c.val) = ![0, 4 * (m.val / 4) + c.val, 0, 0] := by decide +kernel
theorem off11_at : ∀ m : Fin 32, ∀ c : Fin 4, k0_off11 (at2 m) (BitVec.ofNat 32 c.val) = ![0, 512 * (4 * (m.val / 4) + c.val), 0] := by decide +kernel
theorem off12_at : ∀ m : Fin 32, ∀ c : Fin 4, k0_off12 (at2 m) (BitVec.ofNat 32 c.val) = ![0, 4 * (m.val / 4) + c.val, 128, 0] := by decide +kernel
theorem off13_at : ∀ m : Fin 32, ∀ c : Fin 4, k0_off13 (at2 m) (BitVec.ofNat 32 c.val) = ![0, 512 * (4 * (m.val / 4) + c.val), 128] := by decide +kernel
theorem off14_at : ∀ m : Fin 32, ∀ c : Fin 4, k0_off14 (at2 m) (BitVec.ofNat 32 c.val) = ![0, 4 * (m.val / 4) + c.val, 0, 0] := by decide +kernel
theorem off15_at : ∀ m : Fin 32, ∀ c : Fin 4, k0_off15 (at2 m) (BitVec.ofNat 32 c.val) = ![0, 512 * (4 * (m.val / 4) + c.val), 0] := by decide +kernel
theorem off16_at : ∀ m : Fin 32, ∀ c : Fin 4, k0_off16 (at2 m) (BitVec.ofNat 32 c.val) = ![0, 4 * (m.val / 4) + c.val, 128, 0] := by decide +kernel
theorem off17_at : ∀ m : Fin 32, ∀ c : Fin 4, k0_off17 (at2 m) (BitVec.ofNat 32 c.val) = ![0, 512 * (4 * (m.val / 4) + c.val), 128] := by decide +kernel
theorem off18_at : ∀ m : Fin 32, ∀ c : Fin 4, k0_off18 (at2 m) (BitVec.ofNat 32 c.val) = ![0, 4 * (m.val / 4) + c.val, 0, 0] := by decide +kernel
theorem off19_at : ∀ m : Fin 32, k0_off19 (at2 m) = ![0, 512 * (4 * (m.val / 4) + 1), 0] := by decide +kernel
theorem off20_at : ∀ m : Fin 32, ∀ c : Fin 4, k0_off20 (at2 m) (BitVec.ofNat 32 c.val) = ![0, 4 * (m.val / 4) + c.val, 128, 0] := by decide +kernel
theorem off21_at : ∀ m : Fin 32, k0_off21 (at2 m) = ![0, 512 * (4 * (m.val / 4)), 128] := by decide +kernel
theorem off22_at : ∀ m : Fin 32, k0_off22 (at2 m) = ![0, 4 * (m.val / 4), 0, 0] := by decide +kernel
theorem off23_at : ∀ m : Fin 32, k0_off23 (at2 m) = ![0, 4 * (m.val / 4), 128, 0] := by decide +kernel

/-- The main loop's key row and value block, by trip and unrolled step. -/
def rowW (k : ℕ) (c : BitVec 32) : ℕ :=
  (Scalar.indexCast (Scalar.muli (Scalar.addi (Scalar.muli 4#32 (Scf.iv 0#32 1#32 k)) c) 512#32)).toNat
def blkW (k : ℕ) (c : BitVec 32) : ℕ := (Scalar.indexCast (Scalar.addi (Scalar.muli 4#32 (Scf.iv 0#32 1#32 k)) c)).toNat
theorem rowW_eq : ∀ k : Fin 8, ∀ c : Fin 5, rowW k.val (BitVec.ofNat 32 c.val) = 512 * (4 * k.val + c.val) := by decide +kernel
theorem blkW_eq : ∀ k : Fin 8, ∀ c : Fin 5, blkW k.val (BitVec.ofNat 32 c.val) = 4 * k.val + c.val := by decide +kernel

variable (i : grid0.Coords)

theorem trips_eq : (k0_t1_loop i).trips = (i 2).val / 4 := trips_at (i 2)
theorem cond1_iff : k0_cond1 i = 1#1 ↔ (i 2).val % 4 ≠ 0 := cond1_at (i 2)
theorem cond2_iff : k0_cond2 i = 1#1 ↔ (i 2).val % 4 ≠ 1 := cond2_at (i 2)
theorem cond3_iff : k0_cond3 i = 1#1 ↔ (i 2).val % 4 ≠ 2 := cond3_at (i 2)

section
variable (k : Fin (k0_t1_loop i).trips) (c : Fin 5)
theorem trip_lt : k.val < 8 := by
  have := k.isLt
  have h := trips_eq i
  have h2 : (i 2).val < 32 := (i 2).isLt
  omega
theorem off1_eq : k0_off1 i k (BitVec.ofNat 32 c.val) = ![0, 512 * (4 * k.val + c.val), 128] :=
  (congrArg (fun n => (![0, n, 128] : Fin 3 → ℕ)) (rowW_eq ⟨k.val, trip_lt i k⟩ c) :)
theorem off2_eq : k0_off2 i k (BitVec.ofNat 32 c.val) = ![0, 4 * k.val + c.val, 0, 0] :=
  (congrArg (fun n => (![0, n, 0, 0] : Fin 4 → ℕ)) (blkW_eq ⟨k.val, trip_lt i k⟩ c) :)
theorem off3_eq : k0_off3 i k (BitVec.ofNat 32 c.val) = ![0, 512 * (4 * k.val + c.val), 0] :=
  (congrArg (fun n => (![0, n, 0] : Fin 3 → ℕ)) (rowW_eq ⟨k.val, trip_lt i k⟩ c) :)
theorem off4_eq : k0_off4 i k (BitVec.ofNat 32 c.val) = ![0, 4 * k.val + c.val, 128, 0] :=
  (congrArg (fun n => (![0, n, 128, 0] : Fin 4 → ℕ)) (blkW_eq ⟨k.val, trip_lt i k⟩ c) :)
end

end Cert.Attn

end
-- ==== Proof.Whole.lean ====
/-
  What a grid point computes from its input blocks, for any float values, and the whole body's triple.
-/
module

public import proofs.«01_k».proof.Proof.Run
public import proofs.«01_k».proof.Proof.Offsets

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-! ## The values -/

theorem kIn (s : Fin 2) (j : ℕ) : ∀ a, (![0, 512 * (j % 32), 128 * s.val] : Fin 3 → ℕ) a + S1x512x128.size a ≤ S1x16384x256.size a := by
  have hs := s.isLt
  have hj := Nat.mod_lt j (show 0 < 32 by norm_num)
  intro a
  match a with
  | ⟨0, _⟩ => show 0 + 1 ≤ 1; omega
  | ⟨1, _⟩ => show 512 * (j % 32) + 512 ≤ 16384; omega
  | ⟨2, _⟩ => show 128 * s.val + 128 ≤ 256; omega
theorem vIn (s : Fin 2) (j : ℕ) : ∀ a, (![0, j % 32, 128 * s.val, 0] : Fin 4 → ℕ) a + S1x1x128x512.size a ≤ S1x32x256x512.size a := by
  have hs := s.isLt
  have hj := Nat.mod_lt j (show 0 < 32 by norm_num)
  intro a
  match a with
  | ⟨0, _⟩ => show 0 + 1 ≤ 1; omega
  | ⟨1, _⟩ => show j % 32 + 1 ≤ 32; omega
  | ⟨2, _⟩ => show 128 * s.val + 128 ≤ 256; omega
  | ⟨3, _⟩ => show 0 + 512 ≤ 512; omega
theorem qIn (s : Fin 2) : ∀ a, (![0, 0, 128 * s.val, 0] : Fin 4 → ℕ) a + S1x1x128x512.size a ≤ S1x1x256x512.size a := by
  have hs := s.isLt
  intro a
  match a with
  | ⟨0, _⟩ => show 0 + 1 ≤ 1; omega
  | ⟨1, _⟩ => show 0 + 1 ≤ 1; omega
  | ⟨2, _⟩ => show 128 * s.val + 128 ≤ 256; omega
  | ⟨3, _⟩ => show 0 + 512 ≤ 512; omega

section
variable (X : Ins F)

/-- Head `s`'s key block `j` and value block `j`. -/
def Kb (s : Fin 2) (j : ℕ) : FVec F S512x128 .bf16 := kAt X.x5 ![0, 512 * (j % 32), 128 * s.val] (kIn s j)
def Vb (s : Fin 2) (j : ℕ) : FVec F S128x512 .bf16 := vAt X.x6 ![0, j % 32, 128 * s.val, 0] (vIn s j)
/-- Head `s`'s queries of component `cc`, the other's rows cleared. -/
def Qc (s cc : Fin 2) : FVec F S128x512 .bf16 :=
  (if cc = 0 then qc0 else qc1) (shapeCast S128x512 (window X.x4 ![0, 0, 128 * s.val, 0] S1x1x128x512.size (qIn s)) shapeCasts_S1x1x128x512_S128x512)
/-- The scores against key block `j`. -/
def Zb (s cc : Fin 2) (j : ℕ) : FVec F S512x512 .f32 := dotF (Kb X s j) (Qc X s cc)

/-- The accumulator and the row sums after `n` whole blocks. -/
def AccN (s cc : Fin 2) : ℕ → FVec F S128x512 .f32
  | 0 => broadcast S128x512 (Scalar.ofBits .f32 0x00000000#32)
  | n + 1 => addf (AccN s cc n) (pvF (Vb X s n) (Zb X s cc n))
def SumN (s cc : Fin 2) : ℕ → FVec F S8x512 .f32
  | 0 => broadcast S8x512 (Scalar.ofBits .f32 0x00000000#32)
  | n + 1 => addf (SumN s cc n) (sumF (Zb X s cc n))

/-- The diagonal block's scores: the upper half and the lower right quarter, cut from the whole block where that is what the buffer holds. -/
def zLo (s cc : Fin 2) (j : ℕ) : FVec F S256x512 .f32 := if s = 0 ∧ j % 4 = 0 then upper (Zb X s cc j) else dotLo (Kb X s j) (Qc X s cc)
def zHi (s cc : Fin 2) (j : ℕ) : FVec F S256x256 .f32 := if s = 0 ∧ j % 4 = 0 then quarter (Zb X s cc j) else dotHi (Kb X s j) (Qc X s cc)

/-- The accumulator and the row sums of query block `j`. -/
def AccD (s cc : Fin 2) (j : ℕ) : FVec F S128x512 .f32 :=
  widen (addf (AccN X s cc j) (pvLo (Vb X s j) (zLo X s cc j))) (pvHi (Vb X s j) (zHi X s cc j))
def SumD (s cc : Fin 2) (j : ℕ) : FVec F S8x512 .f32 :=
  addf (addf (SumN X s cc j) (sumLo (zLo X s cc j))) (sumHi (zHi X s cc j))

/-- Head `s`'s result. -/
def outH (s : Fin 2) (j : ℕ) : FVec F S1x512x128 .bf16 :=
  finish (X.x3 (ix2 0 0)) X.x7 (AccD X s 0 j) (AccD X s 1 j) (total (SumD X s 0 j)) (total (SumD X s 1 j))

/-- The output block. -/
def outX (j : ℕ) : Vec F S1x512x256 .bf16 :=
  put (put (fun _ => Scalar.ofBits .bf16 0x0000#16) ![0, 0, 0] S1x512x128.size (outH X 0 j)) ![0, 0, 128] S1x512x128.size (outH X 1 j)

theorem put_outX (x : Vec F S1x512x256 .bf16) (j : ℕ) :
    put (put x ![0, 0, 0] S1x512x128.size (outH X 0 j)) ![0, 0, 128] S1x512x128.size (outH X 1 j) = outX X j := by
  unfold outX
  funext y
  unfold put
  have h0 := (y 0).isLt
  have h1 := (y 1).isLt
  have h2 := (y 2).isLt
  change (y 0).val < 1 at h0
  change (y 1).val < 512 at h1
  change (y 2).val < 256 at h2
  by_cases h : (y 2).val < 128
  · have e : ∀ a : Fin 3, (![0, 0, 0] : Fin 3 → ℕ) a ≤ (y a).val ∧ (y a).val < (![0, 0, 0] : Fin 3 → ℕ) a + S1x512x128.size a := by
      intro a
      match a with
      | ⟨0, _⟩ => exact ⟨Nat.zero_le _, show (y 0).val < 0 + 1 by omega⟩
      | ⟨1, _⟩ => exact ⟨Nat.zero_le _, show (y 1).val < 0 + 512 by omega⟩
      | ⟨2, _⟩ => exact ⟨Nat.zero_le _, show (y 2).val < 0 + 128 by omega⟩
    congr 1
    rw [dif_pos e, dif_pos e]
  · have e : ∀ a : Fin 3, (![0, 0, 128] : Fin 3 → ℕ) a ≤ (y a).val ∧ (y a).val < (![0, 0, 128] : Fin 3 → ℕ) a + S1x512x128.size a := by
      intro a
      match a with
      | ⟨0, _⟩ => exact ⟨Nat.zero_le _, show (y 0).val < 0 + 1 by omega⟩
      | ⟨1, _⟩ => exact ⟨Nat.zero_le _, show (y 1).val < 0 + 512 by omega⟩
      | ⟨2, _⟩ => exact ⟨show 128 ≤ (y 2).val by omega, show (y 2).val < 128 + 128 by omega⟩
    rw [dif_pos e, dif_pos e]
end

/-! ## From block to block -/

theorem kAt_congr (x : Vec F S1x16384x256 .bf16) {o o' : Fin 3 → ℕ} (h : o = o') (ho) (ho') : kAt x o ho = kAt x o' ho' := by subst h; rfl
theorem vAt_congr (x : Vec F S1x32x256x512 .bf16) {o o' : Fin 4 → ℕ} (h : o = o') (ho) (ho') : vAt x o ho = vAt x o' ho' := by subst h; rfl

variable {c : Dev nD} {M : Mems} {X : Ins F}

theorem kAt_Kb (s : Fin 2) (j : ℕ) (hj : j < 32) {o : Fin 3 → ℕ} (h : o = ![0, 512 * j, 128 * s.val]) (ho) : kAt X.x5 o ho = Kb X s j :=
  kAt_congr _ (by rw [h, Nat.mod_eq_of_lt hj]) _ _
theorem vAt_Vb (s : Fin 2) (j : ℕ) (hj : j < 32) {o : Fin 4 → ℕ} (h : o = ![0, j, 128 * s.val, 0]) (ho) : vAt X.x6 o ho = Vb X s j :=
  vAt_congr _ (by rw [h, Nat.mod_eq_of_lt hj]) _ _

/-- Before a block: `n` blocks consumed and head 0's scores against block `n` in the first buffer; whole, or the diagonal's parts. -/
def AtF (X : Ins F) (n : ℕ) : St F → Prop := Abs (fun s cc => AccN X s cc n) (Full fun cc => Zb X 0 cc n) fun _ => True
def AtD (X : Ins F) (n : ℕ) : St F → Prop :=
  Abs (fun s cc => AccN X s cc n) (Diag (fun cc => dotLo (Kb X 0 n) (Qc X 0 cc)) (fun cc => dotHi (Kb X 0 n) (Qc X 0 cc))) fun _ => True
def AtE (X : Ins F) (n : ℕ) : St F → Prop := Abs (fun s cc => AccD X s cc n) (fun _ => True) fun _ => True

def sums (X : Ins F) (n : ℕ) : Sums F := pack fun s cc => SumN X s cc n
def sumsD (X : Ins F) (n : ℕ) : Sums F := pack fun s cc => SumD X s cc n

theorem Ht.given {β : Type} {a : Prop} {P : St F → Prop} {p : TP F β} {Q : β → St F → Prop} (h : a → Ht c M X P p Q) :
    Ht c M X (fun s => a ∧ P s) p Q := fun s hs => h hs.1 s hs.2

section
variable {o1 : Fin 3 → ℕ} {h1 : ∀ a, o1 a + S1x512x128.size a ≤ S1x16384x256.size a}
    {o2 : Fin 4 → ℕ} {h2 : ∀ a, o2 a + S1x1x128x512.size a ≤ S1x32x256x512.size a}
    {o3 : Fin 3 → ℕ} {h3 : ∀ a, o3 a + S1x512x128.size a ≤ S1x16384x256.size a}
    {o4 : Fin 4 → ℕ} {h4 : ∀ a, o4 a + S1x1x128x512.size a ≤ S1x32x256x512.size a}
    (n : ℕ) (hn : n + 1 < 32) (e1 : o1 = ![0, 512 * n, 128]) (e2 : o2 = ![0, n, 0, 0]) (e3 : o3 = ![0, 512 * (n + 1), 0]) (e4 : o4 = ![0, n, 128, 0])
include hn e1 e2 e4

theorem sums_step (N : Vec F S2x512x512 .f32 → Prop) (r : Sums F) (s : St F)
    (h : r = pack (fun s cc => addf (SumN X s cc n) (sumF (if s = 0 then Zb X 0 cc n else dotF (kAt X.x5 o1 h1) (Qc X 1 cc))))
        ∧ Abs (fun s cc => addf (AccN X s cc n) (pvF (if s = 0 then vAt X.x6 o2 h2 else vAt X.x6 o4 h4) (if s = 0 then Zb X 0 cc n else dotF (kAt X.x5 o1 h1) (Qc X 1 cc)))) N (fun _ => True) s) :
    r = sums X (n + 1) ∧ Abs (fun s cc => AccN X s cc (n + 1)) N (fun _ => True) s := by
  rw [kAt_Kb (X := X) 1 n (by omega) e1, vAt_Vb (X := X) 0 n (by omega) e2, vAt_Vb (X := X) 1 n (by omega) e4] at h
  obtain ⟨rfl, hA, hN, _⟩ := h
  refine ⟨rfl, fun s' cc => (hA s' cc).trans ?_, hN, trivial⟩
  match s' with
  | 0 => rfl
  | 1 => rfl

include e3

theorem blockF_ht : Ht c M X (AtF X n) (block M.a5 M.a6 M.a9 M.a10 M.a11 (fun b K => scoresF b K (Qc X 0 0) (Qc X 0 1)) o1 h1 o2 h2 o3 h3 o4 h4 (Qc X 1 0) (Qc X 1 1) (sums X n))
    (fun r s => r = sums X (n + 1) ∧ AtF X (n + 1) s) :=
  Ht.mono (hP := fun _ h => h) (hp := block_ht (Qc X 1) (fun s cc => AccN X s cc n) (fun s cc => SumN X s cc n) (fun cc => Zb X 0 cc n) (Full fun cc => Zb X 0 cc (n + 1))
    fun P Q hQ => scoresF_ht (slot10 (c := c) (M := M) (X := X)) _ (Qc X 0) fun s h x hx => hQ s h x (by
      rw [kAt_Kb (X := X) 0 (n + 1) hn e3] at hx; exact hx)) (hQ := fun r s h => sums_step n hn e1 e2 e4 _ r s h)

theorem blockD_ht : Ht c M X (AtF X n) (block M.a5 M.a6 M.a9 M.a10 M.a11 (fun b K => scoresD b K (Qc X 0 0) (Qc X 0 1)) o1 h1 o2 h2 o3 h3 o4 h4 (Qc X 1 0) (Qc X 1 1) (sums X n))
    (fun r s => r = sums X (n + 1) ∧ AtD X (n + 1) s) :=
  Ht.mono (hP := fun _ h => h) (hp := block_ht (Qc X 1) (fun s cc => AccN X s cc n) (fun s cc => SumN X s cc n) (fun cc => Zb X 0 cc n)
    (Diag (fun cc => dotLo (Kb X 0 (n + 1)) (Qc X 0 cc)) (fun cc => dotHi (Kb X 0 (n + 1)) (Qc X 0 cc)))
    fun P Q hQ => scoresD_ht (slot10 (c := c) (M := M) (X := X)) _ (Qc X 0) fun s h x hx => hQ s h x (by
      rw [kAt_Kb (X := X) 0 (n + 1) hn e3] at hx; exact hx)) (hQ := fun r s h => sums_step n hn e1 e2 e4 _ r s h)
end

section
variable {o1 : Fin 3 → ℕ} {h1 : ∀ a, o1 a + S1x512x128.size a ≤ S1x16384x256.size a}
    {o2 : Fin 4 → ℕ} {h2 : ∀ a, o2 a + S1x1x128x512.size a ≤ S1x32x256x512.size a}
    {o4 : Fin 4 → ℕ} {h4 : ∀ a, o4 a + S1x1x128x512.size a ≤ S1x32x256x512.size a}
    (n : ℕ) (hn : n < 32) (e1 : o1 = ![0, 512 * n, 128]) (e2 : o2 = ![0, n, 0, 0]) (e4 : o4 = ![0, n, 128, 0])
include hn e1 e2 e4

theorem diagG_ht (zl : Fin 2 → FVec F S256x512 .f32) (zh : Fin 2 → FVec F S256x256 .f32) (hl : ∀ cc, zl cc = zLo X 0 cc n) (hh : ∀ cc, zh cc = zHi X 0 cc n) :
    Ht c M X (Abs (fun s cc => AccN X s cc n) (Diag zl zh) fun _ => True)
      (diag M.a5 M.a6 M.a9 M.a10 M.a11 o1 h1 o2 h2 o4 h4 (Qc X 1 0) (Qc X 1 1) (sums X n))
      (fun r s => r = sumsD X n ∧ AtE X n s) := by
  refine Ht.mono (hP := fun _ h => h) (hp := diag_ht (Qc X 1) (fun s cc => AccN X s cc n) (fun s cc => SumN X s cc n) zl zh) (hQ := fun r s h => ?_)
  rw [kAt_Kb (X := X) 1 n hn e1, vAt_Vb (X := X) 0 n hn e2, vAt_Vb (X := X) 1 n hn e4] at h
  obtain ⟨rfl, hA, hN, _⟩ := h
  have z1 : ∀ cc, dotLo (Kb X 1 n) (Qc X 1 cc) = zLo X 1 cc n := fun cc => (if_neg (by simp)).symm
  have z2 : ∀ cc, dotHi (Kb X 1 n) (Qc X 1 cc) = zHi X 1 cc n := fun cc => (if_neg (by simp)).symm
  refine ⟨?_, fun s' cc => (hA s' cc).trans ?_, trivial, trivial⟩
  · simp only [sumsD, pack, SumD, z1, z2, hl, hh, if_true, if_neg (show ¬(1 : Fin 2) = 0 by decide)]
  · match s' with
    | 0 => simp only [AccD, hl, hh, if_true]
    | 1 => simp only [AccD, z1, z2, if_neg (show ¬(1 : Fin 2) = 0 by decide)]

theorem diagF_ht (h0 : n % 4 = 0) : Ht c M X (AtF X n) (diag M.a5 M.a6 M.a9 M.a10 M.a11 o1 h1 o2 h2 o4 h4 (Qc X 1 0) (Qc X 1 1) (sums X n))
      (fun r s => r = sumsD X n ∧ AtE X n s) :=
  Ht.mono (hP := fun s h => ⟨h.1, h.2.1.diag, trivial⟩) (hp := diagG_ht n hn e1 e2 e4 _ _ (fun cc => (if_pos ⟨rfl, h0⟩).symm) (fun cc => (if_pos ⟨rfl, h0⟩).symm)) (hQ := fun _ _ h => h)

theorem diagD_ht (h0 : n % 4 ≠ 0) : Ht c M X (AtD X n) (diag M.a5 M.a6 M.a9 M.a10 M.a11 o1 h1 o2 h2 o4 h4 (Qc X 1 0) (Qc X 1 1) (sums X n))
      (fun r s => r = sumsD X n ∧ AtE X n s) :=
  diagG_ht n hn e1 e2 e4 _ _ (fun cc => (if_neg fun h => h0 h.2).symm) (fun cc => (if_neg fun h => h0 h.2).symm)
end

/-! ## The loop and the remainder -/

section
variable (i : grid0.Coords)

theorem trip_ht (k : Fin (k0_t1_loop i).trips) :
    Ht c M X (AtF X (4 * k.val)) (trip i M.a5 M.a6 M.a9 M.a10 M.a11 (Qc X 0 0) (Qc X 0 1) (Qc X 1 0) (Qc X 1 1) k (sums X (4 * k.val)))
      (fun r s => r = sums X (4 * (k.val + 1)) ∧ AtF X (4 * (k.val + 1)) s) := by
  have hk := k.isLt
  have ht := trips_eq i
  have hi : (i 2).val < 32 := (i 2).isLt
  unfold trip
  refine Ht.bind (blockF_ht (4 * k.val) (by omega) (off1_eq i k 0) (off2_eq i k 0) (off3_eq i k 1) (off4_eq i k 0)) fun l => Ht.given ?_
  rintro rfl
  refine Ht.bind (blockF_ht (4 * k.val + 1) (by omega) (off1_eq i k 1) (off2_eq i k 1) (off3_eq i k 2) (off4_eq i k 1)) fun l => Ht.given ?_
  rintro rfl
  refine Ht.bind (blockF_ht (4 * k.val + 2) (by omega) (off1_eq i k 2) (off2_eq i k 2) (off3_eq i k 3) (off4_eq i k 2)) fun l => Ht.given ?_
  rintro rfl
  exact blockF_ht (4 * k.val + 3) (by omega) (off1_eq i k 3) (off2_eq i k 3) (off3_eq i k 4) (off4_eq i k 3)

theorem loop_ht : Ht c M X (AtF X 0) (Scf.Loop.for (k0_t1_loop i) (k0_t1_ok i) (sums X 0) (trip i M.a5 M.a6 M.a9 M.a10 M.a11 (Qc X 0 0) (Qc X 0 1) (Qc X 1 0) (Qc X 1 1)))
    (fun r s => r = sums X (4 * ((i 2).val / 4)) ∧ AtF X (4 * ((i 2).val / 4)) s) :=
  Ht.loop _ _ _ _ (fun k r s => r = sums X (4 * k) ∧ AtF X (4 * k) s) (fun s h => ⟨rfl, h⟩) (fun k a => Ht.given fun h => h ▸ trip_ht i k)
    fun a s h => by rw [trips_eq] at h; exact h

theorem noLoop_ht {P : St F → Prop} (a : Sums F) (f : Fin (k0_t2_loop i).trips → Sums F → TP F (Sums F)) :
    Ht c M X P (Scf.Loop.for (k0_t2_loop i) (k0_t2_ok i) a f) (fun r s => r = a ∧ P s) :=
  Ht.loop _ _ _ _ (fun _ r s => r = a ∧ P s) (fun s h => ⟨rfl, h⟩)
    (fun k _ => absurd k.isLt (Nat.not_lt.2 (Nat.le_trans (k0_t2_abs i).2.1 (Nat.zero_le _)))) fun _ _ h => h

theorem at2_self {n m : ℕ} (h : n = m) : (fun (r : Sums F) s => r = sumsD X n ∧ AtE X n s) = fun r s => r = sumsD X m ∧ AtE X m s := by rw [h]

theorem tails_ht : Ht c M X (AtF X (4 * ((i 2).val / 4)))
    (tails i M.a5 M.a6 M.a9 M.a10 M.a11 (Qc X 0 0) (Qc X 0 1) (Qc X 1 0) (Qc X 1 1) (sums X (4 * ((i 2).val / 4))))
    (fun r s => r = sumsD X (i 2).val ∧ AtE X (i 2).val s) := by
  have hi : (i 2).val < 32 := (i 2).isLt
  unfold tails
  split
  · rename_i h1
    have h1' := (cond1_iff i).1 h1
    split
    · rename_i h2
      have h2' := (cond2_iff i).1 h2
      split
      · rename_i h3
        have h3' := (cond3_iff i).1 h3
        unfold tail3
        refine Ht.bind (blockF_ht (4 * ((i 2).val / 4)) (by omega) (off9_at (i 2) 0) (off10_at (i 2) 0) (off11_at (i 2) 1) (off12_at (i 2) 0)) fun l => Ht.given ?_
        rintro rfl
        refine Ht.bind (blockF_ht (4 * ((i 2).val / 4) + 1) (by omega) (off9_at (i 2) 1) (off10_at (i 2) 1) (off11_at (i 2) 2) (off12_at (i 2) 1)) fun l => Ht.given ?_
        rintro rfl
        refine Ht.bind (blockD_ht (4 * ((i 2).val / 4) + 2) (by omega) (off9_at (i 2) 2) (off10_at (i 2) 2) (off11_at (i 2) 3) (off12_at (i 2) 2)) fun l => Ht.given ?_
        rintro rfl
        rw [← at2_self (X := X) (show 4 * ((i 2).val / 4) + 3 = (i 2).val by omega)]
        exact diagD_ht (4 * ((i 2).val / 4) + 3) (by omega) (off9_at (i 2) 3) (off10_at (i 2) 3) (off12_at (i 2) 3) (by omega)
      · rename_i h3
        have h3' : (i 2).val % 4 = 2 := by by_contra h; exact h3 ((cond3_iff i).2 h)
        unfold tail2
        refine Ht.bind (blockF_ht (4 * ((i 2).val / 4)) (by omega) (off13_at (i 2) 0) (off14_at (i 2) 0) (off15_at (i 2) 1) (off16_at (i 2) 0)) fun l => Ht.given ?_
        rintro rfl
        refine Ht.bind (blockD_ht (4 * ((i 2).val / 4) + 1) (by omega) (off13_at (i 2) 1) (off14_at (i 2) 1) (off15_at (i 2) 2) (off16_at (i 2) 1)) fun l => Ht.given ?_
        rintro rfl
        rw [← at2_self (X := X) (show 4 * ((i 2).val / 4) + 2 = (i 2).val by omega)]
        exact diagD_ht (4 * ((i 2).val / 4) + 2) (by omega) (off13_at (i 2) 2) (off14_at (i 2) 2) (off16_at (i 2) 2) (by omega)
    · rename_i h2
      have h2' : (i 2).val % 4 = 1 := by by_contra h; exact h2 ((cond2_iff i).2 h)
      unfold tail1
      refine Ht.bind (blockD_ht (4 * ((i 2).val / 4)) (by omega) (off17_at (i 2) 0) (off18_at (i 2) 0) (off19_at (i 2)) (off20_at (i 2) 0)) fun l => Ht.given ?_
      rintro rfl
      rw [← at2_self (X := X) (show 4 * ((i 2).val / 4) + 1 = (i 2).val by omega)]
      exact diagD_ht (4 * ((i 2).val / 4) + 1) (by omega) (off17_at (i 2) 1) (off18_at (i 2) 1) (off20_at (i 2) 1) (by omega)
  · rename_i h1
    have h1' : (i 2).val % 4 = 0 := by by_contra h; exact h1 ((cond1_iff i).2 h)
    unfold tail0
    rw [← at2_self (X := X) (show 4 * ((i 2).val / 4) = (i 2).val by omega)]
    exact diagF_ht (4 * ((i 2).val / 4)) (by omega) (off21_at (i 2)) (off22_at (i 2)) (off23_at (i 2)) (by omega)

/-- What the middle part leaves. -/
def midR (X : Ins F) (j : ℕ) : Mid F := ⟨total (SumD X 0 0 j), total (SumD X 0 1 j), total (SumD X 1 0 j), total (SumD X 1 1 j), AccD X 0 0 j⟩

theorem mid_ht (h3 : M.a3.IsWhole) (h4 : M.a4.IsWhole) (h5 : M.a5.IsWhole) (h6 : M.a6.IsWhole) (h7 : M.a7.IsWhole) (h8 : M.a8.IsWhole) (h9 : M.a9.IsWhole)
    (h10 : M.a10.IsWhole) (h11 : M.a11.IsWhole) :
    Ht c M X (AtF X 0) (mid i M.a3 h3 M.a4 h4 M.a5 h5 M.a6 h6 M.a7 h7 M.a8 h8 M.a9 h9 M.a10 h10 M.a11 h11 (Qc X 0 0) (Qc X 0 1) (Qc X 1 0) (Qc X 1 1))
      (fun r s => r = midR X (i 2).val ∧ AtE X (i 2).val s) := by
  unfold mid
  refine Ht.bind (loop_ht i) fun l => Ht.given ?_
  rintro rfl
  refine Ht.bind (noLoop_ht i _ _) fun l => Ht.given ?_
  rintro rfl
  refine Ht.bind (tails_ht i) fun l => Ht.given ?_
  rintro rfl
  refine Ht.bind (getAcc_ht (Q := fun r s => r = AccD X 0 0 (i 2).val ∧ AtE X (i 2).val s) fun s h => ⟨h.1 0 0, h⟩) fun a => Ht.given ?_
  rintro rfl
  exact Ht.pure fun s h => ⟨rfl, h⟩
end

theorem smem_ht {P : St F → Prop} {Q : Elt F .f32 → St F → Prop} (hQ : ∀ s, P s → Q (X.x3 (ix2 0 0)) s) :
    Ht c M X P (smemLoad M.a3 (Rect.unit (s := S1x1) ![0, 0] S1x1.size inb_S1x1_S1x1_0_0) numel1_S1x1 rfl) Q := by
  unfold smemLoad
  generalize Shape.Idx.first _ = z
  have e : smemLoadElt (p := .tc) M.a3 (Rect.unit (s := S1x1) ![0, 0] S1x1.size inb_S1x1_S1x1_0_0) (View.loads_smem_one rfl numel1_S1x1) z Prog.ret
      = (Prog.lift (TpuEff.load M.a3 (Rect.unit (s := S1x1) ![0, 0] S1x1.size inb_S1x1_S1x1_0_0).toLoadRect (View.loadsAt_rect (View.loads_smem_one rfl numel1_S1x1)))
        >>= fun f => pure (f z) : TP F (Elt F .f32)) := rfl
  rw [e]
  refine Ht.bind (Q := fun r s => P s ∧ r = window X.x3 ![0, 0] S1x1.size inb_S1x1_S1x1_0_0) (Ht.load (fun _ => X.x3) part3 fun s h => ⟨h, rfl⟩) fun r => Ht.pure fun s h => ?_
  obtain ⟨h, rfl⟩ := h
  have e2 : window X.x3 ![0, 0] S1x1.size inb_S1x1_S1x1_0_0 z = X.x3 (ix2 0 0) := congrArg X.x3 (funext fun a => Fin.ext (by
    have := (Rect.emb (Rect.unit (s := S1x1) ![0, 0] S1x1.size inb_S1x1_S1x1_0_0) z a).isLt
    match a with
    | ⟨0, _⟩ => exact Nat.lt_one_iff.1 this
    | ⟨1, _⟩ => exact Nat.lt_one_iff.1 this))
  rw [e2]
  exact hQ s h

theorem body_ht (i : grid0.Coords) (h3 : M.a3.IsWhole) (h4 : M.a4.IsWhole) (h5 : M.a5.IsWhole) (h6 : M.a6.IsWhole) (h7 : M.a7.IsWhole) (h8 : M.a8.IsWhole) (h9 : M.a9.IsWhole)
    (h10 : M.a10.IsWhole) (h11 : M.a11.IsWhole) :
    Ht c M X (fun _ => True) (body i M.a3 h3 M.a4 h4 M.a5 h5 M.a6 h6 M.a7 h7 M.a8 h8 M.a9 h9 M.a10 h10 M.a11 h11)
      (fun _ s => s.x8 = outX X (i 2).val) := by
  unfold body bodyOf
  refine Ht.bind (Q := fun r s => r = window X.x4 ![0, 0, 128 * (0 : Fin 2).val, 0] S1x1x128x512.size (qIn 0) ∧ True) (Ht.load (fun _ => X.x4) part4 fun s h => ⟨rfl, trivial⟩) fun q0 => Ht.given ?_
  rintro rfl
  refine Ht.bind (Q := fun r s => r = window X.x4 ![0, 0, 128 * (1 : Fin 2).val, 0] S1x1x128x512.size (qIn 1) ∧ True) (Ht.load (fun _ => X.x4) part4 fun s h => ⟨rfl, trivial⟩) fun q1 => Ht.given ?_
  rintro rfl
  refine Ht.bind (Q := fun r s => True) ((slot9 (c := c) (M := M) (X := X)).load fun s h => h) fun _ => ?_
  refine Ht.bind (Q := fun r s => ∀ a b, accOf s.x9 a b = AccN X a b 0) ((slot9 (c := c) (M := M) (X := X)).store fun s h => ?_) fun _ => ?_
  · intro a b
    funext y
    obtain ⟨p, q, rfl⟩ : ∃ p q, y = ix2 p q := ⟨_, _, eq_ix2 y⟩
    rw [accOf_apply]
    show put s.x9 ![0, 0, 0, 0] S2x2x128x512.size _ (ix4 a b p q) = _
    unfold put
    rw [dif_pos]
    · rfl
    · intro d
      match d with
      | ⟨0, _⟩ => exact ⟨Nat.zero_le _, show a.val < 0 + 2 by omega⟩
      | ⟨1, _⟩ => exact ⟨Nat.zero_le _, show b.val < 0 + 2 by omega⟩
      | ⟨2, _⟩ => exact ⟨Nat.zero_le _, show p.val < 0 + 128 by omega⟩
      | ⟨3, _⟩ => exact ⟨Nat.zero_le _, show q.val < 0 + 512 by omega⟩
  refine Ht.bind (getK_ht (Q := fun r s => r = Kb X 0 0 ∧ ∀ a b, accOf s.x9 a b = AccN X a b 0) fun s h => ⟨rfl, h⟩) fun K => Ht.given ?_
  rintro rfl
  refine Ht.bind (Q := fun _ => AtF X 0) (scoresF_ht (slot10 (c := c) (M := M) (X := X)) _ (Qc X 0) fun s h x hx => ⟨h, hx, trivial⟩) fun _ => ?_
  refine Ht.bind (mid_ht i h3 h4 h5 h6 h7 h8 h9 h10 h11) fun r => Ht.given ?_
  rintro rfl
  refine Ht.bind (getAcc_ht (Q := fun r s => r = AccD X 0 1 (i 2).val ∧ AtE X (i 2).val s) fun s h => ⟨h.1 0 1, h⟩) fun a => Ht.given ?_
  rintro rfl
  refine Ht.bind (smem_ht (Q := fun r s => r = X.x3 (ix2 0 0) ∧ AtE X (i 2).val s) fun s h => ⟨rfl, h⟩) fun a => Ht.given ?_
  rintro rfl
  refine Ht.bind (Q := fun r s => r = window X.x7 ![0, 0] S128x1.size inb_S128x1_S128x1_0_0 ∧ AtE X (i 2).val s) (Ht.load (fun _ => X.x7) part7 fun s h => ⟨rfl, h⟩) fun a => Ht.given ?_
  rintro rfl
  have e7 : window X.x7 ![0, 0] S128x1.size inb_S128x1_S128x1_0_0 = X.x7 := by
    funext y
    refine congrArg X.x7 (funext fun a => Fin.ext ?_)
    match a with
    | ⟨0, _⟩ => show 0 + 1 * (y 0).val = _; simp
    | ⟨1, _⟩ => show 0 + 1 * (y 1).val = _; simp
  rw [e7]
  refine Ht.bind (Q := fun r s => AtE X (i 2).val s) ((slot8 (c := c) (M := M) (X := X)).load fun s h => h) fun _ => ?_
  refine Ht.bind (Q := fun r s => AtE X (i 2).val s ∧ ∃ x : Vec F S1x512x256 .bf16, s.x8 = put x ![0, 0, 0] S1x512x128.size (outH X 0 (i 2).val)) ((slot8 (c := c) (M := M) (X := X)).store fun s h => ⟨h, _, rfl⟩) fun _ => ?_
  refine Ht.bind (getAcc_ht (Q := fun r s => r = AccD X 1 0 (i 2).val ∧ AtE X (i 2).val s ∧ ∃ x : Vec F S1x512x256 .bf16, s.x8 = put x ![0, 0, 0] S1x512x128.size (outH X 0 (i 2).val)) fun s h => ⟨h.1.1 1 0, h⟩) fun a => Ht.given ?_
  rintro rfl
  refine Ht.bind (getAcc_ht (Q := fun r s => r = AccD X 1 1 (i 2).val ∧ AtE X (i 2).val s ∧ ∃ x : Vec F S1x512x256 .bf16, s.x8 = put x ![0, 0, 0] S1x512x128.size (outH X 0 (i 2).val)) fun s h => ⟨h.1.1 1 1, h⟩) fun a => Ht.given ?_
  rintro rfl
  refine Ht.bind (smem_ht (Q := fun r s => r = X.x3 (ix2 0 0) ∧ AtE X (i 2).val s ∧ ∃ x : Vec F S1x512x256 .bf16, s.x8 = put x ![0, 0, 0] S1x512x128.size (outH X 0 (i 2).val)) fun s h => ⟨rfl, h⟩) fun a => Ht.given ?_
  rintro rfl
  refine Ht.bind (Q := fun r s => r = window X.x7 ![0, 0] S128x1.size inb_S128x1_S128x1_0_0 ∧ AtE X (i 2).val s ∧ ∃ x : Vec F S1x512x256 .bf16, s.x8 = put x ![0, 0, 0] S1x512x128.size (outH X 0 (i 2).val)) (Ht.load (fun _ => X.x7) part7 fun s h => ⟨rfl, h⟩) fun a => Ht.given ?_
  rintro rfl
  rw [e7]
  refine Ht.bind (Q := fun r s => AtE X (i 2).val s ∧ ∃ x : Vec F S1x512x256 .bf16, s.x8 = put x ![0, 0, 0] S1x512x128.size (outH X 0 (i 2).val)) ((slot8 (c := c) (M := M) (X := X)).load fun s h => h) fun _ => ?_
  refine Ht.bind (Q := fun r s => s.x8 = outX X (i 2).val) ((slot8 (c := c) (M := M) (X := X)).store fun s h => ?_) fun _ => Ht.pure fun _ h => h
  obtain ⟨_, x, hx⟩ := h
  show put s.x8 ![0, 0, 128] S1x512x128.size (outH X 1 (i 2).val) = _
  rw [hx, put_outX]

end Cert.Attn

end
-- ==== Proof.Launch.lean ====
/-
  The launch: the pipeline's proof data, the body obligation, the run and the frame, for any float values.
-/
module

public import proofs.«01_k».proof.Proof.Whole
public import proofs.«01_k».proof.Proof.Gen.KernelIdeal.Frame
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The input blocks at a point. -/
def insAt (c : Dev nD) (t : Fin cfg0.N) : Ins F := ⟨iblk m c 0 t, iblk m c 1 t, iblk m c 2 t, iblk m c 3 t, iblk m c 4 t⟩

/-- What the body leaves in the output's buffer at a point. -/
def resAt (c : Dev nD) (t : Fin cfg0.N) : Vec F S1x512x256 .bf16 := outX (insAt m c t) (grid0.coords t 2).val

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = resAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- The body on its memrefs: the inputs come back as they were, the output's holds the point's result, the scratch anything. -/
theorem sound_kernel (c : Dev nD) (M : Mems) (X : Ins F) (i : grid0.Coords) (h3 : M.a3.IsWhole) (h4 : M.a4.IsWhole) (h5 : M.a5.IsWhole) (h6 : M.a6.IsWhole)
    (h7 : M.a7.IsWhole) (h8 : M.a8.IsWhole) (h9 : M.a9.IsWhole) (h10 : M.a10.IsWhole) (h11 : M.a11.IsWhole) (s : St F) (K : PUnit → sProp (MM F)) :
    iprop(Held c M X s ∗ (∀ s', ⌜s'.x8 = outX X (i 2).val⌝ -∗ Held c M X s' -∗ K ⟨⟩))
      ⊢ wpT c (cc0_attention_bounded i M.a3 h3 M.a4 h4 M.a5 h5 M.a6 h6 M.a7 h7 M.a8 h8 M.a9 h9 M.a10 h10 M.a11 h11) K := by
  rw [kernel_eq]
  have h := body_ht (c := c) (M := M) (X := X) i h3 h4 h5 h6 h7 h8 h9 h10 h11 s trivial
  refine (sep_mono h .rfl).trans ?_
  refine (wp_frame_r frame _ Set.univ).trans (wp_mono frame _ Set.univ fun r => ?_)
  iintro ⟨⟨%s', %h', H⟩, HK⟩
  iapply HK $$ [] H
  ipureintro; exact h'

/-- What the body is called with at a point, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The memrefs of a point. -/
def memsAt (t : Fin cfg0.N) : Mems :=
  ⟨st0_0 t, st0_1 t, st0_2 t, st0_3 t, st0_4 t, st0_5 t, Memref.whole cc0_scratch0, Memref.whole cc0_scratch1, Memref.whole cc0_scratch2⟩

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%f0, S0⟩, ⟨%f1, S1⟩, ⟨%f2, S2⟩⟩, Hr⟩, Ho, ⟨%d0, H0⟩, ⟨%d1, H1⟩, ⟨%d2, H2⟩, ⟨%d3, H3⟩, ⟨%d4, H4⟩, ⟨%d5, H5⟩⟩
  iapply (sound_kernel c (memsAt t) (insAt m c t) (grid0.coords t) _ _ _ _ _ _ _ _ _ ⟨(dats m 0 c).before 5 t d5, f0, f1, f2⟩ _)
  isplitl [S0 S1 S2 H0 H1 H2 H3 H4 H5]
  · unfold Held memsAt insAt
    dsimp only
    rw [owns_whole, owns_whole, owns_whole]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iexact S2
  iintro %s' %h' H
  unfold Held memsAt insAt resAt
  dsimp only
  rw [owns_whole, owns_whole, owns_whole, h']
  icases H with ⟨H0, H1, H2, H3, H4, H5, S0, S1, S2⟩
  isplitl [S0 S1 S2 Hr]
  · isplitl [S0 S1 S2]
    · isplitl [S0]; · iexists _; iexact S0
      isplitl [S1]; · iexists _; iexact S1
      iexists _; iexact S2
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.Attn

end
-- ==== Proof.Frames.lean ====
/-
  The frames: the kernel at both float values, and the reference.
-/
module

public import proofs.«01_k».proof.Defs
public import proofs.«01_k».proof.Proof.Gen.Kernel
public import proofs.«01_k».proof.Proof.Gen.Pre_finite_heads
public import proofs.«01_k».proof.Proof.Gen.ReferenceIdeal.Run
public import proofs.«01_k».proof.Proof.Launch
public import Idealize.ShloMosaic.Lib.Quiescent

@[expose] public section

noncomputable section

namespace Cert.Attn

open Idealize.ShloMosaic Idealize.ShloMosaic.TcCoe Idealize.SL.Sem

/-- The frame of the ideal text, read at the words. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- The kernel's frame is the one of its ideal text: the two texts are the same. -/
theorem frame_same : Cert.quiescent_Kernel (hKernel := Cert.Kernel.Gen.facts) = FrameBits := by
  sl_kernel_rfl

theorem frame_kernel : Cert.quiescent_Kernel (hKernel := Cert.Kernel.Gen.facts) := by
  rw [frame_same]
  exact fun m ρ _ => quiet (F := Bits) m ρ

theorem frame_ideal : Cert.quiescent_KernelIdeal (hKernelIdeal := Cert.KernelIdeal.Gen.facts) := fun m ρ _ => quiet (F := Ideal) m ρ

/-- The reference has no semaphores, and its run leaves the arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Attn

end
-- ==== Proof.Point.lean ====
/-
  The steps' values over the extended reals, read at an index.
-/
module

public import proofs.«01_k».proof.Proof.Whole
public import Idealize.ShloMosaic.PureOps.Ideal.Laws

@[expose] public section

set_option maxRecDepth 16384

noncomputable section

namespace Cert.Attn

open Cert.KernelIdeal Cert.KernelIdeal.Gen
open Idealize.ShloMosaic Idealize.ShloMosaic.TcCoe
open Idealize.ShloMosaic.VecWindow

theorem dotF_apply (K : FVec Ideal S512x128 .bf16) (q : FVec Ideal S128x512 .bf16) (i j : Fin 512) :
    dotF K q (ix2 i j) = ∑ l : Fin 128, K (ix2 i l) * q (ix2 l j) := by
  pointwise [dotF]

theorem dotLo_apply (K : FVec Ideal S512x128 .bf16) (q : FVec Ideal S128x512 .bf16) (i : Fin 256) (j : Fin 512) :
    dotLo K q (ix2 i j) = ∑ l : Fin 128, K (ix2 ⟨i.val, by omega⟩ l) * q (ix2 l j) := by
  pointwise [dotLo]

theorem dotHi_apply (K : FVec Ideal S512x128 .bf16) (q : FVec Ideal S128x512 .bf16) (i : Fin 256) (j : Fin 256) :
    dotHi K q (ix2 i j) = ∑ l : Fin 128, K (ix2 ⟨256 + i.val, by omega⟩ l) * q (ix2 l ⟨256 + j.val, by omega⟩) := by
  pointwise [dotHi]

theorem pvF_apply (v : FVec Ideal S128x512 .bf16) (Z : FVec Ideal S512x512 .f32) (d : Fin 128) (j : Fin 512) :
    pvF v Z (ix2 d j) = ∑ k : Fin 512, v (ix2 d k) * Ideal.exp2 (Z (ix2 k j)) := by
  pointwise [pvF]
  rfl

theorem pLo_apply (Z : FVec Ideal S256x512 .f32) (i : Fin 256) (j : Fin 512) :
    pLo Z (ix2 i j) = if i.val ≤ j.val then Ideal.exp2 (Z (ix2 i j)) else 0 := by
  pointwise [pLo]
  rw [WordCmp.cmpi_sle_ofNat (by omega) (by omega), WordCmp.select_ofBool]
  simp only [decide_eq_true_eq]
  rfl

theorem pHi_apply (Z : FVec Ideal S256x256 .f32) (i : Fin 256) (j : Fin 256) :
    pHi Z (ix2 i j) = if i.val ≤ j.val then Ideal.exp2 (Z (ix2 i j)) else 0 := by
  pointwise [pHi]
  rw [WordCmp.cmpi_sle_ofNat (by omega) (by omega), WordCmp.select_ofBool]
  simp only [decide_eq_true_eq]
  rfl

theorem pvLo_apply (v : FVec Ideal S128x512 .bf16) (Z : FVec Ideal S256x512 .f32) (d : Fin 128) (j : Fin 512) :
    pvLo v Z (ix2 d j) = ∑ k : Fin 256, v (ix2 d ⟨k.val, by omega⟩) * pLo Z (ix2 k j) := by
  pointwise [pvLo]

theorem pvHi_apply (v : FVec Ideal S128x512 .bf16) (Z : FVec Ideal S256x256 .f32) (d : Fin 128) (j : Fin 256) :
    pvHi v Z (ix2 d j) = ∑ k : Fin 256, v (ix2 d ⟨256 + k.val, by omega⟩) * pHi Z (ix2 k j) := by
  pointwise [pvHi]

theorem sumF_apply (Z : FVec Ideal S512x512 .f32) (a : Fin 8) (j : Fin 512) :
    sumF Z (ix2 a j) = ∑ g : Fin 64, Ideal.exp2 (Z (ix2 ⟨8 * g.val + a.val, by omega⟩ j)) := by
  pointwise [sumF]
  simp only [Nat.mul_comm 8]
  rfl

theorem sumLo_apply (Z : FVec Ideal S256x512 .f32) (a : Fin 8) (j : Fin 512) :
    sumLo Z (ix2 a j) = ∑ g : Fin 32, pLo Z (ix2 ⟨8 * g.val + a.val, by omega⟩ j) := by
  pointwise [sumLo]
  simp only [Nat.mul_comm 8]

theorem sumHi_apply (Z : FVec Ideal S256x256 .f32) (a : Fin 8) (j : Fin 512) :
    sumHi Z (ix2 a j) = if h : 256 ≤ j.val then ∑ g : Fin 32, pHi Z (ix2 ⟨8 * g.val + a.val, by omega⟩ ⟨j.val - 256, by omega⟩) else 0 := by
  pointwise [sumHi]
  simp only [Nat.mul_comm 8]
  by_cases h : j.val < 256
  · rw [dif_pos h, dif_neg (by omega)]
  · rw [dif_neg h, dif_pos (by omega)]

theorem total_apply (l : FVec Ideal S8x512 .f32) (j : Fin 512) :
    total l (ix2 0 j) = ∑ a : Fin 8, l (ix2 a j) := by
  pointwise [total]

theorem finish_apply (lam : Elt Ideal .f32) (g : Vec Ideal S128x1 .f32) (a0 a1 : FVec Ideal S128x512 .f32) (l0 l1 : FVec Ideal S1x512 .f32)
    (r : Fin 512) (d : Fin 128) (D : Fin 128 → EReal)
    (hD : D = fun d => a0 (ix2 d r) * Ideal.div 1 (l0 (ix2 0 r)) - lam * (a1 (ix2 d r) * Ideal.div 1 (l1 (ix2 0 r)))) :
    finish lam g a0 a1 l0 l1 (ix3 0 r d) =
      D d * Ideal.rsqrt (Ideal.div (∑ e : Fin 128, D e * D e) (Ideal.ofBits .f32 0x43000000#32) + Ideal.ofBits .f32 0x358637BD#32)
        * g (ix2 d 0) * Ideal.ofBits .f32 0x3F4CCCCD#32 := by
  subst hD
  pointwise [finish, differ, normed, rinv]

theorem comp0_apply (i : Fin 128) (j : Fin 512) : comp0 (ix2 i j) = if (i.val / 32) % 2 = 0 then 1#1 else 0#1 := by
  pointwise [comp0, laneGroup]
  revert i
  decide +kernel

end Cert.Attn

end
-- ==== Proof.Sums.lean ====
/-
  The accumulators, the row sums and a head's result over the extended reals, as sums over the keys.
-/
module

public import proofs.«01_k».proof.Proof.Point

@[expose] public section

set_option maxRecDepth 16384

noncomputable section

namespace Cert.Attn

open Cert.KernelIdeal Cert.KernelIdeal.Gen
open Idealize.ShloMosaic Idealize.ShloMosaic.TcCoe
open Idealize.ShloMosaic.VecWindow

/-! ## Sums -/

/-- Eight folded rows, each of every eighth term, hold all the terms. -/
theorem sum_folded (n : ℕ) (f : ℕ → EReal) : ∑ a : Fin 8, ∑ g : Fin n, f (8 * g.val + a.val) = ∑ i ∈ Finset.range (8 * n), f i := by
  rw [Finset.sum_comm]
  induction n with
  | zero => simp
  | succ n ih =>
    rw [Fin.sum_univ_castSucc, Nat.mul_succ, Finset.sum_range_add, ← ih, Finset.sum_range (n := 8)]
    rfl

theorem sum_masked (N r : ℕ) (f : ℕ → EReal) :
    ∑ k : Fin N, (if k.val ≤ r then f k.val else 0) = ∑ k ∈ Finset.range (min N (r + 1)), f k := by
  rw [← Finset.sum_range (fun k => if k ≤ r then f k else 0), ← Finset.sum_filter]
  refine Finset.sum_congr (Finset.ext fun k => ?_) fun _ _ => rfl
  simp only [Finset.mem_filter, Finset.mem_range]
  omega

/-- The upper half's masked terms with the lower right quarter's are the terms up to the diagonal. -/
theorem sum_diag (r : ℕ) (hr : r < 512) (f : ℕ → EReal) :
    ∑ k : Fin 256, (if k.val ≤ r then f k.val else 0) + (if 256 ≤ r then ∑ k : Fin 256, (if k.val ≤ r - 256 then f (256 + k.val) else 0) else 0)
      = ∑ k ∈ Finset.range (r + 1), f k := by
  rw [sum_masked 256 r f, sum_masked 256 (r - 256) fun k => f (256 + k)]
  by_cases h : 256 ≤ r
  · rw [if_pos h, show r + 1 = 256 + (r - 256 + 1) by omega, Finset.sum_range_add, Nat.min_eq_left (by omega), Nat.min_eq_right (by omega)]
  · rw [if_neg h, add_zero, Nat.min_eq_right (by omega)]

/-! ## The blocks' entries -/

section
variable (X : Ins Ideal)

/-- Head `s`'s entries: key `k`'s lane `l`, value `k`'s lane `d`, query `r`'s lane `l` of component `cc`. -/
def kx (s : Fin 2) (k : ℕ) (l : Fin 128) : EReal := X.x5 (ix3 0 ⟨k % 16384, Nat.mod_lt _ (by norm_num)⟩ ⟨128 * s.val + l.val, by omega⟩)
def vx (s : Fin 2) (d : Fin 128) (k : ℕ) : EReal :=
  X.x6 (ix4 0 ⟨k / 512 % 32, Nat.mod_lt _ (by norm_num)⟩ ⟨128 * s.val + d.val, by omega⟩ ⟨k % 512, Nat.mod_lt _ (by norm_num)⟩)
def qx (s cc : Fin 2) (l : Fin 128) (r : Fin 512) : EReal := if l.val / 32 % 2 = cc.val then X.x4 (ix4 0 0 ⟨128 * s.val + l.val, by omega⟩ r) else 0
/-- The score of query `r` against key `k`, and its weight. -/
def sc (s cc : Fin 2) (r : Fin 512) (k : ℕ) : EReal := ∑ l : Fin 128, kx X s k l * qx X s cc l r
def wt (s cc : Fin 2) (r : Fin 512) (k : ℕ) : EReal := Ideal.exp2 (sc X s cc r k)

theorem Kb_apply (s : Fin 2) (n : ℕ) (hn : n < 32) (i : Fin 512) (l : Fin 128) : Kb X s n (ix2 i l) = kx X s (512 * n + i.val) l := by
  unfold Kb kAt
  refine (shapeCast_apply _ _ _ (ix3 0 i l) ?_).trans ?_
  · simp [Shape.rowMajor_val_two, Shape.rowMajor_val_three]
  · exact congrArg X.x5 (funext fun a => Fin.ext (by
      match a with
      | ⟨0, _⟩ => rfl
      | ⟨1, _⟩ => show 512 * (n % 32) + 1 * i.val = (512 * n + i.val) % 16384; omega
      | ⟨2, _⟩ => show 128 * s.val + 1 * l.val = 128 * s.val + l.val; omega))

theorem Vb_apply (s : Fin 2) (n : ℕ) (hn : n < 32) (d : Fin 128) (i : Fin 512) : Vb X s n (ix2 d i) = vx X s d (512 * n + i.val) := by
  unfold Vb vAt
  refine (shapeCast_apply _ _ _ (ix4 0 0 d i) ?_).trans ?_
  · simp [Shape.rowMajor_val_two, Shape.rowMajor_val_four]
  · exact congrArg X.x6 (funext fun a => Fin.ext (by
      match a with
      | ⟨0, _⟩ => rfl
      | ⟨1, _⟩ => show n % 32 + 1 * 0 = (512 * n + i.val) / 512 % 32; omega
      | ⟨2, _⟩ => show 128 * s.val + 1 * d.val = 128 * s.val + d.val; omega
      | ⟨3, _⟩ => show 0 + 1 * i.val = (512 * n + i.val) % 512; omega))

theorem Qc_apply (s cc : Fin 2) (l : Fin 128) (r : Fin 512) : Qc X s cc (ix2 l r) = qx X s cc l r := by
  have e : shapeCast S128x512 (window X.x4 ![0, 0, 128 * s.val, 0] S1x1x128x512.size (qIn s)) shapeCasts_S1x1x128x512_S128x512 (ix2 l r)
      = X.x4 (ix4 0 0 ⟨128 * s.val + l.val, by omega⟩ r) := by
    refine (shapeCast_apply _ _ _ (ix4 0 0 l r) ?_).trans ?_
    · simp [Shape.rowMajor_val_two, Shape.rowMajor_val_four]
    · exact congrArg X.x4 (funext fun a => Fin.ext (by
        match a with
        | ⟨0, _⟩ => rfl
        | ⟨1, _⟩ => rfl
        | ⟨2, _⟩ => show 128 * s.val + 1 * l.val = 128 * s.val + l.val; omega
        | ⟨3, _⟩ => show 0 + 1 * r.val = r.val; omega))
  have z : (Scalar.ofBits .bf16 0x0000#16 : Ideal .bf16) = 0 := Ideal.ofBits_zero_bf16
  unfold Qc qx
  match cc with
  | 0 =>
    rw [if_pos rfl]
    show Scalar.select (comp0 (ix2 l r)) (shapeCast _ _ _ _) (Scalar.ofBits .bf16 0x0000#16 : Ideal .bf16) = _
    rw [e, z, comp0_apply]
    by_cases h : l.val / 32 % 2 = 0
    · rw [if_pos h]; exact (if_pos h).symm
    · rw [if_neg h]; exact (if_neg h).symm
  | 1 =>
    rw [if_neg (by decide)]
    show Scalar.select (comp0 (ix2 l r)) (Scalar.ofBits .bf16 0x0000#16 : Ideal .bf16) (shapeCast _ _ _ _) = _
    rw [e, z, comp0_apply]
    by_cases h : l.val / 32 % 2 = 0
    · rw [if_pos h]; exact (if_neg (by show ¬ _ = 1; omega)).symm
    · rw [if_neg h]; exact (if_pos (by show _ = 1; omega)).symm

theorem Zb_apply (s cc : Fin 2) (n : ℕ) (hn : n < 32) (i r : Fin 512) : Zb X s cc n (ix2 i r) = sc X s cc r (512 * n + i.val) := by
  unfold Zb sc
  rw [dotF_apply]
  exact Finset.sum_congr rfl fun l _ => by rw [Kb_apply X s n hn, Qc_apply]

theorem zLo_apply (s cc : Fin 2) (n : ℕ) (hn : n < 32) (i : Fin 256) (r : Fin 512) : zLo X s cc n (ix2 i r) = sc X s cc r (512 * n + i.val) := by
  unfold zLo
  split
  · exact Zb_apply X s cc n hn ⟨i.val, by omega⟩ r
  · unfold sc
    rw [dotLo_apply]
    exact Finset.sum_congr rfl fun l _ => by rw [Kb_apply X s n hn, Qc_apply]

theorem zHi_apply (s cc : Fin 2) (n : ℕ) (hn : n < 32) (i r : Fin 256) :
    zHi X s cc n (ix2 i r) = sc X s cc ⟨256 + r.val, by omega⟩ (512 * n + (256 + i.val)) := by
  unfold zHi
  split
  · exact Zb_apply X s cc n hn ⟨256 + i.val, by omega⟩ ⟨256 + r.val, by omega⟩
  · unfold sc
    rw [dotHi_apply]
    exact Finset.sum_congr rfl fun l _ => by rw [Kb_apply X s n hn, Qc_apply]

/-! ## The accumulators and the row sums -/

theorem AccN_apply (s cc : Fin 2) (n : ℕ) (hn : n ≤ 32) (d : Fin 128) (r : Fin 512) :
    AccN X s cc n (ix2 d r) = ∑ k ∈ Finset.range (512 * n), vx X s d k * wt X s cc r k := by
  induction n with
  | zero => exact Ideal.ofBits_zero_f32
  | succ n ih =>
    show AccN X s cc n (ix2 d r) + pvF (Vb X s n) (Zb X s cc n) (ix2 d r) = _
    rw [ih (by omega), pvF_apply, Nat.mul_succ, Finset.sum_range_add, Finset.sum_range (n := 512)]
    exact congrArg _ (Finset.sum_congr rfl fun k _ => by rw [Vb_apply X s n (by omega), Zb_apply X s cc n (by omega)]; rfl)

theorem SumN_apply (s cc : Fin 2) (n : ℕ) (hn : n ≤ 32) (r : Fin 512) :
    ∑ a : Fin 8, SumN X s cc n (ix2 a r) = ∑ k ∈ Finset.range (512 * n), wt X s cc r k := by
  induction n with
  | zero => exact Finset.sum_eq_zero fun _ _ => Ideal.ofBits_zero_f32
  | succ n ih =>
    show ∑ a : Fin 8, (SumN X s cc n (ix2 a r) + sumF (Zb X s cc n) (ix2 a r)) = _
    rw [Finset.sum_add_distrib, ih (by omega), Nat.mul_succ, Finset.sum_range_add, ← sum_folded 64 fun k => wt X s cc r (512 * n + k)]
    exact congrArg _ (Finset.sum_congr rfl fun a _ => by
      rw [sumF_apply]
      exact Finset.sum_congr rfl fun g _ => by rw [Zb_apply X s cc n (by omega)]; rfl)

/-- A head's sums over the keys up to query `512 n + r`. -/
def num (s cc : Fin 2) (n : ℕ) (r : Fin 512) (d : Fin 128) : EReal := ∑ k ∈ Finset.range (512 * n + r.val + 1), vx X s d k * wt X s cc r k
def den (s cc : Fin 2) (n : ℕ) (r : Fin 512) : EReal := ∑ k ∈ Finset.range (512 * n + r.val + 1), wt X s cc r k

theorem widen_at (a : FVec Ideal S128x512 .f32) (b : FVec Ideal S128x256 .f32) (d : Fin 128) (r : Fin 512) :
    widen a b (ix2 d r) = a (ix2 d r) + (if h : 256 ≤ r.val then b (ix2 d ⟨r.val - 256, by omega⟩) else 0) := by
  rw [widen_apply]
  split
  · rfl
  · exact (add_zero _).symm

theorem AccD_apply (s cc : Fin 2) (n : ℕ) (hn : n < 32) (d : Fin 128) (r : Fin 512) : AccD X s cc n (ix2 d r) = num X s cc n r d := by
  unfold AccD num
  rw [widen_at]
  show AccN X s cc n (ix2 d r) + pvLo (Vb X s n) (zLo X s cc n) (ix2 d r) + _ = _
  rw [AccN_apply X s cc n (by omega), Nat.add_assoc, Finset.sum_range_add, add_assoc,
    ← sum_diag r.val r.isLt fun k => vx X s d (512 * n + k) * wt X s cc r (512 * n + k)]
  refine congrArg _ (congrArg₂ _ ?_ ?_)
  · rw [pvLo_apply]
    refine Finset.sum_congr rfl fun k _ => ?_
    rw [Vb_apply X s n hn, pLo_apply, zLo_apply X s cc n hn]
    split
    · rfl
    · exact mul_zero _
  · by_cases h : 256 ≤ r.val
    · rw [dif_pos h, if_pos h, pvHi_apply]
      refine Finset.sum_congr rfl fun k _ => ?_
      rw [Vb_apply X s n hn, pHi_apply, zHi_apply X s cc n hn]
      have e : (⟨256 + (r.val - 256), by omega⟩ : Fin 512) = r := Fin.ext (by show 256 + (r.val - 256) = r.val; omega)
      simp only [e]
      split
      · rfl
      · exact mul_zero _
    · rw [dif_neg h, if_neg h]

theorem SumD_apply (s cc : Fin 2) (n : ℕ) (hn : n < 32) (r : Fin 512) : total (SumD X s cc n) (ix2 0 r) = den X s cc n r := by
  unfold den
  rw [total_apply]
  show ∑ a : Fin 8, (SumN X s cc n (ix2 a r) + sumLo (zLo X s cc n) (ix2 a r) + sumHi (zHi X s cc n) (ix2 a r)) = _
  rw [Finset.sum_add_distrib, Finset.sum_add_distrib, SumN_apply X s cc n (by omega), Nat.add_assoc, Finset.sum_range_add, add_assoc,
    ← sum_diag r.val r.isLt fun k => wt X s cc r (512 * n + k)]
  refine congrArg _ (congrArg₂ _ ?_ ?_)
  · rw [← Finset.sum_range fun k => if k ≤ r.val then wt X s cc r (512 * n + k) else 0, ← sum_folded 32]
    refine Finset.sum_congr rfl fun a _ => ?_
    rw [sumLo_apply]
    refine Finset.sum_congr rfl fun g _ => ?_
    rw [pLo_apply, zLo_apply X s cc n hn]
    rfl
  · by_cases h : 256 ≤ r.val
    · rw [if_pos h, ← Finset.sum_range fun k => if k ≤ r.val - 256 then wt X s cc r (512 * n + (256 + k)) else 0, ← sum_folded 32]
      refine Finset.sum_congr rfl fun a _ => ?_
      rw [sumHi_apply, dif_pos h]
      refine Finset.sum_congr rfl fun g _ => ?_
      rw [pHi_apply, zHi_apply X s cc n hn]
      have e : (⟨256 + (r.val - 256), by omega⟩ : Fin 512) = r := Fin.ext (by show 256 + (r.val - 256) = r.val; omega)
      simp only [e]
      rfl
    · rw [if_neg h]
      exact Finset.sum_eq_zero fun a _ => by rw [sumHi_apply, dif_neg h]

/-! ## A head's result -/

/-- The difference of the two components' attentions. -/
def dif (s : Fin 2) (n : ℕ) (r : Fin 512) (d : Fin 128) : EReal :=
  num X s 0 n r d * Ideal.div 1 (den X s 0 n r) - X.x3 (ix2 0 0) * (num X s 1 n r d * Ideal.div 1 (den X s 1 n r))

theorem outH_apply (s : Fin 2) (n : ℕ) (hn : n < 32) (r : Fin 512) (d : Fin 128) :
    outH X s n (ix3 0 r d) = dif X s n r d * Ideal.rsqrt (Ideal.div (∑ e : Fin 128, dif X s n r e * dif X s n r e) (Ideal.ofBits .f32 0x43000000#32) + Ideal.ofBits .f32 0x358637BD#32)
        * X.x7 (ix2 d 0) * Ideal.ofBits .f32 0x3F4CCCCD#32 :=
  finish_apply _ _ _ _ _ _ r d (dif X s n r) (funext fun d => by
    rw [AccD_apply X s 0 n hn, AccD_apply X s 1 n hn, SumD_apply X s 0 n hn, SumD_apply X s 1 n hn]
    rfl)

/-- The output block's entries: head 0 in the left half, head 1 in the right. -/
theorem outX_apply (n : ℕ) (s : Fin 2) (r : Fin 512) (d : Fin 128) : outX X n (ix3 0 r ⟨128 * s.val + d.val, by omega⟩) = outH X s n (ix3 0 r d) := by
  unfold outX
  match s with
  | 1 =>
    unfold put
    rw [dif_pos fun a => by
      match a with
      | ⟨0, _⟩ => exact ⟨Nat.zero_le _, show 0 < 0 + 1 by omega⟩
      | ⟨1, _⟩ => exact ⟨Nat.zero_le _, show r.val < 0 + 512 by omega⟩
      | ⟨2, _⟩ => exact ⟨show 128 ≤ 128 * 1 + d.val by omega, show 128 * 1 + d.val < 128 + 128 by omega⟩]
    exact congrArg (outH X 1 n) (funext fun a => Fin.ext (by
      match a with
      | ⟨0, _⟩ => rfl
      | ⟨1, _⟩ => show r.val - 0 = r.val; omega
      | ⟨2, _⟩ => show 128 * 1 + d.val - 128 = d.val; omega))
  | 0 =>
    unfold put
    rw [dif_neg fun h => absurd (show 128 ≤ 128 * 0 + d.val from (h 2).1) (by omega), dif_pos fun a => by
      match a with
      | ⟨0, _⟩ => exact ⟨Nat.zero_le _, show 0 < 0 + 1 by omega⟩
      | ⟨1, _⟩ => exact ⟨Nat.zero_le _, show r.val < 0 + 512 by omega⟩
      | ⟨2, _⟩ => exact ⟨Nat.zero_le _, show 128 * 0 + d.val < 0 + 128 by omega⟩]
    exact congrArg (outH X 0 n) (funext fun a => Fin.ext (by
      match a with
      | ⟨0, _⟩ => rfl
      | ⟨1, _⟩ => show r.val - 0 = r.val; omega
      | ⟨2, _⟩ => show 128 * 0 + d.val - 0 = d.val; omega))

end

end Cert.Attn

end
-- ==== Proof.Host.lean ====
/-
  The operands the host prepares for the call, read at an index.
-/
module

public import proofs.«01_k».proof.Proof.Sums
public import proofs.«01_k».proof.Proof.Launch

@[expose] public section

set_option maxRecDepth 16384

noncomputable section

namespace Cert.Attn

open Cert.KernelIdeal Cert.KernelIdeal.Gen
open Idealize.ShloMosaic Idealize.ShloMosaic.TcCoe
open Idealize.ShloMosaic.VecWindow

/-- The score scale in powers of two. -/
def hScale : FVec Ideal S_ .f32 := Host.divf (constant S_ .f32 0x3E000000#32) (Host.log (constant S_ .f32 0x40000000#32))

/-- The call's lane order of a head's two components. -/
def hLanes (x : FVec Ideal S2x16384x8x2x64 .f32) : FVec Ideal S2x16384x1024 .f32 :=
  shapeCast S2x16384x1024 (transpose S2x16384x8x2x2x32 [0, 1, 2, 4, 3, 5] (shapeCast S2x16384x8x2x2x32 x shapeCasts_S2x16384x8x2x64_S2x16384x8x2x2x32)
    transposes_S2x16384x8x2x2x32_S2x16384x8x2x2x32_0_1_2_4_3_5) shapeCasts_S2x16384x8x2x2x32_S2x16384x1024
/-- Blocks of tokens, the tokens last. -/
def hBlocks (x : FVec Ideal S2x16384x1024 .f32) : FVec Ideal S2x32x1024x512 .bf16 :=
  truncf .bf16 (transpose S2x32x1024x512 [0, 1, 3, 2] (shapeCast S2x32x512x1024 x shapeCasts_S2x16384x1024_S2x32x512x1024)
    transposes_S2x32x512x1024_S2x32x1024x512_0_1_3_2) bitsLt_bf16_f32
def hQ (q : FVec Ideal S2x16384x8x2x64 .f32) : FVec Ideal S2x32x1024x512 .bf16 := hBlocks (hLanes (mulf q (broadcastInDim S2x16384x8x2x64 ![] bcast_S_S2x16384x8x2x64 hScale)))
def hK (k : FVec Ideal S2x16384x8x2x64 .f32) : FVec Ideal S2x16384x1024 .bf16 := truncf .bf16 (hLanes k) bitsLt_bf16_f32
def hV (v : FVec Ideal S2x16384x8x128 .f32) : FVec Ideal S2x32x1024x512 .bf16 := hBlocks (shapeCast S2x16384x1024 v shapeCasts_S2x16384x8x128_S2x16384x1024)
def hG (g : FVec Ideal S1x128 .f32) : FVec Ideal S128x1 .f32 := broadcastInDim S128x1 ![0] bcast_S128_S128x1_0 (shapeCast S128 g shapeCasts_S1x128_S128)
def hDot (x y : FVec Ideal S1x64 .f32) : FVec Ideal S_ .f32 :=
  Host.exp (Host.reduceAdd (mulf (shapeCast S64 x shapeCasts_S1x64_S64) (shapeCast S64 y shapeCasts_S1x64_S64)) (constant S_ .f32 0x00000000#32) reducesTo_S64_S_d0 h_S_)
def hLam (x y z w : FVec Ideal S1x64 .f32) : FVec Ideal S_ .f32 := addf (subf (hDot x y) (hDot z w)) (constant S_ .f32 0x3E4CCCCD#32)

theorem hScale_apply (i : S_.Idx) : hScale i = Ideal.div (Ideal.ofBits .f32 0x3E000000#32) (Ideal.log (Ideal.ofBits .f32 0x40000000#32)) := rfl

theorem hLanes_apply (x : FVec Ideal S2x16384x8x2x64 .f32) (b : Fin 2) (t : Fin 16384) (c : Fin 1024) :
    hLanes x (ix3 b t c) = x (ix5 b t ⟨c.val / 128, by omega⟩ ⟨c.val / 32 % 2, by omega⟩ ⟨c.val / 64 % 2 * 32 + c.val % 32, by omega⟩) := by
  pointwise [hLanes]

theorem hBlocks_apply (x : FVec Ideal S2x16384x1024 .f32) (b : Fin 2) (j : Fin 32) (c : Fin 1024) (r : Fin 512) :
    hBlocks x (ix4 b j c r) = x (ix3 b ⟨512 * j.val + r.val, by omega⟩ c) := by
  pointwise [hBlocks]
  simp only [Nat.mul_comm 512]

theorem hQ_apply (q : FVec Ideal S2x16384x8x2x64 .f32) (b : Fin 2) (j : Fin 32) (c : Fin 1024) (r : Fin 512) :
    hQ q (ix4 b j c r) = q (ix5 b ⟨512 * j.val + r.val, by omega⟩ ⟨c.val / 128, by omega⟩ ⟨c.val / 32 % 2, by omega⟩ ⟨c.val / 64 % 2 * 32 + c.val % 32, by omega⟩)
      * hScale ix0 := by
  unfold hQ
  rw [hBlocks_apply, hLanes_apply]
  pointwise

theorem hK_apply (k : FVec Ideal S2x16384x8x2x64 .f32) (b : Fin 2) (t : Fin 16384) (c : Fin 1024) :
    hK k (ix3 b t c) = k (ix5 b t ⟨c.val / 128, by omega⟩ ⟨c.val / 32 % 2, by omega⟩ ⟨c.val / 64 % 2 * 32 + c.val % 32, by omega⟩) :=
  hLanes_apply k b t c

theorem hV_apply (v : FVec Ideal S2x16384x8x128 .f32) (b : Fin 2) (j : Fin 32) (c : Fin 1024) (r : Fin 512) :
    hV v (ix4 b j c r) = v (ix4 b ⟨512 * j.val + r.val, by omega⟩ ⟨c.val / 128, by omega⟩ ⟨c.val % 128, by omega⟩) := by
  unfold hV
  rw [hBlocks_apply]
  pointwise

theorem hG_apply (g : FVec Ideal S1x128 .f32) (d : Fin 128) : hG g (ix2 d 0) = g (ix2 0 d) := by
  pointwise [hG]

/-! ## What the region finds -/

section
variable (m : (ℓ : Loc nD τ sig) → Buf (Elt Ideal) ℓ) (c : Dev nD)

theorem V_q : V m c main_v9 = hQ (m ((c.tc : Thread nD τ).loc main_arg0)) := by
  simp only [V, hostOps0]
  after_results_simp <;> rfl
theorem V_k : V m c main_v13 = hK (m ((c.tc : Thread nD τ).loc main_arg1)) := by
  simp only [V, hostOps0]
  after_results_simp <;> rfl
theorem V_v : V m c main_v17 = hV (m ((c.tc : Thread nD τ).loc main_arg2)) := by
  simp only [V, hostOps0]
  after_results_simp <;> rfl
theorem V_lam : V m c main_v30 = shapeCast S1x1 (hLam (m ((c.tc : Thread nD τ).loc main_arg3)) (m ((c.tc : Thread nD τ).loc main_arg4)) (m ((c.tc : Thread nD τ).loc main_arg5)) (m ((c.tc : Thread nD τ).loc main_arg6))) shapeCasts_S_S1x1 := by
  simp only [V, hostOps0]
  after_results_simp <;> rfl
theorem V_g : V m c main_v32 = hG (m ((c.tc : Thread nD τ).loc main_arg7)) := by
  simp only [V, hostOps0]
  after_results_simp <;> rfl
end

end Cert.Attn

end
-- ==== Proof.Blocks.lean ====
/-
  A grid point's input blocks in the argument arrays.
-/
module

public import proofs.«01_k».proof.Proof.Host
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe
open Idealize.ShloMosaic.VecWindow

/-- A point's batch entry, pair of heads and query block. -/
def bt (t : Fin cfg0.N) : Fin 2 := ⟨(grid0.coords t 0).val, (grid0.coords t 0).isLt⟩
def ht (t : Fin cfg0.N) : Fin 4 := ⟨(grid0.coords t 1).val, (grid0.coords t 1).isLt⟩
def jt (t : Fin cfg0.N) : Fin 32 := ⟨(grid0.coords t 2).val, (grid0.coords t 2).isLt⟩

theorem ix_0 : ∀ t : Fin cfg0.N, win0_0.index t = ![0, 0] := (by decide +kernel : ∀ t : Fin grid0.N, win0_0.index t = ![0, 0])
theorem ix_1 : ∀ t : Fin cfg0.N, win0_1.index t = ![(bt t).val, (jt t).val, (ht t).val, 0] :=
  (by decide +kernel : ∀ t : Fin grid0.N, win0_1.index t = ![(grid0.coords t 0).val, (grid0.coords t 2).val, (grid0.coords t 1).val, 0])
theorem ix_2 : ∀ t : Fin cfg0.N, win0_2.index t = ![(bt t).val, 0, (ht t).val] :=
  (by decide +kernel : ∀ t : Fin grid0.N, win0_2.index t = ![(grid0.coords t 0).val, 0, (grid0.coords t 1).val])
theorem ix_3 : ∀ t : Fin cfg0.N, win0_3.index t = ![(bt t).val, 0, (ht t).val, 0] :=
  (by decide +kernel : ∀ t : Fin grid0.N, win0_3.index t = ![(grid0.coords t 0).val, 0, (grid0.coords t 1).val, 0])
theorem ix_4 : ∀ t : Fin cfg0.N, win0_4.index t = ![0, 0] := (by decide +kernel : ∀ t : Fin grid0.N, win0_4.index t = ![0, 0])
theorem ix_5 : ∀ t : Fin cfg0.N, win0_5.index t = ![(bt t).val, (jt t).val, (ht t).val] :=
  (by decide +kernel : ∀ t : Fin grid0.N, win0_5.index t = ![(grid0.coords t 0).val, (grid0.coords t 2).val, (grid0.coords t 1).val])

section
variable (m : (ℓ : Loc nD τ sig) → Buf (Elt Ideal) ℓ) (c : Dev nD) (t : Fin cfg0.N)

theorem x3_apply : (insAt m c t).x3 (ix2 0 0) = hLam (m ((c.tc : Thread nD τ).loc main_arg3)) (m ((c.tc : Thread nD τ).loc main_arg4)) (m ((c.tc : Thread nD τ).loc main_arg5)) (m ((c.tc : Thread nD τ).loc main_arg6)) ix0 := by
  show V m c main_v30 ((win0_0.blk t).view.emb (ix2 0 0)) = _
  refine (congrFun (V_lam m c) _).trans ?_
  refine shapeCast_apply _ _ _ ix0 ?_
  exact (Nat.lt_one_iff.1 (Fin.isLt _)).trans (Nat.lt_one_iff.1 (Fin.isLt _)).symm

/-- A block of the queries read at an index, whatever the array holds. -/
theorem read_q (f : main_v9.ty.Contents (Elt Ideal)) (y : S1x1x256x512.Idx) : ((cfg0.win 1).blk t).view.read (Elt Ideal) f y = f ((win0_1.blk t).view.emb y) := rfl

/-- Where a block of the queries lies. -/
theorem at_q (p : Fin 256) (r : Fin 512) : (win0_1.blk t).view.emb (ix4 0 0 p r) = (ix4 (bt t) (jt t) ⟨256 * (ht t).val + p.val, by omega⟩ r : S2x32x1024x512.Idx) := by
  blk_ext [ix_1]

theorem x4_apply (p : Fin 256) (r : Fin 512) :
    (insAt m c t).x4 (ix4 0 0 p r) = hQ (m ((c.tc : Thread nD τ).loc main_arg0)) (ix4 (bt t) (jt t) ⟨256 * (ht t).val + p.val, by omega⟩ r) :=
  (read_q t (V m c main_v9) (ix4 0 0 p r)).trans ((congrFun (V_q m c) _).trans (congrArg (hQ _) (at_q t p r)))

theorem x5_apply (k : Fin 16384) (p : Fin 256) :
    (insAt m c t).x5 (ix3 0 k p) = hK (m ((c.tc : Thread nD τ).loc main_arg1)) (ix3 (bt t) k ⟨256 * (ht t).val + p.val, by omega⟩) := by
  show V m c main_v13 ((win0_2.blk t).view.emb (ix3 0 k p)) = _
  refine (congrFun (V_k m c) _).trans (congrArg (hK _) ?_)
  blk_ext [ix_2]

/-- A block of the values read at an index, whatever the array holds. -/
theorem read_v (f : main_v17.ty.Contents (Elt Ideal)) (y : S1x32x256x512.Idx) : ((cfg0.win 3).blk t).view.read (Elt Ideal) f y = f ((win0_3.blk t).view.emb y) := rfl

/-- Where a block of the values lies. -/
theorem at_v (j : Fin 32) (p : Fin 256) (r : Fin 512) : (win0_3.blk t).view.emb (ix4 0 j p r) = (ix4 (bt t) j ⟨256 * (ht t).val + p.val, by omega⟩ r : S2x32x1024x512.Idx) := by
  blk_ext [ix_3]

theorem x6_apply (j : Fin 32) (p : Fin 256) (r : Fin 512) :
    (insAt m c t).x6 (ix4 0 j p r) = hV (m ((c.tc : Thread nD τ).loc main_arg2)) (ix4 (bt t) j ⟨256 * (ht t).val + p.val, by omega⟩ r) :=
  (read_v t (V m c main_v17) (ix4 0 j p r)).trans ((congrFun (V_v m c) _).trans (congrArg (hV _) (at_v t j p r)))

theorem x7_apply (d : Fin 128) : (insAt m c t).x7 (ix2 d 0) = m ((c.tc : Thread nD τ).loc main_arg7) (ix2 0 d) := by
  show V m c main_v32 ((win0_4.blk t).view.emb (ix2 d 0)) = _
  refine (congrFun (V_g m c) _).trans ((congrArg (hG _) ?_).trans (hG_apply _ d))
  blk_ext [ix_4]

/-- The result array, from its blocks. -/
theorem result (G : Buf (Elt Ideal) ((c.tc : Thread nD τ).loc main_v33))
    (hG : ∀ (t : Fin cfg0.N) (s : Fin 2) (r : Fin 512) (d : Fin 128),
      outH (insAt m c t) s (jt t).val (ix3 0 r d)
        = G (ix3 (bt t) ⟨512 * (jt t).val + r.val, by omega⟩ ⟨256 * (ht t).val + 128 * s.val + d.val, by omega⟩)) :
    (dats m 0 c).arrAt 5 cfg0.N = G := by
  refine (dats m 0 c).arrAt_eq_of_covers 5 G (by decide +kernel) fun t hf y => ?_
  blk_simp
  rw [after0_5]
  obtain ⟨a, r, p, rfl⟩ : ∃ (a : Fin 1) (r : Fin 512) (p : Fin 256), y = ix3 a r p := ⟨_, _, _, eq_ix3 y⟩
  obtain rfl : a = 0 := Subsingleton.elim _ _
  obtain ⟨s, d, rfl⟩ : ∃ (s : Fin 2) (d : Fin 128), p = ⟨128 * s.val + d.val, by omega⟩ :=
    ⟨⟨p.val / 128, by omega⟩, ⟨p.val % 128, by omega⟩, Fin.ext (by show p.val = 128 * (p.val / 128) + p.val % 128; omega)⟩
  refine (outX_apply (insAt m c t) (jt t).val s r d).trans ((hG t s r d).trans (congrArg G ?_))
  blk_ext [ix_5]

end

end Cert.Attn

end
-- ==== Proof.Soft.lean ====
/-
  The softmax and the mix of two softmaxes over the reals: shifting the scores by a constant changes no weight, so the
  weights without the shift are those with it.
-/
module

public import proofs.«01_k».proof.Proof.Sums

@[expose] public section

noncomputable section

namespace Cert.Attn

open Idealize.ShloMosaic

/-! ## Constants -/

theorem bits_eighth : Ideal.ofBits .f32 0x3E000000#32 = (((1 : ℝ) / 8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_zero : Ideal.ofBits .f32 0x00000000#32 = (0 : EReal) := Ideal.ofBits_zero_f32
theorem bits_fifth : Ideal.ofBits .f32 0x3E4CCCCD#32 = ((13421773 / 67108864 : ℝ) : EReal) := by
  simp [Ideal.ofBits, Ideal.ieee, -EReal.coe_mul]; norm_num

/-! ## Sums of reals -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem coe_ite (p : Prop) [Decidable p] (a : ℝ) : (if p then (a : EReal) else 0) = ((if p then a else 0 : ℝ) : EReal) := by
  split <;> rfl

/-! ## One softmax -/

variable {N : ℕ}

/-- The sum of the exponentials of the scores up to `q`. -/
def expSum (q : ℕ) (x : Fin N → ℝ) : ℝ := ∑ j, if j.val ≤ q then Real.exp (x j) else 0

/-- The softmax of the scores up to `q`, at `k`. -/
def soft (q : ℕ) (x : Fin N → ℝ) (k : Fin N) : ℝ := (if k.val ≤ q then Real.exp (x k) else 0) * (1 / expSum q x)

theorem expSum_pos (q : ℕ) (x : Fin N → ℝ) (h : 0 < N) : 0 < expSum q x := by
  refine Finset.sum_pos' (fun j _ => ?_) ⟨⟨0, h⟩, Finset.mem_univ _, ?_⟩
  · split
    · exact (Real.exp_pos _).le
    · exact le_rfl
  · rw [if_pos (Nat.zero_le _)]; exact Real.exp_pos _

theorem exp_masked (q : ℕ) (x : Fin N → ℝ) (μ : ℝ) (k : Fin N) :
    Ideal.exp ((if k.val ≤ q then (x k : EReal) else ⊥) - (μ : EReal))
      = (((if k.val ≤ q then Real.exp (x k) else 0) * Real.exp (-μ) : ℝ) : EReal) := by
  split
  · rw [← EReal.coe_sub, Ideal.exp_coe, ← Real.exp_add, sub_eq_add_neg]
  · rw [EReal.bot_sub, Ideal.exp_bot, zero_mul, EReal.coe_zero]

/-- The softmax as the reference takes it, the scores shifted by any real. -/
theorem soft_of (h : 0 < N) (q : ℕ) (x : Fin N → ℝ) (μ : ℝ) (t : Fin N → EReal) (ht : ∀ k, t k = if k.val ≤ q then (x k : EReal) else ⊥) (k : Fin N) :
    Ideal.div (Ideal.exp (t k - (μ : EReal))) (0 + ∑ j, Ideal.exp (t j - (μ : EReal))) = (soft q x k : EReal) := by
  have e : ∑ j, Ideal.exp (t j - (μ : EReal)) = ((expSum q x * Real.exp (-μ) : ℝ) : EReal) := by
    rw [expSum, Finset.sum_mul, ← coe_sum]
    exact Finset.sum_congr rfl fun j _ => by rw [ht, exp_masked]
  have hp := expSum_pos q x h
  have he := Real.exp_pos (-μ)
  rw [e, zero_add, Ideal.div_coe (mul_pos hp he).ne', ht, exp_masked, ← EReal.coe_mul]
  congr 1
  rw [soft]
  field_simp

/-! ## The mix of two softmaxes -/

/-- A row's weighted values over its weights' sum, from the keys up to `q`. -/
def part (q : ℕ) (x v : Fin N → ℝ) : ℝ := (∑ k, if k.val ≤ q then v k * Real.exp (x k) else 0) * (1 / expSum q x)

theorem sum_soft (q : ℕ) (x v : Fin N → ℝ) : ∑ k, v k * soft q x k = part q x v := by
  rw [part, Finset.sum_mul]
  refine Finset.sum_congr rfl fun k _ => ?_
  rw [soft]
  split <;> ring

/-- The reference's side: the values against the difference of the weights. -/
theorem sum_mix (q : ℕ) (x0 x1 v : Fin N → ℝ) (l : ℝ) :
    ∑ k, (v k : EReal) * ((soft q x0 k : EReal) - (l : EReal) * (soft q x1 k : EReal)) = ((part q x0 v - l * part q x1 v : ℝ) : EReal) := by
  simp only [← EReal.coe_mul, ← EReal.coe_sub]
  rw [coe_sum]
  congr 1
  rw [← sum_soft, ← sum_soft, Finset.mul_sum, ← Finset.sum_sub_distrib]
  exact Finset.sum_congr rfl fun k _ => by ring

/-- The kernel's side: a row's weighted values times the inverse of its weights' sum. -/
theorem part_of (h : 0 < N) (q : ℕ) (hq : q < N) (x v : Fin N → ℝ) (f w : ℕ → EReal) (hf : ∀ k : Fin N, f k.val = (v k : EReal)) (hw : ∀ k : Fin N, w k.val = (Real.exp (x k) : EReal)) :
    (∑ k ∈ Finset.range (q + 1), f k * w k) * Ideal.div 1 (∑ k ∈ Finset.range (q + 1), w k) = (part q x v : EReal) := by
  have e0 : ∑ k ∈ Finset.range (q + 1), f k * w k = ((∑ k : Fin N, if k.val ≤ q then v k * Real.exp (x k) else 0 : ℝ) : EReal) := by
    rw [← coe_sum, ← min_eq_right (show q + 1 ≤ N by omega), ← sum_masked N q (fun k => f k * w k)]
    exact Finset.sum_congr rfl fun k _ => by rw [hf, hw, ← EReal.coe_mul, coe_ite]
  have e1 : ∑ k ∈ Finset.range (q + 1), w k = (expSum q x : EReal) := by
    rw [expSum, ← coe_sum, ← min_eq_right (show q + 1 ≤ N by omega), ← sum_masked N q w]
    exact Finset.sum_congr rfl fun k _ => by rw [hw, coe_ite]
  rw [e0, e1, Ideal.div_coe (expSum_pos q x h).ne', one_mul, ← EReal.coe_mul]
  rfl

/-! ## The scores -/

/-- A power of two at a score scaled into base two is the exponential of the score. -/
theorem exp2_score (a b : Fin 64 → ℝ) :
    Ideal.exp2 (∑ d, (a d : EReal) * ((b d : EReal) * Ideal.div (Ideal.ofBits .f32 0x3E000000#32) (Ideal.log (Ideal.ofBits .f32 0x40000000#32))))
      = (Real.exp ((∑ d, b d * a d) * (1 / 8)) : EReal) := by
  have hl : Real.log 2 ≠ 0 := (Real.log_pos one_lt_two).ne'
  rw [bits_two, Ideal.log_coe, if_neg (by norm_num), bits_eighth, Ideal.div_coe hl]
  simp only [← EReal.coe_mul]
  rw [coe_sum, Ideal.exp2_coe]
  congr 1
  rw [Real.rpow_eq_pow, Real.rpow_def_of_pos (by norm_num)]
  congr 1
  rw [Finset.sum_mul, Finset.mul_sum]
  refine Finset.sum_congr rfl fun d _ => ?_
  field_simp

/-- The reference's score. -/
theorem score_coe (a b : Fin 64 → ℝ) : (∑ d, (b d : EReal) * (a d : EReal)) * Ideal.ofBits .f32 0x3E000000#32 = (((∑ d, b d * a d) * (1 / 8) : ℝ) : EReal) := by
  simp only [← EReal.coe_mul]
  rw [coe_sum, bits_eighth, ← EReal.coe_mul]

/-- The lanes of one of a head's two components, of the 128 of its packed row. -/
def lane (cc : Fin 2) (d : Fin 64) : Fin 128 := ⟨d.val / 32 * 64 + cc.val * 32 + d.val % 32, by omega⟩

/-- A packed row against one masked to a component's lanes meets that component's 64 entries alone. -/
theorem sum_lanes (cc : Fin 2) (f g : Fin 128 → EReal) :
    ∑ l, f l * (if l.val / 32 % 2 = cc.val then g l else 0) = ∑ d, f (lane cc d) * g (lane cc d) := by
  symm
  refine Finset.sum_of_injOn (lane cc) (fun a _ b _ e => ?_) (fun _ _ => Finset.mem_coe.2 (Finset.mem_univ _)) (fun l _ hl => ?_) (fun d _ => ?_)
  · have := congrArg Fin.val e
    simp only [lane] at this
    exact Fin.ext (by omega)
  · rw [if_neg, mul_zero]
    intro h
    refine hl ⟨⟨l.val / 64 * 32 + l.val % 32, by omega⟩, Finset.mem_coe.2 (Finset.mem_univ _), Fin.ext ?_⟩
    simp only [lane]
    omega
  · rw [if_pos]
    simp only [lane]
    omega

/-! ## A maximum of reals -/

/-- The maximum of scores none of which is infinite above, one of them real, is a real. -/
theorem max_real (t : Fin N → EReal) (ht : ∀ k, t k ≠ ⊤) (k0 : Fin N) (h0 : t k0 ≠ ⊥) : ∃ μ : ℝ, max ⊥ ((Finset.univ : Finset (Fin N)).fold max ⊥ t) = (μ : EReal) := by
  rw [max_eq_right bot_le]
  have h1 : (Finset.univ : Finset (Fin N)).fold max ⊥ t < ⊤ :=
    (Finset.fold_max_lt _).2 ⟨bot_lt_top, fun k _ => lt_top_iff_ne_top.2 (ht k)⟩
  have h2 : ⊥ < (Finset.univ : Finset (Fin N)).fold max ⊥ t :=
    (Finset.lt_fold_max _).2 (Or.inr ⟨k0, Finset.mem_univ _, bot_lt_iff_ne_bot.2 h0⟩)
  exact ⟨_, (EReal.coe_toReal h1.ne h2.ne').symm⟩

end Cert.Attn

end
-- ==== Proof.Refer.lean ====
/-
  The reference's result at an index, over the reals: the two softmaxes of each head as its causal weights, their mix
  against the values, and the norm that follows.
-/
module

public import proofs.«01_k».proof.Proof.Soft
public import proofs.«01_k».proof.Proof.Gen.ReferenceIdeal.Read

@[expose] public section

set_option maxRecDepth 16384

noncomputable section

namespace Cert.Attn.Refer

open Cert.ReferenceIdeal Cert.ReferenceIdeal.Gen Cert.ReferenceIdeal.Read
open Idealize.ShloMosaic Idealize.ShloMosaic.TcCoe Idealize.ShloMosaic.StableHlo

/-- A query's scaled score against a key, in one component of one head. -/
def rs (Q K : S2x16384x8x2x64.Idx → ℝ) (b : Fin 2) (h : Fin 8) (c : Fin 2) (n k : Fin 16384) : ℝ :=
  (∑ d : Fin 64, Q (ix5 b n h c d) * K (ix5 b k h c d)) * (1 / 8)

section
variable (x0 x1 : (⟨S2x16384x8x2x64, .f32⟩ : BufTy).Contents (Elt Ideal)) (Q K : S2x16384x8x2x64.Idx → ℝ)
variable (hQ : ∀ i, x0 i = (Q i : EReal)) (hK : ∀ i, x1 i = (K i : EReal))
include hQ hK

theorem v14_at (b : Fin 2) (h : Fin 8) (c : Fin 2) (n k : Fin 16384) :
    val_main_v14 (F := Ideal) x0 x1 (ix5 b h c n k) = (rs Q K b h c n k : EReal) := by
  rw [val_main_v14_apply, val_main_v12_apply, val_main_v13_apply, val_main_cst_2_apply]
  refine Eq.trans ?_ (score_coe (fun d => K (ix5 b k h c d)) (fun d => Q (ix5 b n h c d)))
  refine congrArg (· * Ideal.ofBits .f32 0x3E000000#32) (Finset.sum_congr rfl fun d _ => ?_)
  rw [hQ, hK]
  exact congrArg₂ (fun i j => (Q i : EReal) * (K j : EReal)) (eq_ix5 _) (eq_ix5 _)

theorem v21_at (b : Fin 2) (h : Fin 8) (c : Fin 2) (n k : Fin 16384) :
    val_main_v21 (F := Ideal) x0 x1 (ix5 b h c n k) = if k.val ≤ n.val then (rs Q K b h c n k : EReal) else ⊥ := by
  rw [val_main_v21_apply, v14_at x0 x1 Q K hQ hK, val_main_call0_v1_apply, val_main_v20_apply, val_main_v18_apply, val_main_v19_apply,
    val_main_v16_apply, val_main_v17_apply, val_main_v15_apply, val_main_v15_apply, val_main_call0_v2_apply, val_main_call0_v0_apply, val_main_cst_3_apply]
  refine (congrArg (fun w => Scalar.select w _ _) (WordCmp.cmpi_sle_ofNat (show k.val < 2 ^ 31 by omega) (show n.val < 2 ^ 31 by omega))).trans ?_
  rw [WordCmp.select_ofBool]
  exact if_congr decide_eq_true_iff rfl bits_bot

theorem v24_real (b : Fin 2) (h : Fin 8) (c : Fin 2) (n : Fin 16384) :
    ∃ μ : ℝ, val_main_v24 (F := Ideal) x0 x1 (ix4 b h c n) = (μ : EReal) := by
  obtain ⟨μ, e⟩ := max_real (fun k : Fin 16384 => val_main_v21 (F := Ideal) x0 x1 (ix5 b h c n k))
    (fun k => by rw [v21_at x0 x1 Q K hQ hK]; split; exacts [EReal.coe_ne_top _, bot_ne_top])
    ⟨0, by norm_num⟩ (by rw [v21_at x0 x1 Q K hQ hK, if_pos (Nat.zero_le _)]; exact EReal.coe_ne_bot _)
  refine ⟨μ, Eq.trans ?_ e⟩
  rw [val_main_v24_apply, val_main_v23_apply, val_main_cst_5_apply, val_main_v22]
  generalize val_main_v21 (F := Ideal) x0 x1 = y
  refine congrArg₂ max bits_bot ?_
  refine (Host.reduce_eq_fold_single (FloatOps.maximumf (F := Ideal) (φ := .f32)) y _ reducesTo_S2x8x2x16384x16384_S2x8x2x16384_d4 (by decide) h_S_ _).trans ?_
  refine congrArg₂ (fun z (f : Fin 16384 → EReal) => (Finset.univ : Finset (Fin 16384)).fold max z f) bits_bot (funext fun k => ?_)
  exact congrArg y (funext fun a => Fin.ext (by match a with | ⟨0, _⟩ => rfl | ⟨1, _⟩ => rfl | ⟨2, _⟩ => rfl | ⟨3, _⟩ => rfl | ⟨4, _⟩ => rfl))

theorem v32_at (b : Fin 2) (h : Fin 8) (c : Fin 2) (n k : Fin 16384) :
    val_main_v32 (F := Ideal) x0 x1 (ix5 b h c n k) = (soft n.val (rs Q K b h c n) k : EReal) := by
  obtain ⟨μ, hμ⟩ := v24_real x0 x1 Q K hQ hK b h c n
  have e (j : Fin 16384) : val_main_v28 (F := Ideal) x0 x1 (ix5 b h c n j)
      = Ideal.exp (val_main_v21 (F := Ideal) x0 x1 (ix5 b h c n j) - (μ : EReal)) := by
    rw [val_main_v28_apply, val_main_v27_apply, val_main_v26_apply, val_main_v25_apply, ← hμ]
    rw [show idx_main_v25 (idx_main_v26 (ix5 b h c n j)) = ix4 b h c n from eq_ix4 _]
    rfl
  rw [val_main_v32_apply, val_main_v31_apply, val_main_v30_apply, val_main_v29_apply, e]
  refine Eq.trans ?_ (soft_of (by norm_num) n.val (rs Q K b h c n) μ (fun k => val_main_v21 (F := Ideal) x0 x1 (ix5 b h c n k)) (fun k => v21_at x0 x1 Q K hQ hK b h c n k) k)
  refine congrArg (Ideal.div _) (congrArg₂ (· + ·) (bits_zero) (Finset.sum_congr rfl fun j _ => ?_))
  rw [← e]
  exact congrArg _ (eq_ix5 _)

variable (x2 : (⟨S2x16384x8x128, .f32⟩ : BufTy).Contents (Elt Ideal)) (W : S2x16384x8x128.Idx → ℝ) (hW : ∀ i, x2 i = (W i : EReal))
variable (x3 x4 x5 x6 : (⟨S1x64, .f32⟩ : BufTy).Contents (Elt Ideal)) (l : ℝ) (hl : val_main_v11 (F := Ideal) x3 x4 x5 x6 ix0 = (l : EReal))

theorem v34_at (b : Fin 2) (h : Fin 8) (n k : Fin 16384) :
    val_main_v34 (F := Ideal) x0 x1 (ix4 b h n k) = (soft n.val (rs Q K b h 0 n) k : EReal) := by
  rw [val_main_v34_apply, val_main_v33_apply, ← v32_at x0 x1 Q K hQ hK]
  refine congrArg _ ((eq_ix5 _).trans ?_)
  congr 1 <;> refine Fin.ext ?_
  · show (((b.val * 8 + h.val) * 16384 + n.val) * 16384 + k.val) / 2147483648 = b.val; omega
  · show (((b.val * 8 + h.val) * 16384 + n.val) * 16384 + k.val) / 268435456 % 8 = h.val; omega
  · show (((b.val * 8 + h.val) * 16384 + n.val) * 16384 + k.val) / 16384 % 16384 = n.val; omega
  · show (((b.val * 8 + h.val) * 16384 + n.val) * 16384 + k.val) % 16384 = k.val; omega

theorem v36_at (b : Fin 2) (h : Fin 8) (n k : Fin 16384) :
    val_main_v36 (F := Ideal) x0 x1 (ix4 b h n k) = (soft n.val (rs Q K b h 1 n) k : EReal) := by
  rw [val_main_v36_apply, val_main_v35_apply, ← v32_at x0 x1 Q K hQ hK]
  refine congrArg _ ((eq_ix5 _).trans ?_)
  congr 1 <;> refine Fin.ext ?_
  · show (((b.val * 8 + h.val) * 16384 + n.val) * 16384 + k.val) / 2147483648 = b.val; omega
  · show (((b.val * 8 + h.val) * 16384 + n.val) * 16384 + k.val) / 268435456 % 8 = h.val; omega
  · show (((b.val * 8 + h.val) * 16384 + n.val) * 16384 + k.val) / 16384 % 16384 = n.val; omega
  · show (((b.val * 8 + h.val) * 16384 + n.val) * 16384 + k.val) % 16384 = k.val; omega

/-- A head's mix at a token, before the norm. -/
def mixed (Q K : S2x16384x8x2x64.Idx → ℝ) (W : S2x16384x8x128.Idx → ℝ) (l : ℝ) (b : Fin 2) (n : Fin 16384) (h : Fin 8) (d : Fin 128) : ℝ :=
  part n.val (rs Q K b h 0 n) (fun k => W (ix4 b k h d)) - l * part n.val (rs Q K b h 1 n) (fun k => W (ix4 b k h d))

include hW hl

theorem v41_at (b : Fin 2) (n : Fin 16384) (h : Fin 8) (d : Fin 128) :
    val_main_v41 (F := Ideal) x0 x1 x2 x3 x4 x5 x6 (ix4 b n h d) = (mixed Q K W l b n h d : EReal) := by
  rw [val_main_v41_apply, val_main_v40_apply]
  refine Eq.trans (Finset.sum_congr rfl fun k _ => ?_) (sum_mix n.val (rs Q K b h 0 n) (rs Q K b h 1 n) (fun k => W (ix4 b k h d)) l)
  rw [← v34_at x0 x1 Q K hQ hK, ← v36_at x0 x1 Q K hQ hK, ← hl, ← hW, show lidx_main_v40 (idx_main_v41 (ix4 b n h d)) k = ix4 b k h d from eq_ix4 _,
    show ridx_main_v40 (idx_main_v41 (ix4 b n h d)) k = ix4 b h n k from eq_ix4 _, val_main_v39_apply, val_main_v38_apply, val_main_v37_apply,
    show idx_main_v37 (ix4 b h n k) = ix0 from funext fun a => a.elim0]
  rfl

/-- The reference's result at an index. -/
theorem v59_at (x7 : (⟨S1x128, .f32⟩ : BufTy).Contents (Elt Ideal)) (b : Fin 2) (n : Fin 16384) (h : Fin 8) (d : Fin 128) :
    val_main_v59 (F := Ideal) x0 x1 x2 x3 x4 x5 x6 x7 (ix3 b n ⟨128 * h.val + d.val, by omega⟩)
      = (mixed Q K W l b n h d : EReal)
          * Ideal.rsqrt (Ideal.div (∑ e : Fin 128, (mixed Q K W l b n h e : EReal) * (mixed Q K W l b n h e : EReal)) (Ideal.ofBits .f32 0x43000000#32) + Ideal.ofBits .f32 0x358637BD#32)
          * x7 (ix2 0 d) * Ideal.ofBits .f32 0x3F4CCCCD#32 := by
  have ei : idx_main_v58 (ix3 b n ⟨128 * h.val + d.val, by omega⟩) = ix4 b n h d := by
    refine (eq_ix4 _).trans ?_
    congr 1 <;> refine Fin.ext ?_
    · show ((b.val * 16384 + n.val) * 1024 + (128 * h.val + d.val)) / 16777216 = b.val; omega
    · show ((b.val * 16384 + n.val) * 1024 + (128 * h.val + d.val)) / 1024 % 16384 = n.val; omega
    · show ((b.val * 16384 + n.val) * 1024 + (128 * h.val + d.val)) / 128 % 8 = h.val; omega
    · show ((b.val * 16384 + n.val) * 1024 + (128 * h.val + d.val)) % 128 = d.val; omega
  have eg : val_main_v54 (F := Ideal) x7 (ix4 b n h d) = x7 (ix2 0 d) := by
    rw [val_main_v54_apply, val_main_v53_apply, val_main_v42_apply]
    refine congrArg x7 ((eq_ix2 _).trans ?_)
    congr 1
    exact Fin.ext (Nat.mod_eq_of_lt d.isLt)
  have es : val_main_v51 (F := Ideal) x0 x1 x2 x3 x4 x5 x6 (ix4 b n h d)
      = Ideal.rsqrt (Ideal.div (∑ e : Fin 128, (mixed Q K W l b n h e : EReal) * (mixed Q K W l b n h e : EReal)) (Ideal.ofBits .f32 0x43000000#32) + Ideal.ofBits .f32 0x358637BD#32) := by
    rw [val_main_v51_apply, val_main_v50_apply, val_main_v49_apply, val_main_v48_apply, val_main_cst_9_apply, val_main_v47_apply, val_main_v46_apply,
      val_main_cst_8_apply, val_main_v45_apply, val_main_v44_apply]
    refine congrArg (fun s => Ideal.rsqrt (Ideal.div s (Ideal.ofBits .f32 0x43000000#32) + Ideal.ofBits .f32 0x358637BD#32)) ?_
    refine (congrArg₂ (· + ·) bits_zero (Finset.sum_congr rfl fun e _ => ?_)).trans (zero_add _)
    rw [val_main_v43_apply, ← v41_at x0 x1 Q K hQ hK x2 W hW x3 x4 x5 x6 l hl, show idx_main_v44 (idx_main_v45 (idx_main_v51 (ix4 b n h d))) e = ix4 b n h e from eq_ix4 _]
    rfl
  rw [val_main_v59_apply, val_main_v58_apply, ei, val_main_v57_apply, val_main_v56_apply, val_main_cst_10_apply, val_main_v55_apply, eg, val_main_v52_apply, es,
    v41_at x0 x1 Q K hQ hK x2 W hW x3 x4 x5 x6 l hl]
  rfl

end

end Cert.Attn.Refer

end
-- ==== Proof.Value.lean ====
/-
  The kernel's result at an index is the reference's: its running sums are the causal weights' sums.
-/
module

public import proofs.«01_k».proof.Proof.Blocks
public import proofs.«01_k».proof.Proof.Refer

@[expose] public section

set_option maxRecDepth 16384

noncomputable section

namespace Cert.Attn

open Cert.KernelIdeal Cert.KernelIdeal.Gen
open Idealize.ShloMosaic Idealize.ShloMosaic.TcCoe

section
variable (m : (ℓ : Loc nD τ sig) → Buf (Elt Ideal) ℓ) (c : Dev nD) (t : Fin cfg0.N)

/-- Head `s` of a point's pair, and the token of query `r` of its block. -/
def hd (s : Fin 2) : Fin 8 := ⟨2 * (ht t).val + s.val, by omega⟩
def tok (r : Fin 512) : Fin 16384 := ⟨512 * (jt t).val + r.val, by omega⟩

theorem kx_at (s cc : Fin 2) (k : Fin 16384) (d : Fin 64) :
    kx (insAt m c t) s k.val (lane cc d) = m ((c.tc : Thread nD τ).loc main_arg1) (ix5 (bt t) k (hd t s) cc d) := by
  unfold kx
  rw [x5_apply, hK_apply]
  refine congrArg _ ?_
  congr 1 <;> refine Fin.ext ?_ <;> simp only [lane, hd] <;> omega

theorem qx_at (s cc : Fin 2) (r : Fin 512) (d : Fin 64) :
    (insAt m c t).x4 (ix4 0 0 ⟨128 * s.val + (lane cc d).val, by omega⟩ r)
      = HMul.hMul (α := EReal) (β := EReal) (γ := EReal) (m ((c.tc : Thread nD τ).loc main_arg0) (ix5 (bt t) (tok t r) (hd t s) cc d)) (hScale ix0) := by
  rw [x4_apply, hQ_apply]
  refine congrArg (· * hScale ix0) (congrArg _ ?_)
  congr 1 <;> refine Fin.ext ?_ <;> simp only [lane, hd, tok] <;> omega

theorem vx_at (s : Fin 2) (d : Fin 128) (k : Fin 16384) :
    vx (insAt m c t) s d k.val = m ((c.tc : Thread nD τ).loc main_arg2) (ix4 (bt t) k (hd t s) d) := by
  unfold vx
  rw [x6_apply, hV_apply]
  refine congrArg _ ?_
  congr 1 <;> refine Fin.ext ?_ <;> simp only [hd] <;> omega

variable (Q K : S2x16384x8x2x64.Idx → ℝ) (W : S2x16384x8x128.Idx → ℝ) (l : ℝ)
variable (hQ : ∀ i, m ((c.tc : Thread nD τ).loc main_arg0) i = (Q i : EReal)) (hK : ∀ i, m ((c.tc : Thread nD τ).loc main_arg1) i = (K i : EReal))
variable (hW : ∀ i, m ((c.tc : Thread nD τ).loc main_arg2) i = (W i : EReal))
variable (hl : hLam (m ((c.tc : Thread nD τ).loc main_arg3)) (m ((c.tc : Thread nD τ).loc main_arg4)) (m ((c.tc : Thread nD τ).loc main_arg5)) (m ((c.tc : Thread nD τ).loc main_arg6)) ix0 = (l : EReal))

include hQ hK in
/-- A weight of the kernel is the exponential of the reference's scaled score. -/
theorem wt_at (s cc : Fin 2) (r : Fin 512) (k : Fin 16384) :
    wt (insAt m c t) s cc r k.val = (Real.exp (Refer.rs Q K (bt t) (hd t s) cc (tok t r) k) : EReal) := by
  refine Eq.trans (congrArg Ideal.exp2 ?_) (exp2_score (fun d => K (ix5 (bt t) k (hd t s) cc d)) (fun d => Q (ix5 (bt t) (tok t r) (hd t s) cc d)))
  unfold sc qx
  rw [sum_lanes cc (fun j => kx (insAt m c t) s k.val j) (fun j => (insAt m c t).x4 (ix4 0 0 ⟨128 * s.val + j.val, by omega⟩ r))]
  refine Finset.sum_congr rfl fun d _ => ?_
  rw [kx_at, qx_at, hK, hQ, hScale_apply]

include hQ hK hW in
/-- A component's quotient is the causal softmax's mix. -/
theorem part_at (s cc : Fin 2) (r : Fin 512) (d : Fin 128) :
    num (insAt m c t) s cc (jt t).val r d * Ideal.div 1 (den (insAt m c t) s cc (jt t).val r)
      = (part (tok t r).val (Refer.rs Q K (bt t) (hd t s) cc (tok t r)) (fun k => W (ix4 (bt t) k (hd t s) d)) : EReal) :=
  part_of (by norm_num) (tok t r).val (tok t r).isLt _ _ (vx (insAt m c t) s d) (wt (insAt m c t) s cc r)
    (fun k => (vx_at m c t s d k).trans (hW _)) (wt_at m c t Q K hQ hK s cc r)

include hQ hK hW hl in
theorem dif_at (s : Fin 2) (r : Fin 512) (d : Fin 128) :
    dif (insAt m c t) s (jt t).val r d = (Refer.mixed Q K W l (bt t) (tok t r) (hd t s) d : EReal) := by
  unfold dif Refer.mixed
  rw [part_at m c t Q K W hQ hK hW, part_at m c t Q K W hQ hK hW, x3_apply, hl, EReal.coe_sub, EReal.coe_mul]

end

section
variable (m : (ℓ : Loc nD τ sig) → Buf (Elt Ideal) ℓ) (c : Dev nD)

/-- The reference's result of the kernel's arguments. -/
def refOut : Buf (Elt Ideal) ((c.tc : Thread nD τ).loc main_v33) :=
  Cert.ReferenceIdeal.Read.val_main_v59 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7))

theorem value (Q K : S2x16384x8x2x64.Idx → ℝ) (W : S2x16384x8x128.Idx → ℝ) (l : ℝ)
    (hQ : ∀ i, m ((c.tc : Thread nD τ).loc main_arg0) i = (Q i : EReal)) (hK : ∀ i, m ((c.tc : Thread nD τ).loc main_arg1) i = (K i : EReal))
    (hW : ∀ i, m ((c.tc : Thread nD τ).loc main_arg2) i = (W i : EReal))
    (hl : Cert.ReferenceIdeal.Read.val_main_v11 (F := Ideal) (m ((c.tc : Thread nD τ).loc main_arg3)) (m ((c.tc : Thread nD τ).loc main_arg4)) (m ((c.tc : Thread nD τ).loc main_arg5)) (m ((c.tc : Thread nD τ).loc main_arg6)) ix0 = (l : EReal)) :
    (dats m 0 c).arrAt 5 cfg0.N = refOut m c := by
  refine result m c _ fun t s r d => ?_
  have e : ∀ d, dif (insAt m c t) s (jt t).val r d = (Refer.mixed Q K W l (bt t) (tok t r) (hd t s) d : EReal) :=
    fun d => dif_at m c t Q K W l hQ hK hW hl s r d
  rw [outH_apply _ s _ (jt t).isLt r d, x7_apply]
  simp only [e]
  refine (Refer.v59_at _ _ Q K hQ hK _ W hW _ _ _ _ l hl _ (bt t) (tok t r) (hd t s) d).symm.trans (congrArg (refOut m c) ?_)
  congr 1
  refine Fin.ext ?_
  show 128 * (2 * (ht t).val + s.val) + d.val = 256 * (ht t).val + 128 * s.val + d.val
  omega

end

end Cert.Attn

end
-- ==== Proof.Finite.lean ====
/-
  What the precondition says: the queries, the keys, the values and the four vectors of the mix's weight hold reals.
-/
module

public import proofs.«01_k».proof.Defs
public import proofs.«01_k».proof.Proof.Refer
public import proofs.«01_k».proof.Proof.Gen.Pre_finite_heads
public import Idealize.ShloMosaic.Lib.ReduceAll

@[expose] public section

set_option maxRecDepth 16384

noncomputable section

namespace Cert.Attn

open Idealize.ShloMosaic

/-- A value whose size is below infinity is a real. -/
theorem real_of_small (x : EReal) (h : Ideal.cmp .olt (max x (-x)) (Ideal.ofBits .f32 0x7F800000#32) = 1#1) : ∃ r : ℝ, x = (r : EReal) := by
  rw [bits_top] at h
  unfold Ideal.cmp at h
  have hlt : max x (-x) < ⊤ := by
    by_contra hn
    simp [hn] at h
  rw [max_lt_iff] at hlt
  refine ⟨x.toReal, (EReal.coe_toReal hlt.1.ne fun hb => ?_).symm⟩
  rw [hb] at hlt
  exact absurd hlt.2 (by simp)

theorem both_of_and {a b : BitVec 1} (h : IntOp.andi a b = 1#1) : a = 1#1 ∧ b = 1#1 := by
  revert h; revert a b; decide

/-- A reduction by `and` of the sizes' comparisons that is one holds of every entry. -/
theorem all_real {s u : Shape} {axes : List (Fin s.rank)} (x : s.Idx → EReal) (p : s.Idx → BitVec 1) (init : u.Idx → BitVec 1)
    (h : s.ReducesTo axes (⟨0, ![]⟩ : Shape)) (hu : 0 < u.numel) (j : (⟨0, ![]⟩ : Shape).Idx)
    (hp : ∀ i, p i = Ideal.cmp .olt (max (x i) (-(x i))) (Ideal.ofBits .f32 0x7F800000#32)) (e : Host.reduce IntOp.andi p init h hu j = 1#1) (i : s.Idx) :
    ∃ r : ℝ, x i = (r : EReal) :=
  real_of_small _ ((hp i).symm.trans (Host.reduce_andi_eq_one p init h hu j e i (funext fun a => a.elim0)))

open Cert.Pre_finite_heads in
theorem reals (x0 x1 : FVec Ideal S2x16384x8x2x64 .f32) (x2 : FVec Ideal S2x16384x8x128 .f32) (x3 x4 x5 x6 : FVec Ideal S1x64 .f32) (x7 : FVec Ideal S1x128 .f32)
    (h : Cert.Pre_finite_heads.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) := by
  have h0 := congrFun h ix0
  unfold Cert.Pre_finite_heads.fn Cert.Pre_finite_heads.fn_part1 at h0
  obtain ⟨h0, e6⟩ := both_of_and h0
  obtain ⟨h0, e5⟩ := both_of_and h0
  obtain ⟨h0, e4⟩ := both_of_and h0
  obtain ⟨h0, e3⟩ := both_of_and h0
  obtain ⟨h0, e2⟩ := both_of_and h0
  obtain ⟨e0, e1⟩ := both_of_and h0
  exact ⟨all_real x0 _ _ _ _ _ (fun _ => rfl) e0, all_real x1 _ _ _ _ _ (fun _ => rfl) e1, all_real x2 _ _ _ _ _ (fun _ => rfl) e2,
    all_real x3 _ _ _ _ _ (fun _ => rfl) e3, all_real x4 _ _ _ _ _ (fun _ => rfl) e4, all_real x5 _ _ _ _ _ (fun _ => rfl) e5,
    all_real x6 _ _ _ _ _ (fun _ => rfl) e6⟩

theorem sum_real {ι : Type} [Fintype ι] (f : ι → EReal) (h : ∀ i, ∃ r : ℝ, f i = (r : EReal)) : ∃ r : ℝ, ∑ i, f i = (r : EReal) := by
  choose g hg using h
  exact ⟨_, (Finset.sum_congr rfl fun i _ => hg i).trans (coe_sum _ g)⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

open Cert.ReferenceIdeal Cert.ReferenceIdeal.Read in
/-- The mix's weight is a real. -/
theorem lam_real (x3 x4 x5 x6 : (⟨S1x64, .f32⟩ : BufTy).Contents (Elt Ideal)) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) : ∃ l : ℝ, val_main_v11 (F := Ideal) x3 x4 x5 x6 ix0 = (l : EReal) := by
  have e3 : ∃ r : ℝ, val_main_v3 (F := Ideal) x3 x4 ix0 = (r : EReal) := by
    rw [val_main_v3_apply]
    obtain ⟨r, e⟩ := sum_real (fun k : S64.Idx => val_main_v2 (F := Ideal) x3 x4 k) fun k => by
      rw [val_main_v2_apply, val_main_v0_apply, val_main_v1_apply]
      exact mul_real (h3 _) (h4 _)
    exact ⟨r, (congrArg₂ (· + ·) bits_zero e).trans (zero_add _)⟩
  have e8 : ∃ r : ℝ, val_main_v8 (F := Ideal) x5 x6 ix0 = (r : EReal) := by
    rw [val_main_v8_apply]
    obtain ⟨r, e⟩ := sum_real (fun k : S64.Idx => val_main_v7 (F := Ideal) x5 x6 k) fun k => by
      rw [val_main_v7_apply, val_main_v5_apply, val_main_v6_apply]
      exact mul_real (h5 _) (h6 _)
    exact ⟨r, (congrArg₂ (· + ·) bits_zero e).trans (zero_add _)⟩
  obtain ⟨a, ea⟩ := e3
  obtain ⟨b, eb⟩ := e8
  refine ⟨Real.exp a - Real.exp b + 13421773 / 67108864, ?_⟩
  rw [val_main_v11_apply, val_main_v10_apply, val_main_v4_apply, val_main_v9_apply, ea, eb, EReal.coe_add, EReal.coe_sub, ← bits_fifth]
  rfl

end Cert.Attn

end
-- ==== Proof.Algebraic.lean ====
/-
  The kernel and the reference leave the same result, on reals.
-/
module

public import proofs.«01_k».proof.Proof.Value
public import proofs.«01_k».proof.Proof.Finite
public import proofs.«01_k».proof.Proof.Frames

@[expose] public section

set_option maxRecDepth 16384

noncomputable section

namespace Cert.Attn

open Idealize.ShloMosaic Idealize.ShloMosaic.TcCoe Idealize.SL.Sem

open Cert.KernelIdeal Cert.KernelIdeal.Gen in
/-- Under the precondition the kernel's array holds the reference's result. -/
theorem value_pre (m : (ℓ : Loc nD τ sig) → Buf (Elt Ideal) ℓ)
    (h : Cert.Pre_KernelIdeal_finite_heads (hPre_finite_heads := Cert.Pre_finite_heads.Gen.facts) m) (c : Dev nD) :
    (dats m 0 c).arrAt 5 cfg0.N = refOut m c := by
  obtain ⟨h0, h1, h2, h3, h4, h5, h6⟩ := reals _ _ _ _ _ _ _ _ (h c)
  obtain ⟨l, hl⟩ := lam_real _ _ _ _ h3 h4 h5 h6
  choose Q hQ using h0
  choose K hK using h1
  choose W hW using h2
  exact value m c Q K W l hQ hK hW hl

theorem algebraic : Cert.algebraic_KernelIdeal_ReferenceIdeal_pre_finite_heads (hKernelIdeal := Cert.KernelIdeal.Gen.facts) (hReferenceIdeal := Cert.ReferenceIdeal.Gen.facts)
    (hPre_finite_heads := Cert.Pre_finite_heads.Gen.facts) := fun m ρ m' ρ' hpre hagree => by
  refine ⟨fun c => refOut m c, ?_, ?_⟩
  · refine (θ_run Cert.KernelIdeal.defs _ _).mono (fun r h c => ⟨?_, h.2.1 c⟩) (θ_run_and (run_main (F := Ideal) m ρ) (quiet (F := Ideal) m ρ))
    exact (Pipeline.FramePost.out_eq h.1 c 5).trans (value_pre m hpre c)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7⟩ := hagree c
    rw [Cert.ReferenceIdeal.Read.val_main_v59_eq, e0, e1, e2, e3, e4, e5, e6, e7]
    rfl

end Cert.Attn

end
-- ==== Proof.FfnPoint.lean ====
/-
  What a grid point of the feed-forward call computes: the blocks it reads, the window of eight rows kept from the
  point before, and the product it leaves, as plain functions of those blocks.
-/
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.ShloMosaic.Tactic

/-- A rectangle of a matrix lies inside it when its two extents do. -/
theorem inside (R C r c p q : ℕ) (h1 : p + r ≤ R) (h2 : q + c ≤ C) : ∀ a : Fin 2, ![p, q] a + ![r, c] a ≤ (⟨2, ![R, C]⟩ : Shape).size a := fun a => by
  fin_cases a
  · exact h1
  · exact h2

/-- 512 rows of the window from row `off`: rows of the kept eight, then rows of the block. -/
def shifted (off : ℕ) (hoff : off ≤ 8) (Q : Vec Ideal S8x256 .f32) (P : Vec Ideal S512x256 .f32) : Vec Ideal S512x256 .f32 := fun j =>
  if h : off + (j 0).val < 8 then Q (ix2 ⟨off + (j 0).val, h⟩ (j 1)) else P (ix2 ⟨off + (j 0).val - 8, by have : (j 0).val < 512 := (j 0).isLt; omega⟩ (j 1))

/-- The window read back from row `off`, whatever it held before its two stores. -/
theorem read_window {κ : Kind} {sp : Space} (v : View sig κ sp S520x256 .f32) (off : ℕ) (hoff : off ≤ 8)
    (i1 : ∀ a, ![8, 0] a + ![512, 256] a ≤ S520x256.size a) (i2 : ∀ a, ![0, 0] a + ![8, 256] a ≤ S520x256.size a)
    (i3 : ∀ a, ![off, 0] a + ![512, 256] a ≤ S520x256.size a)
    (P : Vec Ideal S512x256 .f32) (Q : Vec Ideal S8x256 .f32) (L : List (View.Piece (Elt Ideal) S520x256 .f32)) :
    v.readCov (Val := Elt Ideal) (⟨Rect.unit (s := S520x256) ![8, 0] ![512, 256] i1, P⟩ :: ⟨Rect.unit (s := S520x256) ![0, 0] ![8, 256] i2, Q⟩ :: L)
      (Rect.unit (s := S520x256) ![off, 0] ![512, 256] i3).toLoadRect = shifted off hoff Q P := by
  rw [View.readCov_eq_canon']
  funext j
  have h0 : (j 0).val < 512 := (j 0).isLt
  have h1 : (j 1).val < 256 := (j 1).isLt
  by_cases h : off + (j 0).val < 8
  · rw [View.canon_cons_of_not_mem]
    · have e : (Rect.unit (s := S520x256) ![off, 0] ![512, 256] i3).toLoadRect.idx j = (Rect.unit (s := S520x256) ![0, 0] ![8, 256] i2).emb (ix2 ⟨off + (j 0).val, h⟩ (j 1)) := by
        funext a
        refine Fin.ext ?_
        fin_cases a
        · show off + 1 * (j 0).val = 0 + 1 * (off + (j 0).val); omega
        · rfl
      rw [e, View.canon_cons_emb]
      unfold shifted
      rw [dif_pos h]
    · rw [Rect.mem_set_unit]
      intro hm
      have := (hm 0).1
      have h' : 8 ≤ off + 1 * (j 0).val := this
      omega
  · have e : (Rect.unit (s := S520x256) ![off, 0] ![512, 256] i3).toLoadRect.idx j = (Rect.unit (s := S520x256) ![8, 0] ![512, 256] i1).emb (ix2 ⟨off + (j 0).val - 8, by omega⟩ (j 1)) := by
      funext a
      refine Fin.ext ?_
      fin_cases a
      · show off + 1 * (j 0).val = 8 + 1 * (off + (j 0).val - 8); omega
      · rfl
    rw [e, View.canon_cons_emb]
    unfold shifted
    rw [dif_neg h]

theorem read_window6 {κ : Kind} {sp : Space} (v : View sig κ sp S520x256 .f32)
    (i1 : ∀ a, ![8, 0] a + ![512, 256] a ≤ S520x256.size a) (i2 : ∀ a, ![0, 0] a + ![8, 256] a ≤ S520x256.size a)
    (i3 : ∀ a, ![6, 0] a + ![512, 256] a ≤ S520x256.size a)
    (P : Vec Ideal S512x256 .f32) (Q : Vec Ideal S8x256 .f32) (L : List (View.Piece (Elt Ideal) S520x256 .f32)) :
    v.readCov (Val := Elt Ideal) (⟨Rect.unit (s := S520x256) ![8, 0] ![512, 256] i1, P⟩ :: ⟨Rect.unit (s := S520x256) ![0, 0] ![8, 256] i2, Q⟩ :: L)
      (Rect.unit (s := S520x256) ![6, 0] ![512, 256] i3).toLoadRect = shifted 6 (by decide) Q P := read_window v 6 (by decide) i1 i2 i3 P Q L

theorem read_window7 {κ : Kind} {sp : Space} (v : View sig κ sp S520x256 .f32)
    (i1 : ∀ a, ![8, 0] a + ![512, 256] a ≤ S520x256.size a) (i2 : ∀ a, ![0, 0] a + ![8, 256] a ≤ S520x256.size a)
    (i3 : ∀ a, ![7, 0] a + ![512, 256] a ≤ S520x256.size a)
    (P : Vec Ideal S512x256 .f32) (Q : Vec Ideal S8x256 .f32) (L : List (View.Piece (Elt Ideal) S520x256 .f32)) :
    v.readCov (Val := Elt Ideal) (⟨Rect.unit (s := S520x256) ![8, 0] ![512, 256] i1, P⟩ :: ⟨Rect.unit (s := S520x256) ![0, 0] ![8, 256] i2, Q⟩ :: L)
      (Rect.unit (s := S520x256) ![7, 0] ![512, 256] i3).toLoadRect = shifted 7 (by decide) Q P := read_window v 7 (by decide) i1 i2 i3 P Q L

/-- The gated columns read back whole. -/
theorem read_gates {κ : Kind} {sp : Space} (v : View sig κ sp S512x2816 .bf16) (i : ∀ a, ![0, 0] a + ![512, 2816] a ≤ S512x2816.size a)
    (L : List (View.Piece (Elt Ideal) S512x2816 .bf16)) :
    v.readCov (Val := Elt Ideal) L (Rect.unit (s := S512x2816) ![0, 0] ![512, 2816] i).toLoadRect = View.canon L := by
  rw [View.readCov_eq_canon']
  funext j
  refine congrArg (View.canon L) (funext fun a => Fin.ext ?_)
  fin_cases a
  · show 0 + 1 * (j 0).val = (j 0).val; omega
  · show 0 + 1 * (j 1).val = (j 1).val; omega

section
variable (xs : Vec Ideal S8x5632 .f32) (x0 : Vec Ideal S1x512x1024 .bf16) (x1 : Vec Ideal S1x512x1024 .f32) (x2 : Vec Ideal S1024x5632 .bf16)
  (x3 : Vec Ideal S3x5632 .f32) (x4 : Vec Ideal S1x5632 .f32) (x5 : Vec Ideal S2816x1024 .bf16) (o : ℕ) (ho : o + 256 ≤ 5632)

/-- The 256 columns of the first product from column `o`. -/
def upV : FVec Ideal S512x256 .f32 :=
  matmul (φ₁ := .bf16) (φ₂ := .bf16) dot_S512x1024_S1024x256_S512x256_1_0_0_1_n_n none (shapeCast S512x1024 x0 shapeCasts_S1x512x1024_S512x1024)
    (shapeCast S1024x256 (View.ld x2 (Rect.unit (s := S1024x5632) ![0, o] ![1024, 256] (inside 1024 5632 1024 256 0 o (by decide) ho))) shapeCasts_S1024x256_S1024x256)
    (constant S512x256 .f32 0x00000000#32)

/-- Row `k` of the taps on those columns, on every row. -/
def tapV (k : ℕ) (hk : k + 1 ≤ 3) : FVec Ideal S512x256 .f32 :=
  broadcastTo S512x256 (shapeCast S1x256 (View.ld x3 (Rect.unit (s := S3x5632) ![k, o] ![1, 256] (inside 3 5632 1 256 k o hk ho))) shapeCasts_S1x256_S1x256) broadcasts_S1x256_S512x256

/-- The kept rows on those columns. -/
def keptV : FVec Ideal S8x256 .f32 :=
  shapeCast S8x256 (View.ld xs (Rect.unit (s := S8x5632) ![0, o] ![8, 256] (inside 8 5632 8 256 0 o (by decide) ho))) shapeCasts_S8x256_S8x256

/-- The convolved columns. -/
def convV : FVec Ideal S512x256 .f32 :=
  addf (addf (addf (broadcastTo S512x256 (View.ld x4 (Rect.unit (s := S1x5632) ![0, o] ![1, 256] (inside 1 5632 1 256 0 o (by decide) ho))) broadcasts_S1x256_S512x256)
      (mulf (upV x0 x2 o ho) (tapV x3 o ho 2 (by decide))))
      (mulf (shifted 6 (by decide) (keptV xs o ho) (shapeCast S512x256 (upV x0 x2 o ho) shapeCasts_S512x256_S512x256)) (tapV x3 o ho 0 (by decide))))
    (mulf (shifted 7 (by decide) (keptV xs o ho) (shapeCast S512x256 (upV x0 x2 o ho) shapeCasts_S512x256_S512x256)) (tapV x3 o ho 1 (by decide)))

/-- The gated columns. -/
def gateV (o' : ℕ) (ho' : o' + 256 ≤ 5632) : FVec Ideal S512x256 .bf16 :=
  shapeCast S512x256 (truncf .bf16 (mulf (mulf (convV xs x0 x2 x3 x4 o ho) (logistic (convV xs x0 x2 x3 x4 o ho))) (convV xs x0 x2 x3 x4 o' ho')) bitsLt_bf16_f32)
    shapeCasts_S512x256_S512x256

/-- The rows to keep. -/
def lastV : FVec Ideal S8x256 .f32 :=
  shapeCast S8x256 (extractStridedSlice S8x256 ![504, 0] (upV x0 x2 o ho) slices_S512x256_o504_0_S8x256) shapeCasts_S8x256_S8x256

end

section
variable (xs : Vec Ideal S8x5632 .f32) (x0 : Vec Ideal S1x512x1024 .bf16) (x1 : Vec Ideal S1x512x1024 .f32) (x2 : Vec Ideal S1024x5632 .bf16)
  (x3 : Vec Ideal S3x5632 .f32) (x4 : Vec Ideal S1x5632 .f32) (x5 : Vec Ideal S2816x1024 .bf16)

/-- The gated columns' store, from column `o`. -/
def gateP (o : ℕ) (h : o + 256 ≤ 2816) : View.Piece (Elt Ideal) S512x2816 .bf16 :=
  ⟨Rect.unit (s := S512x2816) ![0, o] ![512, 256] (inside 512 2816 512 256 0 o (by decide) h), gateV xs x0 x2 x3 x4 o (by omega) (2816 + o) (by omega)⟩

/-- The kept rows' store, from column `o`. -/
def lastP (o : ℕ) (h : o + 256 ≤ 5632) : View.Piece (Elt Ideal) S8x5632 .f32 :=
  ⟨Rect.unit (s := S8x5632) ![0, o] ![8, 256] (inside 8 5632 8 256 0 o (by decide) h), lastV x0 x2 o h⟩

def gates : List (View.Piece (Elt Ideal) S512x2816 .bf16) :=
  [gateP xs x0 x2 x3 x4 2560 (by decide), gateP xs x0 x2 x3 x4 2304 (by decide), gateP xs x0 x2 x3 x4 2048 (by decide), gateP xs x0 x2 x3 x4 1792 (by decide),
   gateP xs x0 x2 x3 x4 1536 (by decide), gateP xs x0 x2 x3 x4 1280 (by decide), gateP xs x0 x2 x3 x4 1024 (by decide), gateP xs x0 x2 x3 x4 768 (by decide),
   gateP xs x0 x2 x3 x4 512 (by decide), gateP xs x0 x2 x3 x4 256 (by decide), gateP xs x0 x2 x3 x4 0 (by decide)]

def lasts : List (View.Piece (Elt Ideal) S8x5632 .f32) :=
  [lastP x0 x2 5376 (by decide), lastP x0 x2 2560 (by decide), lastP x0 x2 5120 (by decide), lastP x0 x2 2304 (by decide), lastP x0 x2 4864 (by decide), lastP x0 x2 2048 (by decide),
   lastP x0 x2 4608 (by decide), lastP x0 x2 1792 (by decide), lastP x0 x2 4352 (by decide), lastP x0 x2 1536 (by decide), lastP x0 x2 4096 (by decide), lastP x0 x2 1280 (by decide),
   lastP x0 x2 3840 (by decide), lastP x0 x2 1024 (by decide), lastP x0 x2 3584 (by decide), lastP x0 x2 768 (by decide), lastP x0 x2 3328 (by decide), lastP x0 x2 512 (by decide),
   lastP x0 x2 3072 (by decide), lastP x0 x2 256 (by decide), lastP x0 x2 2816 (by decide), lastP x0 x2 0 (by decide)]

/-- The block a point writes back. -/
def outV : FVec Ideal S1x512x1024 .f32 :=
  shapeCast S1x512x1024 (addf (shapeCast S512x1024 x1 shapeCasts_S1x512x1024_S512x1024)
    (matmul (φ₁ := .bf16) (φ₂ := .bf16) dot_S512x2816_S2816x1024_S512x1024_1_0_0_1_n_n none (View.canon (gates xs x0 x2 x3 x4)) (shapeCast S2816x1024 x5 shapeCasts_S2816x1024_S2816x1024) (constant S512x1024 .f32 0x00000000#32)))
    shapeCasts_S512x1024_S1x512x1024

/-- The rows a first point of a batch entry starts from. -/
def zeroRows : FVec Ideal S8x5632 .f32 := k0_pay2

variable (c : Dev nD) (t : Fin cfg0.N)

theorem out_B (h0 : ¬t.val % 32 = 0) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) x0 x1 x2 x3 x4 x5 xs
      = outV xs x0 x1 x2 x3 x4 x5 := by
  unfold out0_B_6
  rw [View.read_writes_junk_eq_canon]
  unfold kernelRun0_B
  dsimp only
  sl_unfold_words
  simp (disch := decide) only [↓ View.readCov_skip, ↓ View.readCov_cons_toLoadRect, ↓ View.readCov_fill, ↓ read_window6, ↓ read_window7, ↓ read_gates]
  frame_out
  simp only [read_unread_whole]
  rfl

theorem kept_B (h0 : ¬t.val % 32 = 0) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) x0 x1 x2 x3 x4 x5 xs
      = View.canon (lasts x0 x2) := by
  unfold sout0_B_0
  rw [View.read_writes_junk_eq_canon]
  unfold kernelRun0_B
  dsimp only
  sl_unfold_words
  simp (disch := decide) only [↓ View.readCov_skip, ↓ View.readCov_cons_toLoadRect, ↓ View.readCov_fill, ↓ read_window6, ↓ read_window7, ↓ read_gates]
  frame_out
  rfl

theorem out_A (h0 : t.val % 32 = 0) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) x0 x1 x2 x3 x4 x5
      = outV zeroRows x0 x1 x2 x3 x4 x5 := by
  unfold out0_A_6
  rw [View.read_writes_junk_eq_canon]
  unfold kernelRun0_A
  dsimp only
  sl_unfold_words
  simp (disch := decide) only [↓ View.readCov_skip, ↓ View.readCov_cons_toLoadRect, ↓ View.readCov_fill, ↓ read_window6, ↓ read_window7, ↓ read_gates]
  frame_out
  rfl

theorem kept_A (h0 : t.val % 32 = 0) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) x0 x1 x2 x3 x4 x5
      = View.canon (lasts x0 x2 ++ [⟨Rect.unit (s := S8x5632) ![0, 0] ![8, 5632] (inside 8 5632 8 5632 0 0 (by decide) (by decide)), zeroRows⟩]) := by
  unfold sout0_A_0
  rw [View.read_writes_junk_eq_canon]
  unfold kernelRun0_A
  dsimp only
  sl_unfold_words
  simp (disch := decide) only [↓ View.readCov_skip, ↓ View.readCov_cons_toLoadRect, ↓ View.readCov_fill, ↓ read_window6, ↓ read_window7, ↓ read_gates]
  frame_out
  rfl

end

end Cert.Ffn

end
-- ==== Proof.FfnRow.lean ====
/-
  The product of a point of the feed-forward call at an index, as sums over the blocks it reads.
-/
module

public import proofs.«01_k».proof.Proof.FfnPoint

@[expose] public section

set_option maxRecDepth 16384

noncomputable section

namespace Cert.Ffn

open Cert.Kernel2Ideal Cert.Kernel2Ideal.Gen
open Idealize.ShloMosaic Idealize.ShloMosaic.TcCoe

section
variable (xs : Vec Ideal S8x5632 .f32) (x0 : Vec Ideal S1x512x1024 .bf16) (x1 : Vec Ideal S1x512x1024 .f32) (x2 : Vec Ideal S1024x5632 .bf16)
  (x3 : Vec Ideal S3x5632 .f32) (x4 : Vec Ideal S1x5632 .f32) (x5 : Vec Ideal S2816x1024 .bf16)

/-- The first product. -/
def upE (r : Fin 512) (f : Fin 5632) : EReal := ∑ k : Fin 1024, HMul.hMul (α := EReal) (β := EReal) (γ := EReal) (x0 (ix3 0 r k)) (x2 (ix2 k f))

/-- The window's row `n`. -/
def pastE (n : ℕ) (hn : n < 520) (f : Fin 5632) : EReal := if h : n < 8 then xs (ix2 ⟨n, h⟩ f) else upE x0 x2 ⟨n - 8, by omega⟩ f

/-- The convolution at a row and a column. -/
def convE (r : Fin 512) (f : Fin 5632) : EReal :=
  HAdd.hAdd (α := EReal) (β := EReal) (γ := EReal) (x4 (ix2 0 f)) (HMul.hMul (α := EReal) (β := EReal) (γ := EReal) (upE x0 x2 r f) (x3 (ix2 2 f)))
    + HMul.hMul (α := EReal) (β := EReal) (γ := EReal) (pastE xs x0 x2 (6 + r.val) (by omega) f) (x3 (ix2 0 f))
    + HMul.hMul (α := EReal) (β := EReal) (γ := EReal) (pastE xs x0 x2 (7 + r.val) (by omega) f) (x3 (ix2 1 f))

/-- The gated product at a row and a column. -/
def gateE (r : Fin 512) (j : Fin 2816) : EReal :=
  convE xs x0 x2 x3 x4 r ⟨j.val, by omega⟩ * Ideal.logistic (convE xs x0 x2 x3 x4 r ⟨j.val, by omega⟩) * convE xs x0 x2 x3 x4 r ⟨2816 + j.val, by omega⟩

variable (o : ℕ) (ho : o + 256 ≤ 5632) (r : Fin 512) (q : Fin 256)

theorem upV_apply : upV x0 x2 o ho (ix2 r q) = upE x0 x2 r ⟨o + q.val, by omega⟩ := by
  pointwise [upV, upE]

theorem tapV_apply (k : ℕ) (hk : k + 1 ≤ 3) : tapV x3 o ho k hk (ix2 r q) = x3 (ix2 ⟨k, hk⟩ ⟨o + q.val, by omega⟩) := by
  pointwise [tapV]

theorem keptV_apply (n : Fin 8) : keptV xs o ho (ix2 n q) = xs (ix2 n ⟨o + q.val, by omega⟩) := by
  pointwise [keptV]

/-- The window at a row is the kept row or the block's. -/
theorem shifted_apply (off : ℕ) (hoff : off ≤ 8) :
    shifted off hoff (keptV xs o ho) (shapeCast S512x256 (upV x0 x2 o ho) shapeCasts_S512x256_S512x256) (ix2 r q)
      = pastE xs x0 x2 (off + r.val) (by omega) ⟨o + q.val, by omega⟩ := by
  unfold shifted pastE
  by_cases h : off + r.val < 8
  · rw [dif_pos (show off + ((ix2 r q : S512x256.Idx) 0).val < 8 from h), dif_pos h]
    exact keptV_apply xs o ho q _
  · rw [dif_neg (show ¬off + ((ix2 r q : S512x256.Idx) 0).val < 8 from h), dif_neg h]
    refine (congrFun (shapeCast_self _ _) _).trans ?_
    exact upV_apply x0 x2 o ho _ q

theorem convV_apply : convV xs x0 x2 x3 x4 o ho (ix2 r q) = convE xs x0 x2 x3 x4 r ⟨o + q.val, by omega⟩ := by
  have e6 := shifted_apply xs x0 x2 o ho r q 6 (by decide)
  have e7 := shifted_apply xs x0 x2 o ho r q 7 (by decide)
  rw [shapeCast_self] at e6 e7
  pointwise [convV, convE]
  rw [upV_apply, tapV_apply, tapV_apply, tapV_apply, e6, e7]
  rfl

theorem lastV_apply (n : Fin 8) : lastV x0 x2 o ho (ix2 n q) = upE x0 x2 ⟨504 + n.val, by omega⟩ ⟨o + q.val, by omega⟩ := by
  pointwise [lastV]
  exact upV_apply x0 x2 o ho _ q

theorem gateV_apply (o' : ℕ) (ho' : o' + 256 ≤ 5632) :
    gateV xs x0 x2 x3 x4 o ho o' ho' (ix2 r q)
      = convE xs x0 x2 x3 x4 r ⟨o + q.val, by omega⟩ * Ideal.logistic (convE xs x0 x2 x3 x4 r ⟨o + q.val, by omega⟩) * convE xs x0 x2 x3 x4 r ⟨o' + q.val, by omega⟩ := by
  pointwise [gateV]
  rw [convV_apply, convV_apply]

end

section
variable (xs : Vec Ideal S8x5632 .f32) (x0 : Vec Ideal S1x512x1024 .bf16) (x1 : Vec Ideal S1x512x1024 .f32) (x2 : Vec Ideal S1024x5632 .bf16)
  (x3 : Vec Ideal S3x5632 .f32) (x4 : Vec Ideal S1x5632 .f32) (x5 : Vec Ideal S2816x1024 .bf16)

/-- A store of gated columns is a block of the gated product. -/
theorem gateP_ok (o : ℕ) (h : o + 256 ≤ 2816) (x : (gateP xs x0 x2 x3 x4 o h).1.shape.Idx) :
    (gateP xs x0 x2 x3 x4 o h).2 x = (fun y : S512x2816.Idx => gateE xs x0 x2 x3 x4 (y 0) (y 1)) ((gateP xs x0 x2 x3 x4 o h).1.emb x) := by
  obtain ⟨r, q, rfl⟩ : ∃ (r : Fin 512) (q : Fin 256), x = ix2 r q := ⟨_, _, eq_ix2 x⟩
  refine (gateV_apply xs x0 x2 x3 x4 o (by omega) r q (2816 + o) (by omega)).trans ?_
  have e0 : ((gateP xs x0 x2 x3 x4 o h).1.emb (ix2 r q)) 0 = r := Fin.ext (show 0 + 1 * r.val = r.val by omega)
  have e1 : ((gateP xs x0 x2 x3 x4 o h).1.emb (ix2 r q)) 1 = (⟨o + q.val, by omega⟩ : Fin 2816) := Fin.ext (show o + 1 * q.val = o + q.val by omega)
  show _ = gateE xs x0 x2 x3 x4 (((gateP xs x0 x2 x3 x4 o h).1.emb (ix2 r q)) 0) (((gateP xs x0 x2 x3 x4 o h).1.emb (ix2 r q)) 1)
  rw [e0, e1]
  unfold gateE
  exact congrArg (HMul.hMul (α := EReal) (β := EReal) (γ := EReal) _) (congrArg (convE xs x0 x2 x3 x4 r) (Fin.ext (Nat.add_assoc 2816 o q.val)))

theorem gateP_mem (o : ℕ) (h : o + 256 ≤ 2816) (r : Fin 512) (j : Fin 2816) (hj : o ≤ j.val ∧ j.val < o + 256) :
    (ix2 r j : S512x2816.Idx) ∈ (gateP xs x0 x2 x3 x4 o h).1.set := by
  show _ ∈ (Rect.unit (s := S512x2816) ![0, o] ![512, 256] (inside 512 2816 512 256 0 o (by decide) h)).set
  rw [Rect.mem_set_unit]
  intro a
  fin_cases a
  · exact ⟨Nat.zero_le _, by show r.val < 0 + 512; omega⟩
  · exact hj

/-- The gated product's buffer, once its eleven stores are made. -/
theorem gates_apply (r : Fin 512) (j : Fin 2816) : View.canon (gates xs x0 x2 x3 x4) (ix2 r j) = gateE xs x0 x2 x3 x4 r j := by
  have e := View.canon_append_of_piecesOf (Val := Elt Ideal) (fun y : S512x2816.Idx => gateE xs x0 x2 x3 x4 (y 0) (y 1)) [] (gates xs x0 x2 x3 x4)
    (by
      unfold gates
      exact ⟨gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, gateP_ok xs x0 x2 x3 x4 _ _, trivial⟩) (ix2 r j) ?_
  · rw [List.append_nil] at e
    exact e
  have hc : (0 ≤ j.val ∧ j.val < 256) ∨ (256 ≤ j.val ∧ j.val < 512) ∨ (512 ≤ j.val ∧ j.val < 768) ∨ (768 ≤ j.val ∧ j.val < 1024) ∨ (1024 ≤ j.val ∧ j.val < 1280) ∨ (1280 ≤ j.val ∧ j.val < 1536) ∨ (1536 ≤ j.val ∧ j.val < 1792) ∨ (1792 ≤ j.val ∧ j.val < 2048) ∨ (2048 ≤ j.val ∧ j.val < 2304) ∨ (2304 ≤ j.val ∧ j.val < 2560) ∨ (2560 ≤ j.val ∧ j.val < 2816) := by omega
  rcases hc with h | h | h | h | h | h | h | h | h | h | h
  · exact ⟨_, List.getElem_mem (l := gates xs x0 x2 x3 x4) (n := 10) (show 10 < 11 from by decide), gateP_mem xs x0 x2 x3 x4 0 (by decide) r j h⟩
  · exact ⟨_, List.getElem_mem (l := gates xs x0 x2 x3 x4) (n := 9) (show 9 < 11 from by decide), gateP_mem xs x0 x2 x3 x4 256 (by decide) r j h⟩
  · exact ⟨_, List.getElem_mem (l := gates xs x0 x2 x3 x4) (n := 8) (show 8 < 11 from by decide), gateP_mem xs x0 x2 x3 x4 512 (by decide) r j h⟩
  · exact ⟨_, List.getElem_mem (l := gates xs x0 x2 x3 x4) (n := 7) (show 7 < 11 from by decide), gateP_mem xs x0 x2 x3 x4 768 (by decide) r j h⟩
  · exact ⟨_, List.getElem_mem (l := gates xs x0 x2 x3 x4) (n := 6) (show 6 < 11 from by decide), gateP_mem xs x0 x2 x3 x4 1024 (by decide) r j h⟩
  · exact ⟨_, List.getElem_mem (l := gates xs x0 x2 x3 x4) (n := 5) (show 5 < 11 from by decide), gateP_mem xs x0 x2 x3 x4 1280 (by decide) r j h⟩
  · exact ⟨_, List.getElem_mem (l := gates xs x0 x2 x3 x4) (n := 4) (show 4 < 11 from by decide), gateP_mem xs x0 x2 x3 x4 1536 (by decide) r j h⟩
  · exact ⟨_, List.getElem_mem (l := gates xs x0 x2 x3 x4) (n := 3) (show 3 < 11 from by decide), gateP_mem xs x0 x2 x3 x4 1792 (by decide) r j h⟩
  · exact ⟨_, List.getElem_mem (l := gates xs x0 x2 x3 x4) (n := 2) (show 2 < 11 from by decide), gateP_mem xs x0 x2 x3 x4 2048 (by decide) r j h⟩
  · exact ⟨_, List.getElem_mem (l := gates xs x0 x2 x3 x4) (n := 1) (show 1 < 11 from by decide), gateP_mem xs x0 x2 x3 x4 2304 (by decide) r j h⟩
  · exact ⟨_, List.getElem_mem (l := gates xs x0 x2 x3 x4) (n := 0) (show 0 < 11 from by decide), gateP_mem xs x0 x2 x3 x4 2560 (by decide) r j h⟩

/-- The block written back at a row and a column. -/
theorem outV_apply (r : Fin 512) (d : Fin 1024) : outV xs x0 x1 x2 x3 x4 x5 (ix3 0 r d)
    = HAdd.hAdd (α := EReal) (β := EReal) (γ := EReal) (x1 (ix3 0 r d)) (∑ j : Fin 2816, HMul.hMul (α := EReal) (β := EReal) (γ := EReal) (gateE xs x0 x2 x3 x4 r j) (x5 (ix2 j d))) := by
  pointwise [outV]
  simp only [gates_apply]

/-- A store of kept rows is a block of the product's last rows. -/
theorem lastP_ok (o : ℕ) (h : o + 256 ≤ 5632) (x : (lastP x0 x2 o h).1.shape.Idx) :
    (lastP x0 x2 o h).2 x = (fun y : S8x5632.Idx => upE x0 x2 ⟨504 + (y 0).val, by have : (y 0).val < 8 := (y 0).isLt; omega⟩ (y 1)) ((lastP x0 x2 o h).1.emb x) := by
  obtain ⟨n, q, rfl⟩ : ∃ (n : Fin 8) (q : Fin 256), x = ix2 n q := ⟨_, _, eq_ix2 x⟩
  refine (lastV_apply x0 x2 o (by omega) q n).trans ?_
  have e0 : ((lastP x0 x2 o h).1.emb (ix2 n q)) 0 = n := Fin.ext (show 0 + 1 * n.val = n.val by omega)
  have e1 : ((lastP x0 x2 o h).1.emb (ix2 n q)) 1 = (⟨o + q.val, by omega⟩ : Fin 5632) := Fin.ext (show o + 1 * q.val = o + q.val by omega)
  show _ = upE x0 x2 ⟨504 + (((lastP x0 x2 o h).1.emb (ix2 n q)) 0).val, _⟩ (((lastP x0 x2 o h).1.emb (ix2 n q)) 1)
  rw [e1]
  exact congrArg (fun z => upE x0 x2 z _) (Fin.ext (congrArg (fun z : Fin 8 => 504 + z.val) e0.symm))

theorem lastP_mem (o : ℕ) (h : o + 256 ≤ 5632) (r : Fin 8) (j : Fin 5632) (hj : o ≤ j.val ∧ j.val < o + 256) :
    (ix2 r j : S8x5632.Idx) ∈ (lastP x0 x2 o h).1.set := by
  show _ ∈ (Rect.unit (s := S8x5632) ![0, o] ![8, 256] (inside 8 5632 8 256 0 o (by decide) h)).set
  rw [Rect.mem_set_unit]
  intro a
  fin_cases a
  · exact ⟨Nat.zero_le _, by show r.val < 0 + 8; omega⟩
  · exact hj

/-- The kept rows' buffer, once its twenty-two stores are made, whatever was stored before. -/
theorem lasts_apply (L : List (View.Piece (Elt Ideal) S8x5632 .f32)) (r : Fin 8) (j : Fin 5632) :
    View.canon (lasts x0 x2 ++ L) (ix2 r j) = upE x0 x2 ⟨504 + r.val, by omega⟩ j := by
  refine View.canon_append_of_piecesOf (Val := Elt Ideal) (fun y : S8x5632.Idx => upE x0 x2 ⟨504 + (y 0).val, by have : (y 0).val < 8 := (y 0).isLt; omega⟩ (y 1)) L (lasts x0 x2)
    (by
      unfold lasts
      exact ⟨lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, lastP_ok x0 x2 _ _, trivial⟩) (ix2 r j) ?_
  have hc : (0 ≤ j.val ∧ j.val < 256) ∨ (256 ≤ j.val ∧ j.val < 512) ∨ (512 ≤ j.val ∧ j.val < 768) ∨ (768 ≤ j.val ∧ j.val < 1024) ∨ (1024 ≤ j.val ∧ j.val < 1280) ∨ (1280 ≤ j.val ∧ j.val < 1536) ∨ (1536 ≤ j.val ∧ j.val < 1792) ∨ (1792 ≤ j.val ∧ j.val < 2048) ∨ (2048 ≤ j.val ∧ j.val < 2304) ∨ (2304 ≤ j.val ∧ j.val < 2560) ∨ (2560 ≤ j.val ∧ j.val < 2816) ∨ (2816 ≤ j.val ∧ j.val < 3072) ∨ (3072 ≤ j.val ∧ j.val < 3328) ∨ (3328 ≤ j.val ∧ j.val < 3584) ∨ (3584 ≤ j.val ∧ j.val < 3840) ∨ (3840 ≤ j.val ∧ j.val < 4096) ∨ (4096 ≤ j.val ∧ j.val < 4352) ∨ (4352 ≤ j.val ∧ j.val < 4608) ∨ (4608 ≤ j.val ∧ j.val < 4864) ∨ (4864 ≤ j.val ∧ j.val < 5120) ∨ (5120 ≤ j.val ∧ j.val < 5376) ∨ (5376 ≤ j.val ∧ j.val < 5632) := by omega
  rcases hc with h | h | h | h | h | h | h | h | h | h | h | h | h | h | h | h | h | h | h | h | h | h
  · exact ⟨_, List.getElem_mem (l := lasts x0 x2) (n := 21) (show 21 < 22 from by decide), lastP_mem x0 x2 0 (by decide) r j h⟩
  · exact ⟨_, List.getElem_mem (l := lasts x0 x2) (n := 19) (show 19 < 22 from by decide), lastP_mem x0 x2 256 (by decide) r j h⟩
  · exact ⟨_, List.getElem_mem (l := lasts x0 x2) (n := 17) (show 17 < 22 from by decide), lastP_mem x0 x2 512 (by decide) r j h⟩
  · exact ⟨_, List.getElem_mem (l := lasts x0 x2) (n := 15) (show 15 < 22 from by decide), lastP_mem x0 x2 768 (by decide) r j h⟩
  · exact ⟨_, List.getElem_mem (l := lasts x0 x2) (n := 13) (show 13 < 22 from by decide), lastP_mem x0 x2 1024 (by decide) r j h⟩
  · exact ⟨_, List.getElem_mem (l := lasts x0 x2) (n := 11) (show 11 < 22 from by decide), lastP_mem x0 x2 1280 (by decide) r j h⟩
  · exact ⟨_, List.getElem_mem (l := lasts x0 x2) (n := 9) (show 9 < 22 from by decide), lastP_mem x0 x2 1536 (by decide) r j h⟩
  · exact ⟨_, List.getElem_mem (l := lasts x0 x2) (n := 7) (show 7 < 22 from by decide), lastP_mem x0 x2 1792 (by decide) r j h⟩
  · exact ⟨_, List.getElem_mem (l := lasts x0 x2) (n := 5) (show 5 < 22 from by decide), lastP_mem x0 x2 2048 (by decide) r j h⟩
  · exact ⟨_, List.getElem_mem (l := lasts x0 x2) (n := 3) (show 3 < 22 from by decide), lastP_mem x0 x2 2304 (by decide) r j h⟩
  · exact ⟨_, List.getElem_mem (l := lasts x0 x2) (n := 1) (show 1 < 22 from by decide), lastP_mem x0 x2 2560 (by decide) r j h⟩
  · exact ⟨_, List.getElem_mem (l := lasts x0 x2) (n := 20) (show 20 < 22 from by decide), lastP_mem x0 x2 2816 (by decide) r j h⟩
  · exact ⟨_, List.getElem_mem (l := lasts x0 x2) (n := 18) (show 18 < 22 from by decide), lastP_mem x0 x2 3072 (by decide) r j h⟩
  · exact ⟨_, List.getElem_mem (l := lasts x0 x2) (n := 16) (show 16 < 22 from by decide), lastP_mem x0 x2 3328 (by decide) r j h⟩
  · exact ⟨_, List.getElem_mem (l := lasts x0 x2) (n := 14) (show 14 < 22 from by decide), lastP_mem x0 x2 3584 (by decide) r j h⟩
  · exact ⟨_, List.getElem_mem (l := lasts x0 x2) (n := 12) (show 12 < 22 from by decide), lastP_mem x0 x2 3840 (by decide) r j h⟩
  · exact ⟨_, List.getElem_mem (l := lasts x0 x2) (n := 10) (show 10 < 22 from by decide), lastP_mem x0 x2 4096 (by decide) r j h⟩
  · exact ⟨_, List.getElem_mem (l := lasts x0 x2) (n := 8) (show 8 < 22 from by decide), lastP_mem x0 x2 4352 (by decide) r j h⟩
  · exact ⟨_, List.getElem_mem (l := lasts x0 x2) (n := 6) (show 6 < 22 from by decide), lastP_mem x0 x2 4608 (by decide) r j h⟩
  · exact ⟨_, List.getElem_mem (l := lasts x0 x2) (n := 4) (show 4 < 22 from by decide), lastP_mem x0 x2 4864 (by decide) r j h⟩
  · exact ⟨_, List.getElem_mem (l := lasts x0 x2) (n := 2) (show 2 < 22 from by decide), lastP_mem x0 x2 5120 (by decide) r j h⟩
  · exact ⟨_, List.getElem_mem (l := lasts x0 x2) (n := 0) (show 0 < 22 from by decide), lastP_mem x0 x2 5376 (by decide) r j h⟩

end

end Cert.Ffn

end
-- ==== Proof.FfnValue.lean ====
/-
  The feed-forward call's result in its argument arrays: the eight rows a point finds are the last rows of the
  block before, so every row's two earlier tokens are its own.
-/
module

public import proofs.«01_k».proof.Proof.FfnRow

@[expose] public section

set_option maxRecDepth 16384

noncomputable section

namespace Cert.Ffn

open Cert.Kernel2Ideal Cert.Kernel2Ideal.Gen
open Idealize.ShloMosaic Idealize.ShloMosaic.TcCoe

section
variable (a0 a1 : FVec Ideal S2x16384x1024 .f32) (a2 : FVec Ideal S1x1024x5632 .f32) (a3 : FVec Ideal S1x3x5632 .f32) (a4 : FVec Ideal S1x5632 .f32)
  (a5 : FVec Ideal S1x2816x1024 .f32)

/-- The first product at a token. -/
def tokU (b : Fin 2) (s : Fin 16384) (f : Fin 5632) : EReal := ∑ k : Fin 1024, HMul.hMul (α := EReal) (β := EReal) (γ := EReal) (a0 (ix3 b s k)) (a2 (ix3 0 k f))

/-- The first product with two rows of zeros before it: row `n` is token `n - 2`. -/
def tokPast (b : Fin 2) (n : ℕ) (hn : n < 16386) (f : Fin 5632) : EReal := if h : n < 2 then 0 else tokU a0 a2 b ⟨n - 2, by omega⟩ f

/-- The convolution at a token. -/
def tokConv (b : Fin 2) (s : Fin 16384) (f : Fin 5632) : EReal :=
  HAdd.hAdd (α := EReal) (β := EReal) (γ := EReal) (a4 (ix2 0 f)) (HMul.hMul (α := EReal) (β := EReal) (γ := EReal) (tokU a0 a2 b s f) (a3 (ix3 0 2 f)))
    + HMul.hMul (α := EReal) (β := EReal) (γ := EReal) (tokPast a0 a2 b s.val (by omega) f) (a3 (ix3 0 0 f))
    + HMul.hMul (α := EReal) (β := EReal) (γ := EReal) (tokPast a0 a2 b (s.val + 1) (by omega) f) (a3 (ix3 0 1 f))

/-- The gated product at a token. -/
def tokGate (b : Fin 2) (s : Fin 16384) (j : Fin 2816) : EReal :=
  tokConv a0 a2 a3 a4 b s ⟨j.val, by omega⟩ * Ideal.logistic (tokConv a0 a2 a3 a4 b s ⟨j.val, by omega⟩) * tokConv a0 a2 a3 a4 b s ⟨2816 + j.val, by omega⟩

/-- The result at a token. -/
def tokOut (b : Fin 2) (s : Fin 16384) (d : Fin 1024) : EReal :=
  HAdd.hAdd (α := EReal) (β := EReal) (γ := EReal) (a1 (ix3 b s d))
    (∑ j : Fin 2816, HMul.hMul (α := EReal) (β := EReal) (γ := EReal) (tokGate a0 a2 a3 a4 b s j) (a5 (ix3 0 j d)))

/-- The result array. -/
def resultV : FVec Ideal S2x16384x1024 .f32 := fun i => tokOut a0 a1 a2 a3 a4 a5 (i 0) (i 1) (i 2)

end

/-! ## What the region finds -/

/-- The operands the host prepares. -/
def hHn (x : FVec Ideal S2x16384x1024 .f32) : FVec Ideal S2x16384x1024 .bf16 := truncf .bf16 x bitsLt_bf16_f32
def hUp (x : FVec Ideal S1x1024x5632 .f32) : FVec Ideal S1024x5632 .bf16 := truncf .bf16 (shapeCast S1024x5632 x shapeCasts_S1x1024x5632_S1024x5632) bitsLt_bf16_f32
def hTap (x : FVec Ideal S1x3x5632 .f32) : FVec Ideal S3x5632 .f32 := shapeCast S3x5632 x shapeCasts_S1x3x5632_S3x5632
def hDown (x : FVec Ideal S1x2816x1024 .f32) : FVec Ideal S2816x1024 .bf16 := truncf .bf16 (shapeCast S2816x1024 x shapeCasts_S1x2816x1024_S2816x1024) bitsLt_bf16_f32

theorem hHn_apply (x : FVec Ideal S2x16384x1024 .f32) (b : Fin 2) (s : Fin 16384) (k : Fin 1024) : hHn x (ix3 b s k) = x (ix3 b s k) := rfl
theorem hUp_apply (x : FVec Ideal S1x1024x5632 .f32) (k : Fin 1024) (f : Fin 5632) : hUp x (ix2 k f) = x (ix3 0 k f) := by pointwise [hUp]
theorem hTap_apply (x : FVec Ideal S1x3x5632 .f32) (k : Fin 3) (f : Fin 5632) : hTap x (ix2 k f) = x (ix3 0 k f) := by pointwise [hTap]
theorem hDown_apply (x : FVec Ideal S1x2816x1024 .f32) (j : Fin 2816) (d : Fin 1024) : hDown x (ix2 j d) = x (ix3 0 j d) := by pointwise [hDown]

section
variable (m : (ℓ : Loc nD τ sig) → Buf (Elt Ideal) ℓ) (c : Dev nD)

theorem V_hn : V m c main_v0 = hHn (m ((c.tc : Thread nD τ).loc main_arg0)) := by
  simp only [V, hostOps0]
  after_results_simp <;> rfl
theorem V_up : V m c main_v2 = hUp (m ((c.tc : Thread nD τ).loc main_arg2)) := by
  simp only [V, hostOps0]
  after_results_simp <;> rfl
theorem V_tap : V m c main_v3 = hTap (m ((c.tc : Thread nD τ).loc main_arg3)) := by
  simp only [V, hostOps0]
  after_results_simp <;> rfl
theorem V_down : V m c main_v5 = hDown (m ((c.tc : Thread nD τ).loc main_arg5)) := by
  simp only [V, hostOps0]
  after_results_simp <;> rfl

end

/-! ## A point's blocks -/

/-- A point's batch entry and block of tokens. -/
def bt (t : Fin cfg0.N) : Fin 2 := ⟨t.val / 32, by have : t.val < 64 := lt_of_lt_of_eq t.isLt N_0; omega⟩
def it (t : Fin cfg0.N) : Fin 32 := ⟨t.val % 32, by omega⟩

theorem ix_0 : ∀ t : Fin cfg0.N, win0_0.index t = ![(bt t).val, (it t).val, 0] := (by decide +kernel : ∀ t : Fin grid0.N, win0_0.index t = ![t.val / 32, t.val % 32, 0])
theorem ix_1 : ∀ t : Fin cfg0.N, win0_1.index t = ![(bt t).val, (it t).val, 0] := (by decide +kernel : ∀ t : Fin grid0.N, win0_1.index t = ![t.val / 32, t.val % 32, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![(bt t).val, (it t).val, 0] := (by decide +kernel : ∀ t : Fin grid0.N, win0_6.index t = ![t.val / 32, t.val % 32, 0])

section
variable (t : Fin cfg0.N)

theorem read_0 (f : main_v0.ty.Contents (Elt Ideal)) (y : S1x512x1024.Idx) : ((cfg0.win 0).blk t).view.read (Elt Ideal) f y = f ((win0_0.blk t).view.emb y) := rfl
theorem read_1 (f : main_arg1.ty.Contents (Elt Ideal)) (y : S1x512x1024.Idx) : ((cfg0.win 1).blk t).view.read (Elt Ideal) f y = f ((win0_1.blk t).view.emb y) := rfl
theorem read_2 (f : main_v2.ty.Contents (Elt Ideal)) (y : S1024x5632.Idx) : ((cfg0.win 2).blk t).view.read (Elt Ideal) f y = f ((win0_2.blk t).view.emb y) := rfl
theorem read_3 (f : main_v3.ty.Contents (Elt Ideal)) (y : S3x5632.Idx) : ((cfg0.win 3).blk t).view.read (Elt Ideal) f y = f ((win0_3.blk t).view.emb y) := rfl
theorem read_4 (f : main_arg4.ty.Contents (Elt Ideal)) (y : S1x5632.Idx) : ((cfg0.win 4).blk t).view.read (Elt Ideal) f y = f ((win0_4.blk t).view.emb y) := rfl
theorem read_5 (f : main_v5.ty.Contents (Elt Ideal)) (y : S2816x1024.Idx) : ((cfg0.win 5).blk t).view.read (Elt Ideal) f y = f ((win0_5.blk t).view.emb y) := rfl

/-- The token at a block's row. -/
def tok (r : Fin 512) : Fin 16384 := ⟨512 * (it t).val + r.val, by omega⟩

theorem at_0 (r : Fin 512) (k : Fin 1024) : (win0_0.blk t).view.emb (ix3 0 r k) = (ix3 (bt t) (tok t r) k : S2x16384x1024.Idx) := by blk_ext [ix_0, tok]
theorem at_1 (r : Fin 512) (k : Fin 1024) : (win0_1.blk t).view.emb (ix3 0 r k) = (ix3 (bt t) (tok t r) k : S2x16384x1024.Idx) := by blk_ext [ix_1, tok]
theorem at_2 (k : Fin 1024) (f : Fin 5632) : (win0_2.blk t).view.emb (ix2 k f) = (ix2 k f : S1024x5632.Idx) := by blk_ext [ix_2]
theorem at_3 (k : Fin 3) (f : Fin 5632) : (win0_3.blk t).view.emb (ix2 k f) = (ix2 k f : S3x5632.Idx) := by blk_ext [ix_3]
theorem at_4 (f : Fin 5632) : (win0_4.blk t).view.emb (ix2 0 f) = (ix2 0 f : S1x5632.Idx) := by blk_ext [ix_4]
theorem at_5 (j : Fin 2816) (d : Fin 1024) : (win0_5.blk t).view.emb (ix2 j d) = (ix2 j d : S2816x1024.Idx) := by blk_ext [ix_5]

variable (m : (ℓ : Loc nD τ sig) → Buf (Elt Ideal) ℓ) (c : Dev nD)

theorem blk_0 (r : Fin 512) (k : Fin 1024) : iblk m c 0 t (ix3 0 r k) = m ((c.tc : Thread nD τ).loc main_arg0) (ix3 (bt t) (tok t r) k) :=
  (read_0 t (V m c main_v0) (ix3 0 r k)).trans ((congrFun (V_hn m c) _).trans ((congrArg (hHn _) (at_0 t r k)).trans (hHn_apply _ _ _ _)))
theorem blk_1 (r : Fin 512) (k : Fin 1024) : iblk m c 1 t (ix3 0 r k) = m ((c.tc : Thread nD τ).loc main_arg1) (ix3 (bt t) (tok t r) k) :=
  (read_1 t (V m c main_arg1) (ix3 0 r k)).trans ((congrFun (V_main_arg1 m c) _).trans (congrArg _ (at_1 t r k)))
theorem blk_2 (k : Fin 1024) (f : Fin 5632) : iblk m c 2 t (ix2 k f) = m ((c.tc : Thread nD τ).loc main_arg2) (ix3 0 k f) :=
  (read_2 t (V m c main_v2) (ix2 k f)).trans ((congrFun (V_up m c) _).trans ((congrArg (hUp _) (at_2 t k f)).trans (hUp_apply _ _ _)))
theorem blk_3 (k : Fin 3) (f : Fin 5632) : iblk m c 3 t (ix2 k f) = m ((c.tc : Thread nD τ).loc main_arg3) (ix3 0 k f) :=
  (read_3 t (V m c main_v3) (ix2 k f)).trans ((congrFun (V_tap m c) _).trans ((congrArg (hTap _) (at_3 t k f)).trans (hTap_apply _ _ _)))
theorem blk_4 (f : Fin 5632) : iblk m c 4 t (ix2 0 f) = m ((c.tc : Thread nD τ).loc main_arg4) (ix2 0 f) :=
  (read_4 t (V m c main_arg4) (ix2 0 f)).trans ((congrFun (V_main_arg4 m c) _).trans (congrArg _ (at_4 t f)))
theorem blk_5 (j : Fin 2816) (d : Fin 1024) : iblk m c 5 t (ix2 j d) = m ((c.tc : Thread nD τ).loc main_arg5) (ix3 0 j d) :=
  (read_5 t (V m c main_v5) (ix2 j d)).trans ((congrFun (V_down m c) _).trans ((congrArg (hDown _) (at_5 t j d)).trans (hDown_apply _ _ _)))

/-! ## The rows kept between points -/

/-- The first product of a block is the one of its tokens. -/
theorem upE_tok (r : Fin 512) (f : Fin 5632) :
    upE (iblk m c 0 t) (iblk m c 2 t) r f = tokU (m ((c.tc : Thread nD τ).loc main_arg0)) (m ((c.tc : Thread nD τ).loc main_arg2)) (bt t) (tok t r) f := by
  unfold upE tokU
  refine Finset.sum_congr rfl fun k _ => ?_
  rw [blk_0, blk_2]

/-- What a point leaves, by its place in its batch entry. -/
theorem kept_first (h0 : t.val % 32 = 0) : (outsAt0 m c t.val t.isLt).2
    = View.canon (lasts (iblk m c 0 t) (iblk m c 2 t) ++ [⟨Rect.unit (s := S8x5632) ![0, 0] ![8, 5632] (inside 8 5632 8 5632 0 0 (by decide) (by decide)), zeroRows⟩]) := by
  have e := congrArg Prod.snd (outsAt0_A m c t h0)
  dsimp only at e
  rw [e]
  exact kept_A (iblk m c 0 t) (iblk m c 1 t) (iblk m c 2 t) (iblk m c 3 t) (iblk m c 4 t) (iblk m c 5 t) c t h0
theorem kept_later (h0 : ¬t.val % 32 = 0) : (outsAt0 m c t.val t.isLt).2 = View.canon (lasts (iblk m c 0 t) (iblk m c 2 t)) := by
  have e := congrArg Prod.snd (outsAt0_B m c t h0)
  dsimp only at e
  rw [e]
  exact kept_B (outsAt0 m c (t.val - 1) (Nat.lt_of_le_of_lt (Nat.sub_le _ _) t.isLt)).2 (iblk m c 0 t) (iblk m c 1 t) (iblk m c 2 t) (iblk m c 3 t) (iblk m c 4 t) (iblk m c 5 t) c t h0
theorem out_first (h0 : t.val % 32 = 0) : (outsAt0 m c t.val t.isLt).1 = outV zeroRows (iblk m c 0 t) (iblk m c 1 t) (iblk m c 2 t) (iblk m c 3 t) (iblk m c 4 t) (iblk m c 5 t) := by
  have e := congrArg Prod.fst (outsAt0_A m c t h0)
  dsimp only at e
  rw [e]
  exact out_A (iblk m c 0 t) (iblk m c 1 t) (iblk m c 2 t) (iblk m c 3 t) (iblk m c 4 t) (iblk m c 5 t) c t h0
theorem out_later (h0 : ¬t.val % 32 = 0) : (outsAt0 m c t.val t.isLt).1
    = outV (outsAt0 m c (t.val - 1) (Nat.lt_of_le_of_lt (Nat.sub_le _ _) t.isLt)).2 (iblk m c 0 t) (iblk m c 1 t) (iblk m c 2 t) (iblk m c 3 t) (iblk m c 4 t) (iblk m c 5 t) := by
  have e := congrArg Prod.fst (outsAt0_B m c t h0)
  dsimp only at e
  rw [e]
  exact out_B (outsAt0 m c (t.val - 1) (Nat.lt_of_le_of_lt (Nat.sub_le _ _) t.isLt)).2 (iblk m c 0 t) (iblk m c 1 t) (iblk m c 2 t) (iblk m c 3 t) (iblk m c 4 t) (iblk m c 5 t) c t h0

/-- A point leaves the last eight rows of its first product. -/
theorem kept_at (n : Fin 8) (f : Fin 5632) : (outsAt0 m c t.val t.isLt).2 (ix2 n f) = upE (iblk m c 0 t) (iblk m c 2 t) ⟨504 + n.val, by omega⟩ f := by
  by_cases h0 : t.val % 32 = 0
  · rw [kept_first t m c h0]
    exact lasts_apply _ _ _ n f
  · rw [kept_later t m c h0, ← List.append_nil (lasts _ _)]
    exact lasts_apply _ _ [] n f

/-- The rows a point finds are the eight tokens before its block, or zeros. -/
def Before (xs : Vec Ideal S8x5632 .f32) : Prop := ∀ (n : Fin 8) (hn : 6 ≤ n.val) (f : Fin 5632),
  xs (ix2 n f) = tokPast (m ((c.tc : Thread nD τ).loc main_arg0)) (m ((c.tc : Thread nD τ).loc main_arg2)) (bt t) (512 * (it t).val + n.val - 6) (by omega) f

theorem before_A (h0 : t.val % 32 = 0) : Before t m c zeroRows := fun n hn f => by
  have e : (it t).val = 0 := h0
  unfold tokPast
  rw [dif_pos (by omega)]
  exact Ideal.ofBits_zero_f32

theorem before_B (h0 : ¬t.val % 32 = 0) : Before t m c (outsAt0 m c (t.val - 1) (Nat.lt_of_le_of_lt (Nat.sub_le _ _) t.isLt)).2 := fun n hn f => by
  have ht : t.val < 64 := lt_of_lt_of_eq t.isLt N_0
  refine (kept_at (⟨t.val - 1, Nat.lt_of_le_of_lt (Nat.sub_le _ _) t.isLt⟩ : Fin cfg0.N) m c n f).trans ((upE_tok _ m c _ f).trans ?_)
  have e : (it t).val = t.val % 32 := rfl
  unfold tokPast
  rw [dif_neg (by omega)]
  congr 1
  · refine Fin.ext ?_
    show (t.val - 1) / 32 = t.val / 32
    omega
  · refine Fin.ext ?_
    show 512 * ((t.val - 1) % 32) + (504 + n.val) = 512 * (it t).val + n.val - 6 - 2
    omega

/-- A row of a point's window is a row of the padded product. -/
theorem past_tok (xs : Vec Ideal S8x5632 .f32) (hx : Before t m c xs) (n : ℕ) (hn : n < 520) (h6 : 6 ≤ n) (f : Fin 5632) :
    pastE xs (iblk m c 0 t) (iblk m c 2 t) n hn f
      = tokPast (m ((c.tc : Thread nD τ).loc main_arg0)) (m ((c.tc : Thread nD τ).loc main_arg2)) (bt t) (512 * (it t).val + n - 6) (by omega) f := by
  unfold pastE
  by_cases h : n < 8
  · rw [dif_pos h]
    exact hx ⟨n, h⟩ h6 f
  · rw [dif_neg h, upE_tok]
    unfold tokPast
    rw [dif_neg (by omega)]
    congr 1
    refine Fin.ext ?_
    show 512 * (it t).val + (n - 8) = 512 * (it t).val + n - 6 - 2
    omega

theorem conv_tok (xs : Vec Ideal S8x5632 .f32) (hx : Before t m c xs) (r : Fin 512) (f : Fin 5632) :
    convE xs (iblk m c 0 t) (iblk m c 2 t) (iblk m c 3 t) (iblk m c 4 t) r f
      = tokConv (m ((c.tc : Thread nD τ).loc main_arg0)) (m ((c.tc : Thread nD τ).loc main_arg2)) (m ((c.tc : Thread nD τ).loc main_arg3)) (m ((c.tc : Thread nD τ).loc main_arg4))
          (bt t) (tok t r) f := by
  unfold convE tokConv
  rw [past_tok t m c xs hx _ _ (by omega), past_tok t m c xs hx _ _ (by omega), upE_tok, blk_3, blk_3, blk_3, blk_4]
  have e6 : 512 * (it t).val + (6 + r.val) - 6 = (tok t r).val := by show _ = 512 * (it t).val + r.val; omega
  have e7 : 512 * (it t).val + (7 + r.val) - 6 = (tok t r).val + 1 := by show _ = 512 * (it t).val + r.val + 1; omega
  simp only [e6, e7]

theorem out_tok (xs : Vec Ideal S8x5632 .f32) (hx : Before t m c xs) (r : Fin 512) (d : Fin 1024) :
    outV xs (iblk m c 0 t) (iblk m c 1 t) (iblk m c 2 t) (iblk m c 3 t) (iblk m c 4 t) (iblk m c 5 t) (ix3 0 r d)
      = tokOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (bt t) (tok t r) d := by
  refine (outV_apply _ _ _ _ _ _ _ r d).trans ?_
  unfold tokOut
  rw [blk_1]
  refine congrArg (HAdd.hAdd (α := EReal) (β := EReal) (γ := EReal) _) (Finset.sum_congr rfl fun j _ => ?_)
  rw [blk_5]
  unfold gateE tokGate
  rw [conv_tok t m c xs hx, conv_tok t m c xs hx]

/-- The block a point leaves. -/
theorem point_tok (r : Fin 512) (d : Fin 1024) : (outsAt0 m c t.val t.isLt).1 (ix3 0 r d)
      = tokOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (bt t) (tok t r) d := by
  by_cases h0 : t.val % 32 = 0
  · rw [out_first t m c h0]
    exact out_tok t m c _ (before_A t m c h0) r d
  · rw [out_later t m c h0]
    exact out_tok t m c _ (before_B t m c h0) r d

end

/-- The call's result array. -/
theorem result (m : (ℓ : Loc nD τ sig) → Buf (Elt Ideal) ℓ) (c : Dev nD) :
    (dats m 0 c).arrAt 6 cfg0.N = resultV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  obtain ⟨a, r, d, rfl⟩ : ∃ (a : Fin 1) (r : Fin 512) (d : Fin 1024), y = ix3 a r d := ⟨_, _, _, eq_ix3 y⟩
  obtain rfl : a = 0 := Subsingleton.elim _ _
  refine (point_tok t m c r d).trans ?_
  refine (show resultV _ _ _ _ _ _ (ix3 (bt t) (tok t r) d) = _ from rfl).symm.trans (congrArg (resultV _ _ _ _ _ _) ?_)
  blk_ext [ix_6, tok]

end Cert.Ffn

end
-- ==== Proof.FfnRefer.lean ====
/-
  The feed-forward reference's result, read at a token, and its agreement with the call's.
-/
module

public import proofs.«01_k».proof.Proof.FfnValue
public import proofs.«01_k».proof.Proof.Gen.Reference2Ideal.Read
public import Idealize.ShloMosaic.Lib.KernelVsHost

@[expose] public section

set_option maxRecDepth 16384

noncomputable section

namespace Cert.Ffn

open Cert.Reference2Ideal Cert.Reference2Ideal.Gen Cert.Reference2Ideal.Read
open Idealize.ShloMosaic Idealize.ShloMosaic.TcCoe

theorem bits_one : Ideal.ofBits .f32 0x3F800000#32 = (1 : EReal) := by simp [Ideal.ofBits, Ideal.ieee, -EReal.coe_mul]; norm_num

section
variable (a0 a1 : FVec Ideal S2x16384x1024 .f32) (a2 : FVec Ideal S1x1024x5632 .f32) (a3 : FVec Ideal S1x3x5632 .f32) (a4 : FVec Ideal S1x5632 .f32)
  (a5 : FVec Ideal S1x2816x1024 .f32)

theorem ref_up (b : Fin 2) (s : Fin 16384) (f : Fin 5632) : val_main_v1 (F := Ideal) a0 a2 (ix3 b s f) = tokU a0 a2 b s f := by
  rw [val_main_v1_apply]
  unfold tokU
  refine Finset.sum_congr rfl fun k _ => ?_
  rw [val_main_v0_apply]
  refine congrArg₂ (HMul.hMul (α := EReal) (β := EReal) (γ := EReal)) (congrArg a0 ?_) (congrArg a2 ?_)
  · funext a; fin_cases a <;> rfl
  · funext a
    fin_cases a
    · rfl
    · refine Fin.ext ?_
      show (k.val * 5632 + f.val) / 5632 % 1024 = k.val
      omega
    · refine Fin.ext ?_
      show (k.val * 5632 + f.val) % 5632 = f.val
      omega

theorem ref_pad (b : Fin 2) (n : Fin 16386) (f : Fin 5632) : val_main_v2 (F := Ideal) a0 a2 (ix3 b n f) = tokPast a0 a2 b n.val n.isLt f := by
  unfold val_main_v2 tokPast
  by_cases h : n.val < 2
  · rw [dif_pos h]
    refine (pad_apply_of_not_inside _ _ _ _ _ _ _ _ (1 : Fin 3) fun hc => ?_).trans ?_
    · have h' : 2 ≤ n.val := hc.1
      omega
    · show (((0#32 : BitVec 32).toInt : ℝ) : EReal) = 0
      simp
  · rw [dif_neg h, ← ref_up]
    refine pad_apply_of_inside _ _ _ _ _ _ _ _ _ fun a => ?_
    fin_cases a
    · show b.val = 0 + b.val * (0 + 1); omega
    · show n.val = 2 + (n.val - 2) * (0 + 1); omega
    · show f.val = 0 + f.val * (0 + 1); omega

theorem ref_tap0 (b : Fin 2) (s : Fin 16384) (f : Fin 5632) : val_main_v7 (F := Ideal) a3 (ix3 b s f) = a3 (ix3 0 0 f) := by
  rw [val_main_v7_apply, val_main_v6_apply, val_main_v5_apply, val_main_v4_apply]
  refine congrArg a3 (funext fun a => ?_)
  fin_cases a
  · rfl
  · rfl
  · exact Fin.ext (Nat.mod_eq_of_lt f.isLt)
theorem ref_tap1 (b : Fin 2) (s : Fin 16384) (f : Fin 5632) : val_main_v15 (F := Ideal) a3 (ix3 b s f) = a3 (ix3 0 1 f) := by
  rw [val_main_v15_apply, val_main_v14_apply, val_main_v13_apply, val_main_v12_apply]
  refine congrArg a3 (funext fun a => ?_)
  fin_cases a
  · rfl
  · rfl
  · exact Fin.ext (Nat.mod_eq_of_lt f.isLt)
theorem ref_tap2 (b : Fin 2) (s : Fin 16384) (f : Fin 5632) : val_main_v22 (F := Ideal) a3 (ix3 b s f) = a3 (ix3 0 2 f) := by
  rw [val_main_v22_apply, val_main_v21_apply, val_main_v20_apply, val_main_v19_apply]
  refine congrArg a3 (funext fun a => ?_)
  fin_cases a
  · rfl
  · rfl
  · exact Fin.ext (Nat.mod_eq_of_lt f.isLt)
theorem ref_bias (b : Fin 2) (s : Fin 16384) (f : Fin 5632) : val_main_v27 (F := Ideal) a4 (ix3 b s f) = a4 (ix2 0 f) := by
  rw [val_main_v27_apply, val_main_v26_apply, val_main_v25_apply]
  refine congrArg a4 (funext fun a => ?_)
  fin_cases a
  · rfl
  · exact Fin.ext (Nat.mod_eq_of_lt f.isLt)

theorem ref_row0 (b : Fin 2) (s : Fin 16384) (f : Fin 5632) : val_main_v3 (F := Ideal) a0 a2 (ix3 b s f) = tokPast a0 a2 b s.val (by omega) f := by
  rw [val_main_v3_apply, ← ref_pad a0 a2 b ⟨s.val, by omega⟩ f]
  refine congrArg _ (funext fun a => ?_)
  fin_cases a <;> rfl
theorem ref_row1 (b : Fin 2) (s : Fin 16384) (f : Fin 5632) : val_main_v11 (F := Ideal) a0 a2 (ix3 b s f) = tokPast a0 a2 b (s.val + 1) (by omega) f := by
  rw [val_main_v11_apply, ← ref_pad a0 a2 b ⟨s.val + 1, by omega⟩ f]
  refine congrArg _ (funext fun a => ?_)
  fin_cases a
  · rfl
  · exact Fin.ext (Nat.add_comm _ _)
  · rfl
theorem ref_row2 (b : Fin 2) (s : Fin 16384) (f : Fin 5632) : val_main_v18 (F := Ideal) a0 a2 (ix3 b s f) = tokU a0 a2 b s f := by
  rw [val_main_v18_apply]
  have e : tokU a0 a2 b s f = tokPast a0 a2 b (s.val + 2) (by omega) f := by
    unfold tokPast
    rw [dif_neg (by omega)]
    rfl
  rw [e, ← ref_pad a0 a2 b ⟨s.val + 2, by omega⟩ f]
  refine congrArg _ (funext fun a => ?_)
  fin_cases a
  · rfl
  · exact Fin.ext (Nat.add_comm _ _)
  · rfl

/-- The reference adds the taps from the earliest token on, then the bias. -/
theorem ref_conv (b : Fin 2) (s : Fin 16384) (f : Fin 5632) : val_main_v28 (F := Ideal) a0 a2 a3 a4 (ix3 b s f) = tokConv a0 a2 a3 a4 b s f := by
  rw [val_main_v28_apply, val_main_v24_apply, val_main_v17_apply, val_main_v10_apply, val_main_v23_apply, val_main_v16_apply, val_main_v8_apply, val_main_v9_apply,
    val_main_cst_apply, ref_row0, ref_row1, ref_row2, ref_tap0, ref_tap1, ref_tap2, ref_bias]
  have add4 : ∀ p q u w : EReal, Ideal.ofBits .f32 0x00000000#32 + p + q + u + w = w + u + p + q := fun p q u w => by
    rw [Ideal.ofBits_zero_f32, zero_add, add_comm _ w, add_comm (p + q) u, add_assoc u p q |>.symm, add_assoc, add_assoc, add_assoc]
  exact add4 _ _ _ _

theorem ref_gate (b : Fin 2) (s : Fin 16384) (j : Fin 2816) : val_main_v32 (F := Ideal) a0 a2 a3 a4 (ix3 b s j) = tokGate a0 a2 a3 a4 b s j := by
  have e1 : val_main_v29 (F := Ideal) a0 a2 a3 a4 (ix3 b s j) = tokConv a0 a2 a3 a4 b s ⟨j.val, by omega⟩ := by
    rw [val_main_v29_apply, ← ref_conv]
    refine congrArg _ (funext fun a => ?_)
    fin_cases a <;> rfl
  have e2 : val_main_v30 (F := Ideal) a0 a2 a3 a4 (ix3 b s j) = tokConv a0 a2 a3 a4 b s ⟨2816 + j.val, by omega⟩ := by
    rw [val_main_v30_apply, ← ref_conv]
    refine congrArg _ (funext fun a => ?_)
    fin_cases a <;> rfl
  rw [val_main_v32_apply, val_main_v31_apply, val_main_call1_v5_apply, val_main_call1_v4_apply, val_main_call1_cst_0_apply, val_main_call1_v3_apply,
    val_main_call1_v2_apply, val_main_call1_cst_apply, val_main_call1_v1_apply, val_main_call1_v0_apply, e1, e2]
  unfold tokGate Ideal.logistic
  rw [← bits_one]
  rfl

/-- The reference's result is the call's. -/
theorem ref_result : val_main_v35 (F := Ideal) a0 a1 a2 a3 a4 a5 = resultV a0 a1 a2 a3 a4 a5 := by
  funext i
  obtain ⟨b, s, d, rfl⟩ : ∃ (b : Fin 2) (s : Fin 16384) (d : Fin 1024), i = ix3 b s d := ⟨_, _, _, eq_ix3 i⟩
  rw [val_main_v35_apply, val_main_v34_apply]
  show _ = tokOut a0 a1 a2 a3 a4 a5 b s d
  unfold tokOut
  refine congrArg (HAdd.hAdd (α := EReal) (β := EReal) (γ := EReal) _) (Finset.sum_congr rfl fun j _ => ?_)
  rw [val_main_v33_apply, ← ref_gate]
  refine congrArg₂ (HMul.hMul (α := EReal) (β := EReal) (γ := EReal)) (congrArg _ ?_) (congrArg a5 ?_)
  · funext a; fin_cases a <;> rfl
  · funext a
    fin_cases a
    · rfl
    · refine Fin.ext ?_
      show (j.val * 1024 + d.val) / 1024 % 2816 = j.val
      omega
    · refine Fin.ext ?_
      show (j.val * 1024 + d.val) % 1024 = d.val
      omega

end

end Cert.Ffn

end
-- ==== Proof.FfnFrames.lean ====
/-
  The feed-forward call's frames, and its agreement with the reference.
-/
module

public import proofs.«01_k».proof.Defs
public import proofs.«01_k».proof.Proof.FfnRefer
public import proofs.«01_k».proof.Proof.Gen.Kernel2
public import proofs.«01_k».proof.Proof.Gen.Reference2Ideal.Run
public import Idealize.ShloMosaic.Lib.Quiescent

@[expose] public section

set_option maxRecDepth 16384

noncomputable section

namespace Cert.Ffn

open Idealize.ShloMosaic Idealize.ShloMosaic.TcCoe Idealize.SL.Sem

/-- The frame of the ideal text, read at the words. -/
def FrameBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

/-- The kernel's frame is the one of its ideal text: the two texts are the same. -/
theorem frame_same : Cert.quiescent_Kernel2 (hKernel2 := Cert.Kernel2.Gen.facts) = FrameBits := by
  sl_kernel_rfl

theorem frame_kernel : Cert.quiescent_Kernel2 (hKernel2 := Cert.Kernel2.Gen.facts) := by
  rw [frame_same]
  exact fun m ρ _ => Cert.Kernel2Ideal.Gen.frame (F := Bits) m ρ

theorem frame_ideal : Cert.quiescent_Kernel2Ideal (hKernel2Ideal := Cert.Kernel2Ideal.Gen.facts) := fun m ρ _ => Cert.Kernel2Ideal.Gen.frame (F := Ideal) m ρ

/-- The reference has no semaphores, and its run leaves the arguments. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩)
    (Cert.Reference2Ideal.Value.run (F := Ideal) m ρ)

open Cert.Kernel2Ideal Cert.Kernel2Ideal.Gen in
/-- The result both programs leave. -/
def refOut (m : (ℓ : Loc nD τ sig) → Buf (Elt Ideal) ℓ) (c : Dev nD) : Buf (Elt Ideal) ((c.tc : Thread nD τ).loc main_v6) :=
  resultV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem algebraic : Cert.algebraic_Kernel2Ideal_Reference2Ideal (hKernel2Ideal := Cert.Kernel2Ideal.Gen.facts) (hReference2Ideal := Cert.Reference2Ideal.Gen.facts) :=
  fun m ρ m' ρ' _ hagree => by
  refine ⟨fun c => refOut m c, ?_, ?_⟩
  · refine (θ_run Cert.Kernel2Ideal.defs _ _).mono (fun r h c => ⟨?_, h.2.1 c⟩) (θ_run_and (Cert.Kernel2Ideal.Gen.run_main (F := Ideal) m ρ) (Cert.Kernel2Ideal.Gen.frame (F := Ideal) m ρ))
    exact (Pipeline.FramePost.out_eq h.1 c 6).trans (result m c)
  · refine (θ_run Cert.Reference2Ideal.defs _ _).mono (fun r h c => ⟨(h c).1.trans ?_, (h c).2⟩) (Cert.Reference2Ideal.Value.run (F := Ideal) m' ρ')
    obtain ⟨e0, e1, e2, e3, e4, e5⟩ := hagree c
    rw [Cert.Reference2Ideal.Read.val_main_v35_eq, e0, e1, e2, e3, e4, e5]
    exact ref_result _ _ _ _ _ _

end Cert.Ffn

end
-- ==== Proof.MixPoint.lean ====
/-
  The mixing call's point: what it leaves at a row, as plain functions of that row of its operands and of the weights.
-/
module

public import proofs.«01_k».proof.Proof.Gen.Kernel3Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Mix

open Cert.Kernel3Ideal Cert.Kernel3Ideal.Gen
open Idealize.ShloMosaic Idealize.ShloMosaic.TcCoe Idealize.ShloMosaic.Tactic

section
variable (o : Fin 1024 → EReal) (g : Fin 512 → EReal) (sg : Fin 2048 → EReal) (x : Fin 1024 → EReal)
  (wap : Fin 1024 → Fin 1024 → EReal) (wglu : Fin 512 → Fin 512 → EReal) (bglu : Fin 512 → EReal) (wsp : Fin 512 → Fin 1024 → EReal)
  (wout : Fin 1024 → Fin 1024 → EReal) (gain : Fin 1024 → EReal)

/-- The gated scan output of a row. -/
def rowGlu (j : Fin 512) : EReal := g j * Ideal.logistic ((∑ k : Fin 512, g k * wglu k j) + bglu j)

/-- The two branches of a row, each through its gate. -/
def rowMix (e : Fin 1024) : EReal :=
  sg ⟨e.val, by omega⟩ * (∑ k : Fin 1024, o k * wap k e) + sg ⟨1024 + e.val, by omega⟩ * (∑ j : Fin 512, rowGlu g wglu bglu j * wsp j e)

/-- The layer's state after the mixers, at a row. -/
def rowH (d : Fin 1024) : EReal := x d + ∑ e : Fin 1024, rowMix o g sg wap wglu bglu wsp e * wout e d

/-- A row's scale: one over the root of its mean square. -/
def rowScale (h : Fin 1024 → EReal) : EReal :=
  Ideal.rsqrt (Ideal.div (∑ e : Fin 1024, h e * h e) (Ideal.ofBits .f32 0x44800000#32) + Ideal.ofBits .f32 0x358637BD#32)

/-- A row's norm. -/
def rowNorm (h : Fin 1024 → EReal) (d : Fin 1024) : EReal := h d * rowScale h * gain d

end

section
variable (x0 : Vec Ideal S1x512x1024 .bf16) (x1 : Vec Ideal S1x512x512 .f32) (x2 : Vec Ideal S1x512x2048 .bf16) (x3 : Vec Ideal S1x512x1024 .f32)
  (x4 : Vec Ideal S1024x1024 .bf16) (x5 : Vec Ideal S512x512 .bf16) (x6 : Vec Ideal S1x512 .f32) (x7 : Vec Ideal S512x1024 .bf16)
  (x8 : Vec Ideal S1024x1024 .bf16) (x9 : Vec Ideal S1x1024 .f32) (r : Fin 512) (d : Fin 1024)

/-- The state at a row of a block. -/
def blkH (d : Fin 1024) : EReal :=
  rowH (fun k => x0 (ix3 0 r k)) (fun k => x1 (ix3 0 r k)) (fun k => x2 (ix3 0 r k)) (fun k => x3 (ix3 0 r k)) (fun k e => x4 (ix2 k e)) (fun k j => x5 (ix2 k j))
    (fun j => x6 (ix2 0 j)) (fun j e => x7 (ix2 j e)) (fun e d => x8 (ix2 e d)) d

theorem pay5_apply : k0_pay5 (F := Ideal) x0 x4 x1 x5 x6 x7 x2 (ix2 r d)
    = rowMix (fun k => x0 (ix3 0 r k)) (fun k => x1 (ix3 0 r k)) (fun k => x2 (ix3 0 r k)) (fun k e => x4 (ix2 k e)) (fun k j => x5 (ix2 k j))
        (fun j => x6 (ix2 0 j)) (fun j e => x7 (ix2 j e)) d := by
  pointwise [k0_pay5, rowMix, rowGlu]

theorem pay1_apply : k0_pay1 (F := Ideal) (k0_pay4 x3) (k0_pay5 x0 x4 x1 x5 x6 x7 x2) (k0_pay6 x8) (ix2 r d) = blkH x0 x1 x2 x3 x4 x5 x6 x7 x8 r d := by
  pointwise [k0_pay1, k0_pay4, k0_pay6, blkH, rowH]
  simp only [pay5_apply]

theorem out_h : out0_10 (F := Ideal) x0 x1 x2 x3 x4 x5 x6 x7 x8 x9 (ix3 0 r d) = blkH x0 x1 x2 x3 x4 x5 x6 x7 x8 r d := by
  unfold_out out0_10
  frame_out
  rw [← pay1_apply]
  pointwise [k0_pay2]

theorem out_n : out0_11 (F := Ideal) x0 x1 x2 x3 x4 x5 x6 x7 x8 x9 (ix3 0 r d) = rowNorm (fun d => x9 (ix2 0 d)) (blkH x0 x1 x2 x3 x4 x5 x6 x7 x8 r) d := by
  unfold_out out0_11
  frame_out
  pointwise [k0_pay3, rowNorm, rowScale]
  simp only [pay1_apply]

end

end Cert.Mix

end
-- ==== Proof.MixValue.lean ====
/-
  The mixing call's two results in its argument arrays: a block's rows are the tokens of its batch entry.
-/
module

public import proofs.«01_k».proof.Proof.MixPoint

@[expose] public section

set_option maxRecDepth 16384

noncomputable section

namespace Cert.Mix

open Cert.Kernel3Ideal Cert.Kernel3Ideal.Gen
open Idealize.ShloMosaic Idealize.ShloMosaic.TcCoe

section
variable (a0 : FVec Ideal S2x16384x1024 .bf16) (a1 : FVec Ideal S2x16384x512 .f32) (a2 : FVec Ideal S2x16384x2048 .bf16) (a3 : FVec Ideal S2x16384x1024 .f32)
  (a4 : FVec Ideal S1x1024x1024 .f32) (a5 : FVec Ideal S1x512x512 .f32) (a6 : FVec Ideal S1x512 .f32) (a7 : FVec Ideal S1x512x1024 .f32) (a8 : FVec Ideal S1x1024x1024 .f32)
  (a9 : FVec Ideal S1x1024 .f32)

/-- The state after the mixers, at a token. -/
def tokH (b : Fin 2) (s : Fin 16384) (d : Fin 1024) : EReal :=
  rowH (fun k => a0 (ix3 b s k)) (fun k => a1 (ix3 b s k)) (fun k => a2 (ix3 b s k)) (fun k => a3 (ix3 b s k)) (fun k e => a4 (ix3 0 k e)) (fun k j => a5 (ix3 0 k j))
    (fun j => a6 (ix2 0 j)) (fun j e => a7 (ix3 0 j e)) (fun e d => a8 (ix3 0 e d)) d

/-- The state's norm, at a token. -/
def tokN (b : Fin 2) (s : Fin 16384) (d : Fin 1024) : EReal := rowNorm (fun d => a9 (ix2 0 d)) (tokH a0 a1 a2 a3 a4 a5 a6 a7 a8 b s) d

/-- The two result arrays. -/
def stateV : FVec Ideal S2x16384x1024 .f32 := fun i => tokH a0 a1 a2 a3 a4 a5 a6 a7 a8 (i 0) (i 1) (i 2)
def normV : FVec Ideal S2x16384x1024 .bf16 := fun i => tokN a0 a1 a2 a3 a4 a5 a6 a7 a8 a9 (i 0) (i 1) (i 2)

end

/-! ## What the region finds -/

/-- The weights the host prepares. -/
def hSq (x : FVec Ideal S1x1024x1024 .f32) : FVec Ideal S1024x1024 .bf16 := truncf .bf16 (shapeCast S1024x1024 x shapeCasts_S1x1024x1024_S1024x1024) bitsLt_bf16_f32
def hGlu (x : FVec Ideal S1x512x512 .f32) : FVec Ideal S512x512 .bf16 := truncf .bf16 (shapeCast S512x512 x shapeCasts_S1x512x512_S512x512) bitsLt_bf16_f32
def hSsm (x : FVec Ideal S1x512x1024 .f32) : FVec Ideal S512x1024 .bf16 := truncf .bf16 (shapeCast S512x1024 x shapeCasts_S1x512x1024_S512x1024) bitsLt_bf16_f32

theorem hSq_apply (x : FVec Ideal S1x1024x1024 .f32) (k e : Fin 1024) : hSq x (ix2 k e) = x (ix3 0 k e) := by pointwise [hSq]
theorem hGlu_apply (x : FVec Ideal S1x512x512 .f32) (k j : Fin 512) : hGlu x (ix2 k j) = x (ix3 0 k j) := by pointwise [hGlu]
theorem hSsm_apply (x : FVec Ideal S1x512x1024 .f32) (j : Fin 512) (e : Fin 1024) : hSsm x (ix2 j e) = x (ix3 0 j e) := by pointwise [hSsm]

section
variable (m : (ℓ : Loc nD τ sig) → Buf (Elt Ideal) ℓ) (c : Dev nD)

theorem V_wap : V m c main_v1 = hSq (m ((c.tc : Thread nD τ).loc main_arg4)) := by
  simp only [V, hostOps0]
  after_results_simp <;> rfl
theorem V_wglu : V m c main_v3 = hGlu (m ((c.tc : Thread nD τ).loc main_arg5)) := by
  simp only [V, hostOps0]
  after_results_simp <;> rfl
theorem V_wsp : V m c main_v5 = hSsm (m ((c.tc : Thread nD τ).loc main_arg7)) := by
  simp only [V, hostOps0]
  after_results_simp <;> rfl
theorem V_wout : V m c main_v7 = hSq (m ((c.tc : Thread nD τ).loc main_arg8)) := by
  simp only [V, hostOps0]
  after_results_simp <;> rfl

end

/-! ## A point's blocks -/

/-- A point's batch entry and block of tokens. -/
def bt (t : Fin cfg0.N) : Fin 2 := ⟨t.val / 32, by have : t.val < 64 := lt_of_lt_of_eq t.isLt N_0; omega⟩
def it (t : Fin cfg0.N) : Fin 32 := ⟨t.val % 32, by omega⟩

theorem ix_0 : ∀ t : Fin cfg0.N, win0_0.index t = ![(bt t).val, (it t).val, 0] := (by decide +kernel : ∀ t : Fin grid0.N, win0_0.index t = ![t.val / 32, t.val % 32, 0])
theorem ix_1 : ∀ t : Fin cfg0.N, win0_1.index t = ![(bt t).val, (it t).val, 0] := (by decide +kernel : ∀ t : Fin grid0.N, win0_1.index t = ![t.val / 32, t.val % 32, 0])
theorem ix_2 : ∀ t : Fin cfg0.N, win0_2.index t = ![(bt t).val, (it t).val, 0] := (by decide +kernel : ∀ t : Fin grid0.N, win0_2.index t = ![t.val / 32, t.val % 32, 0])
theorem ix_3 : ∀ t : Fin cfg0.N, win0_3.index t = ![(bt t).val, (it t).val, 0] := (by decide +kernel : ∀ t : Fin grid0.N, win0_3.index t = ![t.val / 32, t.val % 32, 0])
theorem ix_10 : ∀ t : Fin cfg0.N, win0_10.index t = ![(bt t).val, (it t).val, 0] := (by decide +kernel : ∀ t : Fin grid0.N, win0_10.index t = ![t.val / 32, t.val % 32, 0])
theorem ix_11 : ∀ t : Fin cfg0.N, win0_11.index t = ![(bt t).val, (it t).val, 0] := (by decide +kernel : ∀ t : Fin grid0.N, win0_11.index t = ![t.val / 32, t.val % 32, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_9 : ∀ t : Fin cfg0.N, win0_9.index t = ![0, 0] := (by decide +kernel : ∀ t : Fin grid0.N, win0_9.index t = ![0, 0])

section
variable (t : Fin cfg0.N)

theorem read_0 (f : main_arg0.ty.Contents (Elt Ideal)) (y : S1x512x1024.Idx) : ((cfg0.win 0).blk t).view.read (Elt Ideal) f y = f ((win0_0.blk t).view.emb y) := rfl
theorem read_1 (f : main_arg1.ty.Contents (Elt Ideal)) (y : S1x512x512.Idx) : ((cfg0.win 1).blk t).view.read (Elt Ideal) f y = f ((win0_1.blk t).view.emb y) := rfl
theorem read_2 (f : main_arg2.ty.Contents (Elt Ideal)) (y : S1x512x2048.Idx) : ((cfg0.win 2).blk t).view.read (Elt Ideal) f y = f ((win0_2.blk t).view.emb y) := rfl
theorem read_3 (f : main_arg3.ty.Contents (Elt Ideal)) (y : S1x512x1024.Idx) : ((cfg0.win 3).blk t).view.read (Elt Ideal) f y = f ((win0_3.blk t).view.emb y) := rfl
theorem read_4 (f : main_v1.ty.Contents (Elt Ideal)) (y : S1024x1024.Idx) : ((cfg0.win 4).blk t).view.read (Elt Ideal) f y = f ((win0_4.blk t).view.emb y) := rfl
theorem read_5 (f : main_v3.ty.Contents (Elt Ideal)) (y : S512x512.Idx) : ((cfg0.win 5).blk t).view.read (Elt Ideal) f y = f ((win0_5.blk t).view.emb y) := rfl
theorem read_6 (f : main_arg6.ty.Contents (Elt Ideal)) (y : S1x512.Idx) : ((cfg0.win 6).blk t).view.read (Elt Ideal) f y = f ((win0_6.blk t).view.emb y) := rfl
theorem read_7 (f : main_v5.ty.Contents (Elt Ideal)) (y : S512x1024.Idx) : ((cfg0.win 7).blk t).view.read (Elt Ideal) f y = f ((win0_7.blk t).view.emb y) := rfl
theorem read_8 (f : main_v7.ty.Contents (Elt Ideal)) (y : S1024x1024.Idx) : ((cfg0.win 8).blk t).view.read (Elt Ideal) f y = f ((win0_8.blk t).view.emb y) := rfl
theorem read_9 (f : main_arg9.ty.Contents (Elt Ideal)) (y : S1x1024.Idx) : ((cfg0.win 9).blk t).view.read (Elt Ideal) f y = f ((win0_9.blk t).view.emb y) := rfl

/-- The token at a block's row. -/
def tok (r : Fin 512) : Fin 16384 := ⟨512 * (it t).val + r.val, by omega⟩

theorem at_0 (r : Fin 512) (k : Fin 1024) : (win0_0.blk t).view.emb (ix3 0 r k) = (ix3 (bt t) (tok t r) k : S2x16384x1024.Idx) := by blk_ext [ix_0, tok]
theorem at_1 (r : Fin 512) (k : Fin 512) : (win0_1.blk t).view.emb (ix3 0 r k) = (ix3 (bt t) (tok t r) k : S2x16384x512.Idx) := by blk_ext [ix_1, tok]
theorem at_2 (r : Fin 512) (k : Fin 2048) : (win0_2.blk t).view.emb (ix3 0 r k) = (ix3 (bt t) (tok t r) k : S2x16384x2048.Idx) := by blk_ext [ix_2, tok]
theorem at_3 (r : Fin 512) (k : Fin 1024) : (win0_3.blk t).view.emb (ix3 0 r k) = (ix3 (bt t) (tok t r) k : S2x16384x1024.Idx) := by blk_ext [ix_3, tok]
theorem at_4 (k : Fin 1024) (e : Fin 1024) : (win0_4.blk t).view.emb (ix2 k e) = (ix2 k e : S1024x1024.Idx) := by blk_ext [ix_4]
theorem at_5 (k : Fin 512) (e : Fin 512) : (win0_5.blk t).view.emb (ix2 k e) = (ix2 k e : S512x512.Idx) := by blk_ext [ix_5]
theorem at_6 (e : Fin 512) : (win0_6.blk t).view.emb (ix2 0 e) = (ix2 0 e : S1x512.Idx) := by blk_ext [ix_6]
theorem at_7 (k : Fin 512) (e : Fin 1024) : (win0_7.blk t).view.emb (ix2 k e) = (ix2 k e : S512x1024.Idx) := by blk_ext [ix_7]
theorem at_8 (k : Fin 1024) (e : Fin 1024) : (win0_8.blk t).view.emb (ix2 k e) = (ix2 k e : S1024x1024.Idx) := by blk_ext [ix_8]
theorem at_9 (e : Fin 1024) : (win0_9.blk t).view.emb (ix2 0 e) = (ix2 0 e : S1x1024.Idx) := by blk_ext [ix_9]

variable (m : (ℓ : Loc nD τ sig) → Buf (Elt Ideal) ℓ) (c : Dev nD)

theorem blk_0 (r : Fin 512) (k : Fin 1024) : iblk m c 0 t (ix3 0 r k) = m ((c.tc : Thread nD τ).loc main_arg0) (ix3 (bt t) (tok t r) k) :=
  (read_0 t (V m c main_arg0) (ix3 0 r k)).trans ((congrFun (V_main_arg0 m c) _).trans (congrArg _ (at_0 t r k)))
theorem blk_1 (r : Fin 512) (k : Fin 512) : iblk m c 1 t (ix3 0 r k) = m ((c.tc : Thread nD τ).loc main_arg1) (ix3 (bt t) (tok t r) k) :=
  (read_1 t (V m c main_arg1) (ix3 0 r k)).trans ((congrFun (V_main_arg1 m c) _).trans (congrArg _ (at_1 t r k)))
theorem blk_2 (r : Fin 512) (k : Fin 2048) : iblk m c 2 t (ix3 0 r k) = m ((c.tc : Thread nD τ).loc main_arg2) (ix3 (bt t) (tok t r) k) :=
  (read_2 t (V m c main_arg2) (ix3 0 r k)).trans ((congrFun (V_main_arg2 m c) _).trans (congrArg _ (at_2 t r k)))
theorem blk_3 (r : Fin 512) (k : Fin 1024) : iblk m c 3 t (ix3 0 r k) = m ((c.tc : Thread nD τ).loc main_arg3) (ix3 (bt t) (tok t r) k) :=
  (read_3 t (V m c main_arg3) (ix3 0 r k)).trans ((congrFun (V_main_arg3 m c) _).trans (congrArg _ (at_3 t r k)))
theorem blk_4 (k : Fin 1024) (e : Fin 1024) : iblk m c 4 t (ix2 k e) = m ((c.tc : Thread nD τ).loc main_arg4) (ix3 0 k e) :=
  (read_4 t (V m c main_v1) (ix2 k e)).trans ((congrFun (V_wap m c) _).trans ((congrArg (hSq _) (at_4 t k e)).trans (hSq_apply _ _ _)))
theorem blk_5 (k : Fin 512) (e : Fin 512) : iblk m c 5 t (ix2 k e) = m ((c.tc : Thread nD τ).loc main_arg5) (ix3 0 k e) :=
  (read_5 t (V m c main_v3) (ix2 k e)).trans ((congrFun (V_wglu m c) _).trans ((congrArg (hGlu _) (at_5 t k e)).trans (hGlu_apply _ _ _)))
theorem blk_6 (e : Fin 512) : iblk m c 6 t (ix2 0 e) = m ((c.tc : Thread nD τ).loc main_arg6) (ix2 0 e) :=
  (read_6 t (V m c main_arg6) (ix2 0 e)).trans ((congrFun (V_main_arg6 m c) _).trans (congrArg _ (at_6 t e)))
theorem blk_7 (k : Fin 512) (e : Fin 1024) : iblk m c 7 t (ix2 k e) = m ((c.tc : Thread nD τ).loc main_arg7) (ix3 0 k e) :=
  (read_7 t (V m c main_v5) (ix2 k e)).trans ((congrFun (V_wsp m c) _).trans ((congrArg (hSsm _) (at_7 t k e)).trans (hSsm_apply _ _ _)))
theorem blk_8 (k : Fin 1024) (e : Fin 1024) : iblk m c 8 t (ix2 k e) = m ((c.tc : Thread nD τ).loc main_arg8) (ix3 0 k e) :=
  (read_8 t (V m c main_v7) (ix2 k e)).trans ((congrFun (V_wout m c) _).trans ((congrArg (hSq _) (at_8 t k e)).trans (hSq_apply _ _ _)))
theorem blk_9 (e : Fin 1024) : iblk m c 9 t (ix2 0 e) = m ((c.tc : Thread nD τ).loc main_arg9) (ix2 0 e) :=
  (read_9 t (V m c main_arg9) (ix2 0 e)).trans ((congrFun (V_main_arg9 m c) _).trans (congrArg _ (at_9 t e)))

/-- A block's state is its tokens'. -/
theorem blkH_tok (r : Fin 512) : blkH (iblk m c 0 t) (iblk m c 1 t) (iblk m c 2 t) (iblk m c 3 t) (iblk m c 4 t) (iblk m c 5 t) (iblk m c 6 t) (iblk m c 7 t) (iblk m c 8 t) r
    = tokH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bt t) (tok t r) := by
  funext d
  unfold blkH tokH
  simp only [blk_0, blk_1, blk_2, blk_3, blk_4, blk_5, blk_6, blk_7, blk_8]

theorem point_h (r : Fin 512) (d : Fin 1024) : out0_10 (iblk m c 0 t) (iblk m c 1 t) (iblk m c 2 t) (iblk m c 3 t) (iblk m c 4 t) (iblk m c 5 t) (iblk m c 6 t) (iblk m c 7 t) (iblk m c 8 t) (iblk m c 9 t) (ix3 0 r d)
    = tokH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bt t) (tok t r) d :=
  (out_h (iblk m c 0 t) (iblk m c 1 t) (iblk m c 2 t) (iblk m c 3 t) (iblk m c 4 t) (iblk m c 5 t) (iblk m c 6 t) (iblk m c 7 t) (iblk m c 8 t) (iblk m c 9 t) r d).trans (congrFun (blkH_tok t m c r) d)

theorem point_n (r : Fin 512) (d : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (ix3 0 r d)
    = tokN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (bt t) (tok t r) d := by
  refine (out_n (iblk m c 0 t) (iblk m c 1 t) (iblk m c 2 t) (iblk m c 3 t) (iblk m c 4 t) (iblk m c 5 t) (iblk m c 6 t) (iblk m c 7 t) (iblk m c 8 t) (iblk m c 9 t) r d).trans ?_
  unfold tokN
  rw [blkH_tok]
  simp only [blk_9]

end

/-- The state array. -/
theorem result_state (m : (ℓ : Loc nD τ sig) → Buf (Elt Ideal) ℓ) (c : Dev nD) :
    (dats m 0 c).arrAt 10 cfg0.N = stateV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 10 _ (by decide +kernel) fun t hf y => ?_
  blk_simp
  rw [after0_10]
  obtain ⟨a, r, d, rfl⟩ : ∃ (a : Fin 1) (r : Fin 512) (d : Fin 1024), y = ix3 a r d := ⟨_, _, _, eq_ix3 y⟩
  obtain rfl : a = 0 := Subsingleton.elim _ _
  refine (point_h t m c r d).trans ?_
  refine (show stateV _ _ _ _ _ _ _ _ _ (ix3 (bt t) (tok t r) d) = _ from rfl).symm.trans (congrArg (stateV _ _ _ _ _ _ _ _ _) ?_)
  blk_ext [ix_10, tok]

/-- The norm array. -/
theorem result_norm (m : (ℓ : Loc nD τ sig) → Buf (Elt Ideal) ℓ) (c : Dev nD) :
    (dats m 0 c).arrAt 11 cfg0.N = normV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 11 _ (by decide +kernel) fun t hf y => ?_
  blk_simp
  rw [after0_11]
  obtain ⟨a, r, d, rfl⟩ : ∃ (a : Fin 1) (r : Fin 512) (d : Fin 1024), y = ix3 a r d := ⟨_, _, _, eq_ix3 y⟩
  obtain rfl : a = 0 := Subsingleton.elim _ _
  refine (point_n t m c r d).trans ?_
  refine (show normV _ _ _ _ _ _ _ _ _ _ (ix3 (bt t) (tok t r) d) = _ from rfl).symm.trans (congrArg (normV _ _ _ _ _ _ _ _ _ _) ?_)
  blk_ext [ix_11, tok]

end Cert.Mix

end
-- ==== Proof.MixRefer.lean ====
/-
  The mixing reference's two results, read at a token, and their agreement with the call's.
-/
module

public import proofs.«01_k».proof.Proof.MixValue
public import proofs.«01_k».proof.Proof.FfnRefer
public import proofs.«01_k».proof.Proof.Gen.Reference3Ideal.Read

@[expose] public section

set_option maxRecDepth 16384

noncomputable section

namespace Cert.Mix

open Cert.Reference3Ideal Cert.Reference3Ideal.Gen Cert.Reference3Ideal.Read
open Idealize.ShloMosaic Idealize.ShloMosaic.TcCoe

section
variable (a0 : FVec Ideal S2x16384x1024 .bf16) (a1 : FVec Ideal S2x16384x512 .f32) (a2 : FVec Ideal S2x16384x2048 .bf16) (a3 : FVec Ideal S2x16384x1024 .f32)
  (a4 : FVec Ideal S1x1024x1024 .f32) (a5 : FVec Ideal S1x512x512 .f32) (a6 : FVec Ideal S1x512 .f32) (a7 : FVec Ideal S1x512x1024 .f32) (a8 : FVec Ideal S1x1024x1024 .f32)
  (a9 : FVec Ideal S1x1024 .f32) (b : Fin 2) (s : Fin 16384)

theorem ref_wap (k e : Fin 1024) : val_main_v1 (F := Ideal) a4 (ix2 k e) = a4 (ix3 0 k e) := by
  rw [val_main_v1_apply]
  refine congrArg a4 (funext fun a => Fin.ext ?_)
  fin_cases a
  · rfl
  · show (k.val * 1024 + e.val) / 1024 % 1024 = k.val; omega
  · show (k.val * 1024 + e.val) % 1024 = e.val; omega
theorem ref_wglu (k j : Fin 512) : val_main_v3 (F := Ideal) a5 (ix2 k j) = a5 (ix3 0 k j) := by
  rw [val_main_v3_apply]
  refine congrArg a5 (funext fun a => Fin.ext ?_)
  fin_cases a
  · rfl
  · show (k.val * 512 + j.val) / 512 % 512 = k.val; omega
  · show (k.val * 512 + j.val) % 512 = j.val; omega
theorem ref_wsp (j : Fin 512) (e : Fin 1024) : val_main_v16 (F := Ideal) a7 (ix2 j e) = a7 (ix3 0 j e) := by
  rw [val_main_v16_apply]
  refine congrArg a7 (funext fun a => Fin.ext ?_)
  fin_cases a
  · rfl
  · show (j.val * 1024 + e.val) / 1024 % 512 = j.val; omega
  · show (j.val * 1024 + e.val) % 1024 = e.val; omega
theorem ref_wout (k e : Fin 1024) : val_main_v24 (F := Ideal) a8 (ix2 k e) = a8 (ix3 0 k e) := by
  rw [val_main_v24_apply]
  refine congrArg a8 (funext fun a => Fin.ext ?_)
  fin_cases a
  · rfl
  · show (k.val * 1024 + e.val) / 1024 % 1024 = k.val; omega
  · show (k.val * 1024 + e.val) % 1024 = e.val; omega
theorem ref_bglu (j : Fin 512) : val_main_v7 (F := Ideal) a6 (ix3 b s j) = a6 (ix2 0 j) := by
  rw [val_main_v7_apply, val_main_v6_apply, val_main_v5_apply]
  refine congrArg a6 (funext fun a => ?_)
  fin_cases a
  · rfl
  · exact Fin.ext (Nat.mod_eq_of_lt j.isLt)
theorem ref_gain (d : Fin 1024) : val_main_v39 (F := Ideal) a9 (ix3 b s d) = a9 (ix2 0 d) := by
  rw [val_main_v39_apply, val_main_v38_apply, val_main_v37_apply]
  refine congrArg a9 (funext fun a => ?_)
  fin_cases a
  · rfl
  · exact Fin.ext (Nat.mod_eq_of_lt d.isLt)

/-- The attention's branch. -/
theorem ref_attn (e : Fin 1024) : val_main_v2 (F := Ideal) a0 a4 (ix3 b s e)
    = ∑ k : Fin 1024, HMul.hMul (α := EReal) (β := EReal) (γ := EReal) (a0 (ix3 b s k)) (a4 (ix3 0 k e)) := by
  rw [val_main_v2_apply]
  refine Finset.sum_congr rfl fun k _ => ?_
  rw [← ref_wap a4 k e]
  refine congrArg₂ (HMul.hMul (α := EReal) (β := EReal) (γ := EReal)) (congrArg a0 ?_) (congrArg _ ?_)
  · funext a; fin_cases a <;> rfl
  · funext a; fin_cases a <;> rfl

/-- The gated scan output. -/
theorem ref_glu (j : Fin 512) : val_main_v15 (F := Ideal) a1 a5 a6 (ix3 b s j)
    = rowGlu (fun k => a1 (ix3 b s k)) (fun k j => a5 (ix3 0 k j)) (fun j => a6 (ix2 0 j)) j := by
  have e4 : val_main_v4 (F := Ideal) a1 a5 (ix3 b s j) = ∑ k : Fin 512, HMul.hMul (α := EReal) (β := EReal) (γ := EReal) (a1 (ix3 b s k)) (a5 (ix3 0 k j)) := by
    rw [val_main_v4_apply]
    refine Finset.sum_congr rfl fun k _ => ?_
    rw [← ref_wglu a5 k j]
    refine congrArg₂ (HMul.hMul (α := EReal) (β := EReal) (γ := EReal)) (congrArg a1 ?_) (congrArg _ ?_)
    · funext a; fin_cases a <;> rfl
    · funext a; fin_cases a <;> rfl
  rw [val_main_v15_apply, val_main_v14_apply, val_main_v13_apply, val_main_cst_0_apply, val_main_v12_apply, val_main_v11_apply, val_main_cst_apply, val_main_v10_apply,
    val_main_v9_apply, val_main_v8_apply, e4, ref_bglu]
  unfold rowGlu Ideal.logistic
  rw [← Cert.Ffn.bits_one]
  rfl

/-- The two branches through their gates. -/
theorem ref_mix (e : Fin 1024) : val_main_v23 (F := Ideal) a0 a1 a2 a4 a5 a6 a7 (ix3 b s e)
    = rowMix (fun k => a0 (ix3 b s k)) (fun k => a1 (ix3 b s k)) (fun k => a2 (ix3 b s k)) (fun k e => a4 (ix3 0 k e)) (fun k j => a5 (ix3 0 k j)) (fun j => a6 (ix2 0 j))
        (fun j e => a7 (ix3 0 j e)) e := by
  have e17 : val_main_v17 (F := Ideal) a1 a5 a6 a7 (ix3 b s e)
      = ∑ j : Fin 512, HMul.hMul (α := EReal) (β := EReal) (γ := EReal) (rowGlu (fun k => a1 (ix3 b s k)) (fun k j => a5 (ix3 0 k j)) (fun j => a6 (ix2 0 j)) j) (a7 (ix3 0 j e)) := by
    rw [val_main_v17_apply]
    refine Finset.sum_congr rfl fun j _ => ?_
    rw [← ref_wsp a7 j e, ← ref_glu a1 a5 a6 b s j]
    refine congrArg₂ (HMul.hMul (α := EReal) (β := EReal) (γ := EReal)) (congrArg _ ?_) (congrArg _ ?_)
    · funext a; fin_cases a <;> rfl
    · funext a; fin_cases a <;> rfl
  have e19 : val_main_v19 (F := Ideal) a2 (ix3 b s e) = a2 (ix3 b s ⟨e.val, by omega⟩) := by
    rw [val_main_v19_apply]
    refine congrArg a2 (funext fun a => ?_)
    fin_cases a <;> rfl
  have e20 : val_main_v20 (F := Ideal) a2 (ix3 b s e) = a2 (ix3 b s ⟨1024 + e.val, by omega⟩) := by
    rw [val_main_v20_apply]
    refine congrArg a2 (funext fun a => ?_)
    fin_cases a <;> rfl
  rw [val_main_v23_apply, val_main_v21_apply, val_main_v22_apply, ref_attn, e17, e19, e20]
  rfl

/-- The state. -/
theorem ref_h (d : Fin 1024) : val_main_v26 (F := Ideal) a0 a1 a2 a3 a4 a5 a6 a7 a8 (ix3 b s d) = tokH a0 a1 a2 a3 a4 a5 a6 a7 a8 b s d := by
  rw [val_main_v26_apply, val_main_v25_apply]
  unfold tokH rowH
  refine congrArg (HAdd.hAdd (α := EReal) (β := EReal) (γ := EReal) _) (Finset.sum_congr rfl fun e _ => ?_)
  refine congrArg₂ (HMul.hMul (α := EReal) (β := EReal) (γ := EReal)) ((congrArg _ ?_).trans (ref_mix a0 a1 a2 a4 a5 a6 a7 b s e)) ((congrArg _ ?_).trans (ref_wout a8 e d))
  · funext a; fin_cases a <;> rfl
  · funext a; fin_cases a <;> rfl

/-- The scale of a token's state. -/
theorem ref_scale (d : Fin 1024) : val_main_v35 (F := Ideal) a0 a1 a2 a3 a4 a5 a6 a7 a8 (ix3 b s d) = rowScale (tokH a0 a1 a2 a3 a4 a5 a6 a7 a8 b s) := by
  have e28 : ∀ i : S2x16384.Idx, i = ix2 b s → val_main_v28 (F := Ideal) a0 a1 a2 a3 a4 a5 a6 a7 a8 i
      = ∑ e : Fin 1024, tokH a0 a1 a2 a3 a4 a5 a6 a7 a8 b s e * tokH a0 a1 a2 a3 a4 a5 a6 a7 a8 b s e := by
    rintro i rfl
    rw [val_main_v28_apply, val_main_cst_1_apply]
    refine (congrArg (HAdd.hAdd (α := EReal) (β := EReal) (γ := EReal) · _) Ideal.ofBits_zero_f32).trans ((zero_add _).trans (Finset.sum_congr rfl fun e _ => ?_))
    rw [val_main_v27_apply, ← ref_h a0 a1 a2 a3 a4 a5 a6 a7 a8 b s e]
    have ei : idx_main_v28 (ix2 b s) e = ix3 b s e := by funext a; fin_cases a <;> rfl
    rw [ei]
    rfl
  rw [val_main_v35_apply, val_main_v34_apply, val_main_v33_apply, val_main_v32_apply, val_main_cst_3_apply, val_main_v31_apply, val_main_v30_apply, val_main_cst_2_apply,
    val_main_v29_apply, e28 _ (by funext a; fin_cases a <;> rfl)]
  rfl

theorem ref_state : val_main_v26 (F := Ideal) a0 a1 a2 a3 a4 a5 a6 a7 a8 = stateV a0 a1 a2 a3 a4 a5 a6 a7 a8 := by
  funext i
  obtain ⟨b, s, d, rfl⟩ : ∃ (b : Fin 2) (s : Fin 16384) (d : Fin 1024), i = ix3 b s d := ⟨_, _, _, eq_ix3 i⟩
  exact ref_h a0 a1 a2 a3 a4 a5 a6 a7 a8 b s d

theorem ref_norm : val_main_v41 (F := Ideal) a0 a1 a2 a3 a4 a5 a6 a7 a8 a9 = normV a0 a1 a2 a3 a4 a5 a6 a7 a8 a9 := by
  funext i
  obtain ⟨b, s, d, rfl⟩ : ∃ (b : Fin 2) (s : Fin 16384) (d : Fin 1024), i = ix3 b s d := ⟨_, _, _, eq_ix3 i⟩
  rw [val_main_v41_apply, val_main_v40_apply, val_main_v36_apply, ref_scale, ref_gain, ref_h]
  rfl

end

end Cert.Mix

end
-- ==== Proof.MixFrames.lean ====
/-
  The mixing call's frames, and its agreement with the reference.
-/
module

public import proofs.«01_k».proof.Defs
public import proofs.«01_k».proof.Proof.MixRefer
public import proofs.«01_k».proof.Proof.Gen.Kernel3
public import proofs.«01_k».proof.Proof.Gen.Reference3Ideal.Run
public import Idealize.ShloMosaic.Lib.Quiescent

@[expose] public section

set_option maxRecDepth 16384

noncomputable section

namespace Cert.Mix

open Idealize.ShloMosaic Idealize.ShloMosaic.TcCoe Idealize.SL.Sem

/-- The frame of the ideal text, read at the words. -/
def FrameBits : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

/-- The kernel's frame is the one of its ideal text: the two texts are the same. -/
theorem frame_same : Cert.quiescent_Kernel3 (hKernel3 := Cert.Kernel3.Gen.facts) = FrameBits := by
  sl_kernel_rfl

theorem frame_kernel : Cert.quiescent_Kernel3 (hKernel3 := Cert.Kernel3.Gen.facts) := by
  rw [frame_same]
  exact fun m ρ _ => Cert.Kernel3Ideal.Gen.frame (F := Bits) m ρ

theorem frame_ideal : Cert.quiescent_Kernel3Ideal (hKernel3Ideal := Cert.Kernel3Ideal.Gen.facts) := fun m ρ _ => Cert.Kernel3Ideal.Gen.frame (F := Ideal) m ρ

/-- The reference has no semaphores, and its run leaves the arguments. -/
theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems rfl r.2⟩)
    (Cert.Reference3Ideal.Value.run (F := Ideal) m ρ)

section
open Cert.Kernel3Ideal Cert.Kernel3Ideal.Gen
variable (m : (ℓ : Loc nD τ sig) → Buf (Elt Ideal) ℓ) (c : Dev nD)

/-- The results both programs leave. -/
def refState : Buf (Elt Ideal) ((c.tc : Thread nD τ).loc main_v8_0) :=
  stateV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
def refNorm : Buf (Elt Ideal) ((c.tc : Thread nD τ).loc main_v8_1) :=
  normV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

end

theorem algebraic : Cert.algebraic_Kernel3Ideal_Reference3Ideal (hKernel3Ideal := Cert.Kernel3Ideal.Gen.facts) (hReference3Ideal := Cert.Reference3Ideal.Gen.facts) :=
  fun m ρ m' ρ' _ hagree => by
  refine ⟨fun c => refState m c, fun c => refNorm m c, ?_, ?_⟩
  · refine (θ_run Cert.Kernel3Ideal.defs _ _).mono (fun r h c => ⟨?_, ?_, h.2.1 c⟩) (θ_run_and (Cert.Kernel3Ideal.Gen.run_main (F := Ideal) m ρ) (Cert.Kernel3Ideal.Gen.frame (F := Ideal) m ρ))
    · exact (Pipeline.FramePost.out_eq h.1 c 10).trans (result_state m c)
    · exact (Pipeline.FramePost.out_eq h.1 c 11).trans (result_norm m c)
  · refine (θ_run Cert.Reference3Ideal.defs _ _).mono (fun r h c => ⟨(h c).1.trans ?_, (h c).2.1.trans ?_, (h c).2.2⟩) (Cert.Reference3Ideal.Value.run (F := Ideal) m' ρ')
    · obtain ⟨e0, e1, e2, e3, e4, e5, e6, e7, e8, e9⟩ := hagree c
      rw [Cert.Reference3Ideal.Read.val_main_v26_eq, e0, e1, e2, e3, e4, e5, e6, e7, e8]
      exact ref_state _ _ _ _ _ _ _ _ _
    · obtain ⟨e0, e1, e2, e3, e4, e5, e6, e7, e8, e9⟩ := hagree c
      rw [Cert.Reference3Ideal.Read.val_main_v41_eq, e0, e1, e2, e3, e4, e5, e6, e7, e8, e9]
      exact ref_norm _ _ _ _ _ _ _ _ _ _

end Cert.Mix

end
-- ==== Proof.InpPoint.lean ====
/-
  The input projection's point: what it leaves at a row, as plain functions of that row of its operands, of the weights and
  of the tables.
-/
module

public import proofs.«01_k».proof.Proof.MixPoint
public import proofs.«01_k».proof.Proof.Gen.Kernel4Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Inp

open Cert.Kernel4Ideal Cert.Kernel4Ideal.Gen
open Idealize.ShloMosaic Idealize.ShloMosaic.TcCoe Idealize.ShloMosaic.Tactic

/-- The word of one over sixty four, and of the small number under the root. -/
abbrev wInv : EReal := Ideal.ofBits .f32 0x3C800000#32
abbrev wEps : EReal := Ideal.ofBits .f32 0x358637BD#32

section
variable (p : Fin 1024 → EReal) (E : Fin 1024 → Fin 128 → EReal) (Et : Fin 256 → Fin 1024 → EReal) (g : Fin 1024 → EReal)

/-- The scale of a component, from its lanes' squares. -/
def laneR (j : Fin 128) : EReal := Ideal.rsqrt ((∑ L : Fin 1024, p L * p L * E L j) * wInv + wEps)

/-- The scales beside what their narrow copies leave. -/
def laneCat (j : Fin 256) : EReal :=
  if h : j.val < 128 then laneR p E ⟨j.val, h⟩ else laneR p E ⟨j.val - 128, by omega⟩ - laneR p E ⟨j.val - 128, by omega⟩

/-- A row's lanes after the norm. -/
def laneNorm (L : Fin 1024) : EReal := p L * (∑ j : Fin 256, laneCat p E j * Et j L) * g L

end

/-- A lane within its head, and the lane of the other half. -/
def low (L : Fin 1024) : Fin 128 := ⟨L.val % 128, by omega⟩
def rot (L : Fin 1024) : Fin 1024 := ⟨L.val / 128 * 128 + (L.val % 128 + 64) % 128, by omega⟩

/-- A row's lanes after the rotation. -/
def laneRope (n : Fin 1024 → EReal) (c s : Fin 128 → EReal) (L : Fin 1024) : EReal := n L * c (low L) + n (rot L) * s (low L)

section
variable (v0 : Vec Ideal S1x512x1024 .f32) (v12 : Vec Ideal S1x1024 .f32) (v15 : FVec Ideal S512x1024 .bf16) (v17 v19 : FVec Ideal S512x128 .f32)
  (w : Vec Ideal S1024x1024 .bf16) (e : Vec Ideal S1024x128 .bf16) (v22 : FVec Ideal S512x1024 .f32) (v37 : FVec Ideal S512x256 .bf16) (et : Vec Ideal S256x1024 .bf16)
  (gn : Vec Ideal S1x1024 .f32) (r : Fin 512)

/-- A row's normed input. -/
def rowX (d : Fin 1024) : EReal := Cert.Mix.rowNorm (fun d => v12 (ix2 0 d)) (fun k => v0 (ix3 0 r k)) d

theorem pay4_apply (d : Fin 1024) : k0_pay4 (F := Ideal) v0 v12 (ix2 r d) = rowX v0 v12 r d := by
  pointwise [k0_pay4, rowX, Cert.Mix.rowNorm, Cert.Mix.rowScale]

theorem pay7_apply (L : Fin 1024) : k0_pay7 (F := Ideal) v0 v12 w (ix2 r L) = ∑ k : Fin 1024, rowX v0 v12 r k * w (ix2 k L) := by
  pointwise [k0_pay7]
  simp only [pay4_apply]

theorem pay8_apply (j : Fin 256) : k0_pay8 (F := Ideal) v0 v12 w e (ix2 r j) = laneCat (fun L => k0_pay7 (F := Ideal) v0 v12 w (ix2 r L)) (fun L j => e (ix2 L j)) j := by
  pointwise [k0_pay8, laneCat, laneR]

theorem pay9_apply (L : Fin 1024) : k0_pay9 (F := Ideal) v22 v37 et gn (ix2 r L)
    = v22 (ix2 r L) * (∑ j : Fin 256, v37 (ix2 r j) * et (ix2 j L)) * gn (ix2 0 L) := by
  pointwise [k0_pay9]

theorem pay21_apply (L : Fin 1024) : k0_pay21 (F := Ideal) v15 w e et gn (ix2 r L)
    = laneNorm (fun L => ∑ k : Fin 1024, v15 (ix2 r k) * w (ix2 k L)) (fun L j => e (ix2 L j)) (fun j L => et (ix2 j L)) (fun L => gn (ix2 0 L)) L := by
  pointwise [k0_pay21, laneNorm, laneCat, laneR]

theorem rope_eq (n : Fin 1024 → EReal) (c s : Fin 128 → EReal) (L a b : Fin 1024) (l : Fin 128) (ha : a.val = L.val) (hl : l.val = L.val % 128)
    (hb : b.val = L.val / 128 * 128 + (L.val % 128 + 64) % 128) : n a * c l + n b * s l = laneRope n c s L := by
  obtain rfl : a = L := Fin.ext ha
  obtain rfl : l = low a := Fin.ext hl
  obtain rfl : b = rot a := Fin.ext hb
  rfl

/-- The queries, by lane and row. -/
theorem pay20_apply (L : Fin 1024) :
    k0_pay20 (F := Ideal) (k0_pay10 v17 v19 v22 v37 et gn) (k0_pay11 v17 v19 v22 v37 et gn) (k0_pay12 v17 v19 v22 v37 et gn) (k0_pay13 v17 v19 v22 v37 et gn)
      (k0_pay14 v17 v19 v22 v37 et gn) (k0_pay15 v17 v19 v22 v37 et gn) (k0_pay16 v17 v19 v22 v37 et gn) (k0_pay18 v17 v22 v37 et gn) (k0_pay19 v19 v22 v37 et gn) (ix4 0 0 L r)
    = laneRope (fun L => k0_pay9 (F := Ideal) v22 v37 et gn (ix2 r L)) (fun j => v17 (ix2 r j)) (fun j => v19 (ix2 r j)) L := by
  pointwise [k0_pay20, k0_pay10, k0_pay11, k0_pay12, k0_pay13, k0_pay14, k0_pay15, k0_pay16, k0_pay17, k0_pay18, k0_pay19]
  split_ifs <;>
    exact rope_eq (fun L => k0_pay9 (F := Ideal) v22 v37 et gn (ix2 r L)) (fun j => v17 (ix2 r j)) (fun j => v19 (ix2 r j)) L _ _ _ (by first | rfl | (dsimp only; omega)) (by dsimp only; omega) (by dsimp only; omega)

/-- The keys, by row and lane. -/
theorem pay25_apply (v117 : FVec Ideal S512x1024 .f32) (L : Fin 1024) (h0 : v117 = k0_pay21 (F := Ideal) v15 w e et gn) :
   k0_pay25 (F := Ideal) v17 v19 v117 (k0_pay22 v15 v17 v19 w e et gn) (k0_pay23 v15 w e et gn) (k0_pay24 v15 v17 w e et gn) 64#32 (ix3 0 r L)
   = laneRope (fun L => v117 (ix2 r L)) (fun j => v17 (ix2 r j)) (fun j => v19 (ix2 r j)) L := by
  pointwise [k0_pay25, k0_pay22, k0_pay23, k0_pay24]
  simp only [← h0]
  split_ifs <;>
    exact rope_eq (fun L => v117 (ix2 r L)) (fun j => v17 (ix2 r j)) (fun j => v19 (ix2 r j)) L _ _ _ (by first | rfl | (dsimp only; omega)) (by dsimp only; omega) (by dsimp only; omega)

/-- The values, by lane and row. -/
theorem pay26_apply (L : Fin 1024) : k0_pay1 (F := Ideal) (k0_pay26 v15 w) (ix4 0 0 L r) = ∑ k : Fin 1024, v15 (ix2 r k) * w (ix2 k L) := by
  pointwise [k0_pay1, k0_pay26]

/-- The scan's input. -/
theorem pay2_apply (wu : Vec Ideal S1024x512 .bf16) (j : Fin 512) : k0_pay2 (F := Ideal) v15 wu (ix3 0 r j) = ∑ k : Fin 1024, v15 (ix2 r k) * wu (ix2 k j) := by
  pointwise [k0_pay2]

/-- The gates. -/
theorem pay3_apply (wg : Vec Ideal S1024x2048 .bf16) (j : Fin 2048) : k0_pay3 (F := Ideal) v15 wg (ix3 0 r j) = Ideal.logistic (∑ k : Fin 1024, v15 (ix2 r k) * wg (ix2 k j)) := by
  pointwise [k0_pay3]

end

section
variable (x0 : Vec Ideal S1x512x1024 .f32) (x1 : Vec Ideal S1x1024 .f32) (x2 : Vec Ideal S1024x5632 .bf16) (x3 x4 : Vec Ideal S1x1024 .f32)
  (x5 x6 : Vec Ideal S512x128 .f32) (x7 : Vec Ideal S1024x128 .bf16) (x8 : Vec Ideal S256x1024 .bf16) (r : Fin 512)

/-- A row through a column of the weights. -/
def proj (x : Fin 1024 → EReal) (W : Fin 1024 → Fin 5632 → EReal) (j : Fin 5632) : EReal := ∑ k : Fin 1024, x k * W k j

/-- A row's lanes of the queries (from column 0) or keys (from column 1024), normed and rotated. -/
def blkRope (gn : Vec Ideal S1x1024 .f32) (o : Fin 2) (L : Fin 1024) : EReal :=
  laneRope (laneNorm (fun L => proj (rowX x0 x1 r) (fun k j => x2 (ix2 k j)) ⟨o.val * 1024 + L.val, by omega⟩) (fun L j => x7 (ix2 L j)) (fun j L => x8 (ix2 j L)) (fun L => gn (ix2 0 L)))
    (fun j => x5 (ix2 r j)) (fun j => x6 (ix2 r j)) L

theorem ld_q (k L : Fin 1024) : View.ld x2 r0_3 (ix2 k L) = x2 (ix2 k ⟨L.val, by omega⟩) := by
  pointwise []
theorem ld_k (k L : Fin 1024) : View.ld x2 r0_7 (ix2 k L) = x2 (ix2 k ⟨1024 + L.val, by omega⟩) := by
  pointwise []
theorem ld_v (k L : Fin 1024) : View.ld x2 r0_8 (ix2 k L) = x2 (ix2 k ⟨2048 + L.val, by omega⟩) := by
  pointwise []
theorem ld_u (k : Fin 1024) (j : Fin 512) : View.ld x2 r0_9 (ix2 k j) = x2 (ix2 k ⟨3072 + j.val, by omega⟩) := by
  pointwise []
theorem ld_g (k : Fin 1024) (j : Fin 2048) : View.ld x2 r0_11 (ix2 k j) = x2 (ix2 k ⟨3584 + j.val, by omega⟩) := by
  pointwise []

theorem out_q (L : Fin 1024) : out0_9 (F := Ideal) x0 x1 x2 x3 x4 x5 x6 x7 x8 (ix4 0 0 L r) = blkRope x0 x1 x2 x5 x6 x7 x8 r x3 ⟨0, by omega⟩ L := by
  unfold_out out0_9
  frame_out
  rw [pay20_apply]
  have e5 : k0_pay5 (F := Ideal) x5 = x5 := by funext i; pointwise [k0_pay5]
  have e6 : k0_pay6 (F := Ideal) x6 = x6 := by funext i; pointwise [k0_pay6]
  have e7 : ∀ L, k0_pay7 (F := Ideal) x0 x1 (View.ld x2 r0_3) (ix2 r L) = proj (rowX x0 x1 r) (fun k j => x2 (ix2 k j)) ⟨(⟨0, by omega⟩ : Fin 2).val * 1024 + L.val, by dsimp only; omega⟩ := fun L => by
    rw [pay7_apply]
    refine Finset.sum_congr rfl fun k _ => ?_
    rw [ld_q]
    exact congrArg (fun i : Fin 5632 => rowX x0 x1 r k * x2 (ix2 k i)) (Fin.ext (by dsimp only; omega))
  unfold blkRope
  rw [e5, e6]
  refine congrFun (congrArg (fun n => laneRope n _ _) (funext fun L => ?_)) L
  rw [pay9_apply]
  unfold laneNorm
  simp only [pay8_apply, e7]

theorem out_k (L : Fin 1024) : out0_10 (F := Ideal) x0 x1 x2 x3 x4 x5 x6 x7 x8 (ix3 0 r L) = blkRope x0 x1 x2 x5 x6 x7 x8 r x4 ⟨1, by omega⟩ L := by
  unfold_out out0_10
  frame_out
  rw [pay25_apply (h0 := rfl)]
  have e5 : k0_pay5 (F := Ideal) x5 = x5 := by funext i; pointwise [k0_pay5]
  have e6 : k0_pay6 (F := Ideal) x6 = x6 := by funext i; pointwise [k0_pay6]
  unfold blkRope
  rw [e5, e6]
  refine congrFun (congrArg (fun n => laneRope n _ _) (funext fun L => ?_)) L
  rw [pay21_apply]
  refine congrFun (congrArg (fun p => laneNorm p _ _ _) (funext fun L => Finset.sum_congr rfl fun k _ => ?_)) L
  exact congrArg₂ (HMul.hMul (α := EReal) (β := EReal) (γ := EReal)) (pay4_apply x0 x1 r k) (ld_k x2 k L)

theorem out_v (L : Fin 1024) : out0_11 (F := Ideal) x0 x1 x2 x3 x4 x5 x6 x7 x8 (ix4 0 0 L r) = proj (rowX x0 x1 r) (fun k j => x2 (ix2 k j)) ⟨2048 + L.val, by omega⟩ := by
  unfold_out out0_11
  frame_out
  rw [pay26_apply]
  exact Finset.sum_congr rfl fun k _ => congrArg₂ (HMul.hMul (α := EReal) (β := EReal) (γ := EReal)) (pay4_apply x0 x1 r k) (ld_v x2 k L)

theorem out_u (j : Fin 512) : out0_12 (F := Ideal) x0 x1 x2 x3 x4 x5 x6 x7 x8 (ix3 0 r j) = proj (rowX x0 x1 r) (fun k j => x2 (ix2 k j)) ⟨3072 + j.val, by omega⟩ := by
  unfold_out out0_12
  frame_out
  rw [pay2_apply]
  exact Finset.sum_congr rfl fun k _ => congrArg₂ (HMul.hMul (α := EReal) (β := EReal) (γ := EReal)) (pay4_apply x0 x1 r k) (ld_u x2 k j)

theorem out_g (j : Fin 2048) : out0_13 (F := Ideal) x0 x1 x2 x3 x4 x5 x6 x7 x8 (ix3 0 r j) = Ideal.logistic (proj (rowX x0 x1 r) (fun k j => x2 (ix2 k j)) ⟨3584 + j.val, by omega⟩) := by
  unfold_out out0_13
  frame_out
  rw [pay3_apply]
  exact congrArg Ideal.logistic (Finset.sum_congr rfl fun k _ => congrArg₂ (HMul.hMul (α := EReal) (β := EReal) (γ := EReal)) (pay4_apply x0 x1 r k) (ld_g x2 k j))

end

end Cert.Inp

end
-- ==== Proof.InpLanes.lean ====
/-
  The lanes of a row of queries or keys: the norm by the two tables of zeros and ones is the norm of each component, and the
  rotation by the two signed tables is the rotation of its halves.
-/
module

public import proofs.«01_k».proof.Proof.InpPoint

@[expose] public section

set_option maxRecDepth 16384
set_option backward.proofsInPublic true

noncomputable section

namespace Cert.Inp

open Idealize.ShloMosaic Idealize.ShloMosaic.TcCoe

/-! ## Constants -/

theorem wInv_eq : wInv = (((64 : ℝ)⁻¹ : ℝ) : EReal) := by
  simp [wInv, Ideal.ofBits, Ideal.ieee, -EReal.coe_mul]; norm_num
theorem w64_eq : Ideal.ofBits .f32 0x42800000#32 = ((64 : ℝ) : EReal) := by
  simp [Ideal.ofBits, Ideal.ieee, -EReal.coe_mul]; norm_num
theorem wEps_pos : ∃ e : ℝ, 0 < e ∧ wEps = (e : EReal) := by
  refine ⟨8796093 / 8796093022208, by norm_num, ?_⟩
  simp [wEps, Ideal.ofBits, Ideal.ieee, -EReal.coe_mul]; norm_num

theorem mul_wInv (x : EReal) : x * wInv = Ideal.div x (Ideal.ofBits .f32 0x42800000#32) := by
  rw [w64_eq, wInv_eq]
  unfold Ideal.div
  rw [if_neg (by exact_mod_cast (by norm_num : (64 : ℝ) ≠ 0)), EReal.coe_inv]

theorem sq_nonneg' (x : EReal) : 0 ≤ x * x := by
  induction x with
  | bot => simp
  | top => simp
  | coe r => exact_mod_cast mul_self_nonneg r

/-- One over the root of what is not below a positive number is a number. -/
theorem rsqrt_real (x : EReal) (h : 0 ≤ x) : ∃ r : ℝ, Ideal.rsqrt (x * wInv + wEps) = (r : EReal) := by
  obtain ⟨e, he, e0⟩ := wEps_pos
  rw [e0, wInv_eq]
  induction x with
  | bot => exact absurd h (by simp)
  | top =>
    rw [EReal.top_mul_coe_of_pos (by norm_num)]
    exact ⟨0, rfl⟩
  | coe r =>
    have hr : 0 ≤ r := by exact_mod_cast h
    have hp : 0 < r * (64 : ℝ)⁻¹ + e := by positivity
    refine ⟨(Real.sqrt (r * (64 : ℝ)⁻¹ + e))⁻¹, ?_⟩
    rw [← EReal.coe_mul, ← EReal.coe_add]
    show (if _ < 0 then ⊥ else if _ = 0 then ⊤ else _ : EReal) = _
    rw [if_neg (not_lt.mpr hp.le), if_neg hp.ne']

/-! ## The norm -/

/-- The component a lane belongs to, a lane's number in its component, and the lane of a component's number. -/
def pair (L : Fin 1024) : Fin 16 := ⟨2 * (L.val / 128) + L.val / 32 % 2, by omega⟩
def inPair (L : Fin 1024) : Fin 64 := ⟨L.val / 64 % 2 * 32 + L.val % 32, by omega⟩
def lane (q : Fin 16) (e : Fin 64) : Fin 1024 := ⟨q.val / 2 * 128 + e.val / 32 * 64 + q.val % 2 * 32 + e.val % 32, by omega⟩

/-- A component's scale. -/
def compR (p : Fin 64 → EReal) : EReal := Ideal.rsqrt (Ideal.div (∑ e : Fin 64, p e * p e) (Ideal.ofBits .f32 0x42800000#32) + wEps)

section
variable (p : Fin 1024 → EReal) (E : Fin 1024 → Fin 128 → EReal) (Et : Fin 256 → Fin 1024 → EReal) (g : Fin 1024 → EReal)
  (hE : ∀ L j, E L j = if (pair L).val = j.val then 1 else 0) (hEt : ∀ j L, Et j L = if (pair L).val = j.val % 128 then 1 else 0)

include hE in
theorem sum_pair (q : Fin 16) : ∑ L : Fin 1024, p L * p L * E L ⟨q.val, by omega⟩ = ∑ e : Fin 64, p (lane q e) * p (lane q e) := by
  have h1 : ∀ L : Fin 1024, p L * p L * E L ⟨q.val, by omega⟩ = if pair L = q then p L * p L else 0 := fun L => by
    rw [hE]
    by_cases h : pair L = q
    · rw [if_pos h, if_pos (congrArg Fin.val h), mul_one]
    · rw [if_neg h, if_neg (fun e => h (Fin.ext e)), mul_zero]
  rw [Finset.sum_congr rfl fun L _ => h1 L, ← Finset.sum_filter]
  refine Finset.sum_bij' (fun L _ => inPair L) (fun e _ => lane q e) (fun _ _ => Finset.mem_univ _) (fun e _ => ?_) (fun L hL => ?_) (fun e _ => ?_) (fun L hL => ?_)
  · refine Finset.mem_filter.mpr ⟨Finset.mem_univ _, Fin.ext ?_⟩
    simp only [pair, lane]
    omega
  · obtain rfl := (Finset.mem_filter.mp hL).2
    apply Fin.ext
    simp only [lane, inPair, pair]
    omega
  · apply Fin.ext
    simp only [lane, inPair]
    omega
  · obtain rfl := (Finset.mem_filter.mp hL).2
    have : lane (pair L) (inPair L) = L := by
      apply Fin.ext
      simp only [lane, inPair, pair]
      omega
    rw [this]

include hE in
theorem laneR_pair (q : Fin 16) : laneR p E ⟨q.val, by omega⟩ = compR (fun e => p (lane q e)) := by
  unfold laneR compR
  rw [sum_pair p E hE q, mul_wInv]

include hE in
theorem laneR_sub (j : Fin 128) : laneR p E j - laneR p E j = 0 := by
  obtain ⟨r, hr⟩ := rsqrt_real (∑ L : Fin 1024, p L * p L * E L j) (Finset.sum_nonneg fun L _ => by
    rw [hE]
    split_ifs
    · rw [mul_one]; exact sq_nonneg' _
    · rw [mul_zero])
  unfold laneR
  rw [hr, ← EReal.coe_sub, sub_self, EReal.coe_zero]

include hE hEt in
theorem laneNorm_eq (L : Fin 1024) : laneNorm p E Et g L = p L * compR (fun e => p (lane (pair L) e)) * g L := by
  have hsum : ∑ j : Fin 256, laneCat p E j * Et j L = compR (fun e => p (lane (pair L) e)) := by
    refine (Fin.sum_univ_add (a := 128) (b := 128) fun j : Fin 256 => laneCat p E j * Et j L).trans ?_
    have hlo : ∑ j : Fin 128, laneCat p E (Fin.castAdd 128 j : Fin (128 + 128)) * Et (Fin.castAdd 128 j : Fin (128 + 128)) L = compR (fun e => p (lane (pair L) e)) := by
      rw [Finset.sum_eq_single (⟨(pair L).val, by omega⟩ : Fin 128)]
      · have hc : laneCat p E (Fin.castAdd 128 (⟨(pair L).val, by omega⟩ : Fin 128) : Fin (128 + 128)) = laneR p E ⟨(pair L).val, by omega⟩ := by
          unfold laneCat
          exact dif_pos (by show (pair L).val < 128; omega)
        rw [hc, hEt, if_pos (by show (pair L).val = (pair L).val % 128; omega), mul_one, laneR_pair p E hE]
      · intro j _ hj
        rw [hEt, if_neg (fun h => hj (Fin.ext (by have : (pair L).val = j.val % 128 := h; show j.val = (pair L).val; omega))), mul_zero]
      · intro h; exact absurd (Finset.mem_univ _) h
    have hhi : ∑ j : Fin 128, laneCat p E (Fin.natAdd 128 j : Fin (128 + 128)) * Et (Fin.natAdd 128 j : Fin (128 + 128)) L = 0 := by
      refine Finset.sum_eq_zero fun j _ => ?_
      have hc : laneCat p E (Fin.natAdd 128 j : Fin (128 + 128)) = 0 := by
        unfold laneCat
        rw [dif_neg (by show ¬ 128 + j.val < 128; omega)]
        exact laneR_sub p E hE _
      rw [hc, zero_mul]
    exact (congrArg₂ (HAdd.hAdd (α := EReal) (β := EReal) (γ := EReal)) hlo hhi).trans (add_zero _)
  unfold laneNorm
  rw [hsum]

end

/-! ## The rotation -/

/-- A component's number after the norm, in a row of natural columns. -/
def normN (P : Fin 1024 → EReal) (g : Fin 64 → EReal) (q : Fin 16) (e : Fin 64) : EReal :=
  P ⟨64 * q.val + e.val, by omega⟩ * compR (fun e => P ⟨64 * q.val + e.val, by omega⟩) * g e

/-- A lane after the rotation: the first half of a component's numbers turned against the second, or the second with the first. -/
def ropeN (n : Fin 16 → Fin 64 → EReal) (c s : Fin 32 → EReal) (L : Fin 1024) : EReal :=
  if L.val / 64 % 2 = 0 then
    n (pair L) ⟨L.val % 32, by omega⟩ * c ⟨L.val % 32, by omega⟩ - n (pair L) ⟨32 + L.val % 32, by omega⟩ * s ⟨L.val % 32, by omega⟩
  else
    n (pair L) ⟨32 + L.val % 32, by omega⟩ * c ⟨L.val % 32, by omega⟩ + n (pair L) ⟨L.val % 32, by omega⟩ * s ⟨L.val % 32, by omega⟩

/-- The natural column of a lane. -/
def nat (L : Fin 1024) : Fin 1024 := ⟨L.val / 128 * 128 + L.val / 32 % 2 * 64 + L.val / 64 % 2 * 32 + L.val % 32, by omega⟩

section
variable (P : Fin 1024 → EReal) (g : Fin 64 → EReal) (c s : Fin 32 → EReal)
  (E : Fin 1024 → Fin 128 → EReal) (Et : Fin 256 → Fin 1024 → EReal) (gl : Fin 1024 → EReal) (cl sl : Fin 128 → EReal)
  (hE : ∀ L j, E L j = if (pair L).val = j.val then 1 else 0) (hEt : ∀ j L, Et j L = if (pair L).val = j.val % 128 then 1 else 0)
  (hg : ∀ L, gl L = g (inPair L)) (hc : ∀ l : Fin 128, cl l = c ⟨l.val % 32, by omega⟩)
  (hs : ∀ l : Fin 128, sl l = if l.val < 64 then -s ⟨l.val % 32, by omega⟩ else s ⟨l.val % 32, by omega⟩)

include hE hEt hg in
theorem norm_lane (L : Fin 1024) : laneNorm (fun L => P (nat L)) E Et gl L = normN P g (pair L) (inPair L) := by
  have h1 : ∀ q e, nat (lane q e) = ⟨64 * q.val + e.val, by omega⟩ := fun q e => by
    apply Fin.ext
    have d1 : (lane q e).val / 128 = q.val / 2 := by simp only [lane]; omega
    have d2 : (lane q e).val / 32 % 2 = q.val % 2 := by simp only [lane]; omega
    have d3 : (lane q e).val / 64 % 2 = e.val / 32 := by simp only [lane]; omega
    have d4 : (lane q e).val % 32 = e.val % 32 := by simp only [lane]; omega
    simp only [nat, d1, d2, d3, d4]
    omega
  have h2 : nat L = ⟨64 * (pair L).val + (inPair L).val, by omega⟩ := by
    apply Fin.ext
    simp only [nat, pair, inPair]
    omega
  rw [laneNorm_eq _ E Et gl hE hEt, hg]
  unfold normN
  simp only [h1]
  rw [h2]

include hE hEt hg hc hs in
theorem rope_lane (L : Fin 1024) : laneRope (laneNorm (fun L => P (nat L)) E Et gl) cl sl L = ropeN (normN P g) c s L := by
  unfold laneRope ropeN
  rw [norm_lane P g E Et gl hE hEt hg, norm_lane P g E Et gl hE hEt hg, hc, hs]
  have hp : pair (rot L) = pair L := by
    apply Fin.ext
    simp only [pair, rot]
    omega
  have hl : (⟨(low L).val % 32, by omega⟩ : Fin 32) = ⟨L.val % 32, by omega⟩ := by
    apply Fin.ext
    simp only [low]
    omega
  rw [hp, hl]
  by_cases h : L.val / 64 % 2 = 0
  · have h1 : inPair L = ⟨L.val % 32, by omega⟩ := by
      apply Fin.ext
      simp only [inPair]
      omega
    have h2 : inPair (rot L) = ⟨32 + L.val % 32, by omega⟩ := by
      apply Fin.ext
      simp only [inPair, rot]
      omega
    rw [if_pos h, if_pos (by simp only [low]; omega), h1, h2, mul_neg, sub_eq_add_neg]
  · have h1 : inPair L = ⟨32 + L.val % 32, by omega⟩ := by
      apply Fin.ext
      simp only [inPair]
      omega
    have h2 : inPair (rot L) = ⟨L.val % 32, by omega⟩ := by
      apply Fin.ext
      simp only [inPair, rot]
      omega
    rw [if_neg h, if_neg (by simp only [low]; omega), h1, h2]

end

end Cert.Inp

end
-- ==== Proof.InpHost.lean ====
/-
  The input projection's operands as the host prepares them: the reordered weights, the gains and tables by lane.
-/
module

public import proofs.«01_k».proof.Proof.InpLanes

@[expose] public section

set_option maxRecDepth 16384
set_option backward.proofsInPublic true

noncomputable section

namespace Cert.Inp

open Cert.Kernel4Ideal Cert.Kernel4Ideal.Gen
open Idealize.ShloMosaic Idealize.ShloMosaic.TcCoe

/-- The weights: the columns of the queries and keys by lane, the rest as they are. -/
def hW (x : FVec Ideal S1x1024x5632 .f32) : FVec Ideal S1024x5632 .bf16 :=
  truncf .bf16 (concatenate S1024x5632 1
    [⟨S1024x2048, shapeCast S1024x2048 (transpose S1024x16x2x2x32 [0, 1, 3, 2, 4]
        (shapeCast S1024x16x2x2x32 (shapeCast S1024x2048 (extractStridedSlice S1x1024x2048 ![0, 0, 0] x slices_S1x1024x5632_S1x1024x2048_0_0_0) shapeCasts_S1x1024x2048_S1024x2048)
          shapeCasts_S1024x2048_S1024x16x2x2x32) transposes_S1024x16x2x2x32_S1024x16x2x2x32_0_1_3_2_4) shapeCasts_S1024x16x2x2x32_S1024x2048⟩,
     ⟨S1024x3584, shapeCast S1024x3584 (extractStridedSlice S1x1024x3584 ![0, 0, 2048] x slices_S1x1024x5632_S1x1024x3584_0_0_2048) shapeCasts_S1x1024x3584_S1024x3584⟩]
    concatenates_S1024x2048_S1024x3584_S1024x5632_d1) bitsLt_bf16_f32

theorem hW_lane (x : FVec Ideal S1x1024x5632 .f32) (k : Fin 1024) (o : Fin 2) (L : Fin 1024) :
    hW x (ix2 k ⟨o.val * 1024 + L.val, by omega⟩) = x (ix3 0 k ⟨o.val * 1024 + (nat L).val, by omega⟩) := by
  pointwise [hW]
  rw [dif_pos (by omega)]
  refine congrArg (fun i : Fin 5632 => x (ix3 0 k i)) (Fin.ext ?_)
  simp only [nat]
  omega

theorem hW_rest (x : FVec Ideal S1x1024x5632 .f32) (k : Fin 1024) (j : Fin 5632) (h : 2048 ≤ j.val) : hW x (ix2 k j) = x (ix3 0 k j) := by
  pointwise [hW]
  rw [dif_neg (by omega)]
  exact congrArg (fun i : Fin 5632 => x (ix3 0 k i)) (Fin.ext (by dsimp only; omega))

/-- The gains by lane. -/
def hGain (x : FVec Ideal S1x64 .f32) : FVec Ideal S1x1024 .f32 :=
  shapeCast S1x1024 (broadcastInDim S8x2x2x32 ![0, 1, 2, 3] bcast_S1x2x1x32_S8x2x2x32_0_1_2_3 (shapeCast S1x2x1x32 (shapeCast S64 x shapeCasts_S1x64_S64) shapeCasts_S64_S1x2x1x32))
    shapeCasts_S8x2x2x32_S1x1024

theorem hGain_apply (x : FVec Ideal S1x64 .f32) (L : Fin 1024) : hGain x (ix2 0 L) = x (ix2 0 (inPair L)) := by
  pointwise [hGain]
  rfl

/-- The component numbers by lane, and the table of zeros and ones, and twice that table turned. -/
def hPair : IVec S1024 32 :=
  shapeCast S1024 (broadcastInDim S8x2x2x32 ![0, 1, 2, 3] bcast_S8x1x2x1_S8x2x2x32_0_1_2_3 (shapeCast S8x1x2x1 (iotaInDim S16 32 0) shapeCasts_S16_S8x1x2x1)) shapeCasts_S8x2x2x32_S1024
def hE : FVec Ideal S1024x128 .bf16 :=
  uitofp .bf16 (cmpi .eq (broadcastInDim S1024x128 ![0, 1] bcast_S1024x1_S1024x128_0_1 (broadcastInDim S1024x1 ![0] bcast_S1024_S1024x1_0 hPair))
    (broadcastInDim S1024x128 ![0, 1] bcast_S1x128_S1024x128_0_1 (broadcastInDim S1x128 ![1] bcast_S128_S1x128_1 (iotaInDim S128 32 0))))
def hEt : FVec Ideal S256x1024 .bf16 :=
  concatenate S256x1024 0 [⟨S128x1024, transpose S128x1024 [1, 0] hE transposes_S1024x128_S128x1024_1_0⟩, ⟨S128x1024, transpose S128x1024 [1, 0] hE transposes_S1024x128_S128x1024_1_0⟩]
    concatenates_S128x1024_S128x1024_S256x1024_d0

theorem hPair_apply (L : Fin 1024) : hPair (ix1 L) = BitVec.ofNat 32 (pair L).val := by
  pointwise [hPair]
  exact congrArg (BitVec.ofNat 32) (by simp only [pair]; omega)

theorem hE_apply (L : Fin 1024) (j : Fin 128) : hE (ix2 L j) = if (pair L).val = j.val then 1 else 0 := by
  pointwise [hE]
  rw [hPair_apply]
  by_cases h : (pair L).val = j.val
  · rw [h, if_pos rfl]
    simp only [IntOp.cmpi, beq_self_eq_true, BitVec.ofBool_true]
    show (((1#1 : BitVec 1).toNat : ℝ) : EReal) = 1
    norm_num
  · have hne : BitVec.ofNat 32 (pair L).val ≠ BitVec.ofNat 32 j.val := fun e => h (by
      have := congrArg BitVec.toNat e
      simp only [BitVec.toNat_ofNat] at this
      omega)
    rw [if_neg h]
    simp only [IntOp.cmpi, beq_eq_false_iff_ne.mpr hne, BitVec.ofBool_false]
    show (((0#1 : BitVec 1).toNat : ℝ) : EReal) = 0
    norm_num

theorem hEt_apply (j : Fin 256) (L : Fin 1024) : hEt (ix2 j L) = if (pair L).val = j.val % 128 then 1 else 0 := by
  pointwise [hEt]
  simp only [hE_apply]
  split_ifs <;> first | rfl | omega

/-- The angles, and their cosines and sines. -/
def hAng : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The two tables by lane, from the cosines and the sines. -/
def hCosT (u : FVec Ideal S16384x32 .f32) : FVec Ideal S16384x128 .f32 :=
  concatenate S16384x128 1 [⟨S16384x32, u⟩, ⟨S16384x32, u⟩, ⟨S16384x32, u⟩, ⟨S16384x32, u⟩] concatenates_S16384x32_S16384x32_S16384x32_S16384x32_S16384x128_d1
def hSinT (u : FVec Ideal S16384x32 .f32) : FVec Ideal S16384x128 .f32 :=
  concatenate S16384x128 1 [⟨S16384x32, Host.negf u⟩, ⟨S16384x32, Host.negf u⟩, ⟨S16384x32, u⟩, ⟨S16384x32, u⟩] concatenates_S16384x32_S16384x32_S16384x32_S16384x32_S16384x128_d1

theorem hCosT_apply (u : FVec Ideal S16384x32 .f32) (s : Fin 16384) (l : Fin 128) : hCosT u (ix2 s l) = u (ix2 s ⟨l.val % 32, by omega⟩) := by
  pointwise [hCosT]
  split_ifs <;>
    exact congrArg (fun i : Fin 32 => u (ix2 s i)) (Fin.ext (by dsimp only; omega))

theorem hSinT_apply (u : FVec Ideal S16384x32 .f32) (s : Fin 16384) (l : Fin 128) :
    hSinT u (ix2 s l) = if l.val < 64 then -u (ix2 s ⟨l.val % 32, by omega⟩) else u (ix2 s ⟨l.val % 32, by omega⟩) := by
  pointwise [hSinT]
  by_cases h : l.val < 64
  · rw [if_pos h]
    split_ifs <;>
      first
        | exact congrArg (fun i : Fin 32 => -u (ix2 s i)) (Fin.ext (by dsimp only; omega))
        | omega
  · rw [if_neg h]
    split_ifs <;>
      first
        | exact congrArg (fun i : Fin 32 => u (ix2 s i)) (Fin.ext (by dsimp only; omega))
        | omega

end Cert.Inp

end
-- ==== Proof.InpValue.lean ====
/-
  The input projection's five results in its argument arrays: a block's rows are the tokens of its batch entry.
-/
module

public import proofs.«01_k».proof.Proof.InpHost

@[expose] public section

set_option maxRecDepth 16384
set_option backward.proofsInPublic true

noncomputable section

namespace Cert.Inp

open Cert.Kernel4Ideal Cert.Kernel4Ideal.Gen
open Idealize.ShloMosaic Idealize.ShloMosaic.TcCoe

/-- The cosines and sines of the angles. -/
def cosA : FVec Ideal S16384x32 .f32 := Host.cos hAng
def sinA : FVec Ideal S16384x32 .f32 := Host.sin hAng

/-- The token at a block's row. -/
def tokAt (n : Fin 32) (r : Fin 512) : Fin 16384 := ⟨512 * n.val + r.val, by omega⟩

section
variable (a0 : FVec Ideal S2x16384x1024 .f32) (a1 : FVec Ideal S1x1024 .f32) (a2 : FVec Ideal S1x1024x5632 .f32) (gn : FVec Ideal S1x64 .f32)

/-- A token's normed input. -/
def tokX (b : Fin 2) (s : Fin 16384) (d : Fin 1024) : EReal := Cert.Mix.rowNorm (fun d => a1 (ix2 0 d)) (fun k => a0 (ix3 b s k)) d

/-- A token's column of the projection. -/
def tokP (b : Fin 2) (s : Fin 16384) (j : Fin 5632) : EReal := proj (tokX a0 a1 b s) (fun k j => a2 (ix3 0 k j)) j

/-- A token's queries (from column 0) or keys (from column 1024), normed and rotated, by lane. -/
def tokR (o : Fin 2) (b : Fin 2) (s : Fin 16384) (L : Fin 1024) : EReal :=
  ropeN (normN (fun j => tokP a0 a1 a2 b s ⟨o.val * 1024 + j.val, by omega⟩) (fun e => gn (ix2 0 e))) (fun l => cosA (ix2 s l)) (fun l => sinA (ix2 s l)) L

/-- The five result arrays. -/
def queryV : FVec Ideal S2x32x1024x512 .bf16 := fun i => tokR a0 a1 a2 gn ⟨0, by omega⟩ (i 0) (tokAt (i 1) (i 3)) (i 2)
def keyV : FVec Ideal S2x16384x1024 .bf16 := fun i => tokR a0 a1 a2 gn ⟨1, by omega⟩ (i 0) (i 1) (i 2)
def valueAt (b : Fin 2) (s : Fin 16384) (L : Fin 1024) : EReal := tokP a0 a1 a2 b s ⟨2048 + L.val, by omega⟩
def scanAt (b : Fin 2) (s : Fin 16384) (j : Fin 512) : EReal := tokP a0 a1 a2 b s ⟨3072 + j.val, by omega⟩
def gateAt (b : Fin 2) (s : Fin 16384) (j : Fin 2048) : EReal := Ideal.logistic (tokP a0 a1 a2 b s ⟨3584 + j.val, by omega⟩)
def valueV : FVec Ideal S2x32x1024x512 .bf16 := fun i => valueAt a0 a1 a2 (i 0) (tokAt (i 1) (i 3)) (i 2)
def scanV : FVec Ideal S2x16384x512 .f32 := fun i => scanAt a0 a1 a2 (i 0) (i 1) (i 2)
def gateV : FVec Ideal S2x16384x2048 .bf16 := fun i => gateAt a0 a1 a2 (i 0) (i 1) (i 2)

end

/-! ## What the region finds -/

section
variable (m : (ℓ : Loc nD τ sig) → Buf (Elt Ideal) ℓ) (c : Dev nD)

theorem V_w : V m c main_v8 = hW (m ((c.tc : Thread nD τ).loc main_arg2)) := by
  simp only [V, hostOps0]
  after_results_simp <;> rfl
theorem V_gq : V m c main_v49 = hGain (m ((c.tc : Thread nD τ).loc main_arg3)) := by
  simp only [V, hostOps0]
  after_results_simp <;> rfl
theorem V_gk : V m c main_v53 = hGain (m ((c.tc : Thread nD τ).loc main_arg4)) := by
  simp only [V, hostOps0]
  after_results_simp <;> rfl
theorem V_cos : V m c main_v28 = hCosT cosA := by
  simp only [V, hostOps0]
  after_results_simp <;> rfl
theorem V_sin : V m c main_v31 = hSinT sinA := by
  simp only [V, hostOps0]
  after_results_simp <;> rfl
theorem V_e : V m c main_v42 = hE := by
  simp only [V, hostOps0]
  after_results_simp <;> rfl
theorem V_et : V m c main_v45 = hEt := by
  simp only [V, hostOps0]
  after_results_simp <;> rfl

end

/-! ## A point's blocks -/

/-- A point's batch entry and block of tokens. -/
def bt (t : Fin cfg0.N) : Fin 2 := ⟨t.val / 32, by have : t.val < 64 := lt_of_lt_of_eq t.isLt N_0; omega⟩
def it (t : Fin cfg0.N) : Fin 32 := ⟨t.val % 32, by omega⟩

theorem ix_0 : ∀ t : Fin cfg0.N, win0_0.index t = ![(bt t).val, (it t).val, 0] := (by decide +kernel : ∀ t : Fin grid0.N, win0_0.index t = ![t.val / 32, t.val % 32, 0])
theorem ix_10 : ∀ t : Fin cfg0.N, win0_10.index t = ![(bt t).val, (it t).val, 0] := (by decide +kernel : ∀ t : Fin grid0.N, win0_10.index t = ![t.val / 32, t.val % 32, 0])
theorem ix_12 : ∀ t : Fin cfg0.N, win0_12.index t = ![(bt t).val, (it t).val, 0] := (by decide +kernel : ∀ t : Fin grid0.N, win0_12.index t = ![t.val / 32, t.val % 32, 0])
theorem ix_13 : ∀ t : Fin cfg0.N, win0_13.index t = ![(bt t).val, (it t).val, 0] := (by decide +kernel : ∀ t : Fin grid0.N, win0_13.index t = ![t.val / 32, t.val % 32, 0])
theorem ix_9 : ∀ t : Fin cfg0.N, win0_9.index t = ![(bt t).val, (it t).val, 0, 0] := (by decide +kernel : ∀ t : Fin grid0.N, win0_9.index t = ![t.val / 32, t.val % 32, 0, 0])
theorem ix_11 : ∀ t : Fin cfg0.N, win0_11.index t = ![(bt t).val, (it t).val, 0, 0] := (by decide +kernel : ∀ t : Fin grid0.N, win0_11.index t = ![t.val / 32, t.val % 32, 0, 0])
theorem ix_5 : ∀ t : Fin cfg0.N, win0_5.index t = ![(it t).val, 0] := (by decide +kernel : ∀ t : Fin grid0.N, win0_5.index t = ![t.val % 32, 0])
theorem ix_6 : ∀ t : Fin cfg0.N, win0_6.index t = ![(it t).val, 0] := (by decide +kernel : ∀ t : Fin grid0.N, win0_6.index t = ![t.val % 32, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])

section
variable (t : Fin cfg0.N)

theorem read_0 (f : main_arg0.ty.Contents (Elt Ideal)) (y : S1x512x1024.Idx) : ((cfg0.win 0).blk t).view.read (Elt Ideal) f y = f ((win0_0.blk t).view.emb y) := rfl
theorem read_1 (f : main_arg1.ty.Contents (Elt Ideal)) (y : S1x1024.Idx) : ((cfg0.win 1).blk t).view.read (Elt Ideal) f y = f ((win0_1.blk t).view.emb y) := rfl
theorem read_2 (f : main_v8.ty.Contents (Elt Ideal)) (y : S1024x5632.Idx) : ((cfg0.win 2).blk t).view.read (Elt Ideal) f y = f ((win0_2.blk t).view.emb y) := rfl
theorem read_3 (f : main_v49.ty.Contents (Elt Ideal)) (y : S1x1024.Idx) : ((cfg0.win 3).blk t).view.read (Elt Ideal) f y = f ((win0_3.blk t).view.emb y) := rfl
theorem read_4 (f : main_v53.ty.Contents (Elt Ideal)) (y : S1x1024.Idx) : ((cfg0.win 4).blk t).view.read (Elt Ideal) f y = f ((win0_4.blk t).view.emb y) := rfl
theorem read_5 (f : main_v28.ty.Contents (Elt Ideal)) (y : S512x128.Idx) : ((cfg0.win 5).blk t).view.read (Elt Ideal) f y = f ((win0_5.blk t).view.emb y) := rfl
theorem read_6 (f : main_v31.ty.Contents (Elt Ideal)) (y : S512x128.Idx) : ((cfg0.win 6).blk t).view.read (Elt Ideal) f y = f ((win0_6.blk t).view.emb y) := rfl
theorem read_7 (f : main_v42.ty.Contents (Elt Ideal)) (y : S1024x128.Idx) : ((cfg0.win 7).blk t).view.read (Elt Ideal) f y = f ((win0_7.blk t).view.emb y) := rfl
theorem read_8 (f : main_v45.ty.Contents (Elt Ideal)) (y : S256x1024.Idx) : ((cfg0.win 8).blk t).view.read (Elt Ideal) f y = f ((win0_8.blk t).view.emb y) := rfl

theorem at_0 (r : Fin 512) (k : Fin 1024) : (win0_0.blk t).view.emb (ix3 0 r k) = (ix3 (bt t) (tokAt (it t) r) k : S2x16384x1024.Idx) := by blk_ext [ix_0, tokAt]
theorem at_1 (L : Fin 1024) : (win0_1.blk t).view.emb (ix2 0 L) = (ix2 0 L : S1x1024.Idx) := by blk_ext [ix_1]
theorem at_3 (L : Fin 1024) : (win0_3.blk t).view.emb (ix2 0 L) = (ix2 0 L : S1x1024.Idx) := by blk_ext [ix_3]
theorem at_4 (L : Fin 1024) : (win0_4.blk t).view.emb (ix2 0 L) = (ix2 0 L : S1x1024.Idx) := by blk_ext [ix_4]
theorem at_2 (k : Fin 1024) (j : Fin 5632) : (win0_2.blk t).view.emb (ix2 k j) = (ix2 k j : S1024x5632.Idx) := by blk_ext [ix_2]
theorem at_5 (r : Fin 512) (l : Fin 128) : (win0_5.blk t).view.emb (ix2 r l) = (ix2 (tokAt (it t) r) l : S16384x128.Idx) := by blk_ext [ix_5, tokAt]
theorem at_6 (r : Fin 512) (l : Fin 128) : (win0_6.blk t).view.emb (ix2 r l) = (ix2 (tokAt (it t) r) l : S16384x128.Idx) := by blk_ext [ix_6, tokAt]
theorem at_7 (L : Fin 1024) (j : Fin 128) : (win0_7.blk t).view.emb (ix2 L j) = (ix2 L j : S1024x128.Idx) := by blk_ext [ix_7]
theorem at_8 (j : Fin 256) (L : Fin 1024) : (win0_8.blk t).view.emb (ix2 j L) = (ix2 j L : S256x1024.Idx) := by blk_ext [ix_8]

variable (m : (ℓ : Loc nD τ sig) → Buf (Elt Ideal) ℓ) (c : Dev nD)

theorem blk_0 (r : Fin 512) (k : Fin 1024) : iblk m c 0 t (ix3 0 r k) = m ((c.tc : Thread nD τ).loc main_arg0) (ix3 (bt t) (tokAt (it t) r) k) :=
  (read_0 t (V m c main_arg0) (ix3 0 r k)).trans ((congrFun (V_main_arg0 m c) _).trans (congrArg _ (at_0 t r k)))
theorem blk_1 (L : Fin 1024) : iblk m c 1 t (ix2 0 L) = m ((c.tc : Thread nD τ).loc main_arg1) (ix2 0 L) :=
  (read_1 t (V m c main_arg1) (ix2 0 L)).trans ((congrFun (V_main_arg1 m c) _).trans (congrArg _ (at_1 t L)))
theorem blk_2 (k : Fin 1024) (j : Fin 5632) : iblk m c 2 t (ix2 k j) = hW (m ((c.tc : Thread nD τ).loc main_arg2)) (ix2 k j) :=
  (read_2 t (V m c main_v8) (ix2 k j)).trans ((congrFun (V_w m c) _).trans (congrArg (hW _) (at_2 t k j)))
theorem blk_3 (L : Fin 1024) : iblk m c 3 t (ix2 0 L) = m ((c.tc : Thread nD τ).loc main_arg3) (ix2 0 (inPair L)) :=
  (read_3 t (V m c main_v49) (ix2 0 L)).trans ((congrFun (V_gq m c) _).trans ((congrArg (hGain _) (at_3 t L)).trans (hGain_apply _ _)))
theorem blk_4 (L : Fin 1024) : iblk m c 4 t (ix2 0 L) = m ((c.tc : Thread nD τ).loc main_arg4) (ix2 0 (inPair L)) :=
  (read_4 t (V m c main_v53) (ix2 0 L)).trans ((congrFun (V_gk m c) _).trans ((congrArg (hGain _) (at_4 t L)).trans (hGain_apply _ _)))
theorem blk_5 (r : Fin 512) (l : Fin 128) : iblk m c 5 t (ix2 r l) = cosA (ix2 (tokAt (it t) r) ⟨l.val % 32, by omega⟩) :=
  (read_5 t (V m c main_v28) (ix2 r l)).trans ((congrFun (V_cos m c) _).trans ((congrArg (hCosT _) (at_5 t r l)).trans (hCosT_apply _ _ _)))
theorem blk_6 (r : Fin 512) (l : Fin 128) : iblk m c 6 t (ix2 r l)
    = if l.val < 64 then -sinA (ix2 (tokAt (it t) r) ⟨l.val % 32, by omega⟩) else sinA (ix2 (tokAt (it t) r) ⟨l.val % 32, by omega⟩) :=
  (read_6 t (V m c main_v31) (ix2 r l)).trans ((congrFun (V_sin m c) _).trans ((congrArg (hSinT _) (at_6 t r l)).trans (hSinT_apply _ _ _)))
theorem blk_7 (L : Fin 1024) (j : Fin 128) : iblk m c 7 t (ix2 L j) = (if (pair L).val = j.val then 1 else 0 : EReal) :=
  (read_7 t (V m c main_v42) (ix2 L j)).trans ((congrFun (V_e m c) _).trans ((congrArg hE (at_7 t L j)).trans (hE_apply _ _)))
theorem blk_8 (j : Fin 256) (L : Fin 1024) : iblk m c 8 t (ix2 j L) = (if (pair L).val = j.val % 128 then 1 else 0 : EReal) :=
  (read_8 t (V m c main_v45) (ix2 j L)).trans ((congrFun (V_et m c) _).trans ((congrArg hEt (at_8 t j L)).trans (hEt_apply _ _)))

/-- A block's normed rows are its tokens'. -/
theorem rowX_tok (r : Fin 512) : rowX (iblk m c 0 t) (iblk m c 1 t) r = tokX (m ((c.tc : Thread nD τ).loc main_arg0)) (m ((c.tc : Thread nD τ).loc main_arg1)) (bt t) (tokAt (it t) r) := by
  funext d
  unfold rowX tokX
  simp only [blk_0, blk_1]

/-- The columns past the queries and keys. -/
theorem proj_tok (r : Fin 512) (j : Fin 5632) (h : 2048 ≤ j.val) : proj (rowX (iblk m c 0 t) (iblk m c 1 t) r) (fun k j => iblk m c 2 t (ix2 k j)) j
    = tokP (m ((c.tc : Thread nD τ).loc main_arg0)) (m ((c.tc : Thread nD τ).loc main_arg1)) (m ((c.tc : Thread nD τ).loc main_arg2)) (bt t) (tokAt (it t) r) j := by
  unfold tokP
  rw [rowX_tok]
  exact Finset.sum_congr rfl fun k _ => congrArg (HMul.hMul (α := EReal) (β := EReal) (γ := EReal) _) ((blk_2 t m c k j).trans (hW_rest _ k j h))

/-- The columns of the queries and keys, by lane. -/
theorem proj_lane (r : Fin 512) (o : Fin 2) (L : Fin 1024) :
    proj (rowX (iblk m c 0 t) (iblk m c 1 t) r) (fun k j => iblk m c 2 t (ix2 k j)) ⟨o.val * 1024 + L.val, by omega⟩
    = tokP (m ((c.tc : Thread nD τ).loc main_arg0)) (m ((c.tc : Thread nD τ).loc main_arg1)) (m ((c.tc : Thread nD τ).loc main_arg2)) (bt t) (tokAt (it t) r) ⟨o.val * 1024 + (nat L).val, by omega⟩ := by
  unfold tokP
  rw [rowX_tok]
  exact Finset.sum_congr rfl fun k _ => congrArg (HMul.hMul (α := EReal) (β := EReal) (γ := EReal) _) ((blk_2 t m c k _).trans (hW_lane _ k o L))

/-- A block's lanes of queries or keys are its tokens'. -/
theorem blkRope_tok (gb : Vec Ideal S1x1024 .f32) (gn : FVec Ideal S1x64 .f32) (hg : ∀ L, gb (ix2 0 L) = gn (ix2 0 (inPair L))) (r : Fin 512) (o : Fin 2) (L : Fin 1024) :
    blkRope (iblk m c 0 t) (iblk m c 1 t) (iblk m c 2 t) (iblk m c 5 t) (iblk m c 6 t) (iblk m c 7 t) (iblk m c 8 t) r gb o L
    = tokR (m ((c.tc : Thread nD τ).loc main_arg0)) (m ((c.tc : Thread nD τ).loc main_arg1)) (m ((c.tc : Thread nD τ).loc main_arg2)) gn o (bt t) (tokAt (it t) r) L := by
  unfold blkRope tokR
  simp only [proj_lane]
  exact rope_lane (fun j => tokP (m ((c.tc : Thread nD τ).loc main_arg0)) (m ((c.tc : Thread nD τ).loc main_arg1)) (m ((c.tc : Thread nD τ).loc main_arg2)) (bt t) (tokAt (it t) r) ⟨o.val * 1024 + j.val, by omega⟩) (fun e => gn (ix2 0 e)) (fun l => cosA (ix2 (tokAt (it t) r) l)) (fun l => sinA (ix2 (tokAt (it t) r) l))
    _ _ _ _ _ (fun L j => blk_7 t m c L j) (fun j L => blk_8 t m c j L) hg (fun l => blk_5 t m c r l) (fun l => blk_6 t m c r l) L

end

/-! ## The result arrays -/

theorem result_query (m : (ℓ : Loc nD τ sig) → Buf (Elt Ideal) ℓ) (c : Dev nD) :
    (dats m 0 c).arrAt 9 cfg0.N = queryV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after0_9]
  obtain ⟨a, a', L, r, rfl⟩ : ∃ (a : Fin 1) (a' : Fin 1) (L : Fin 1024) (r : Fin 512), y = ix4 a a' L r := ⟨_, _, _, _, eq_ix4 y⟩
  obtain rfl : a = 0 := Subsingleton.elim _ _
  obtain rfl : a' = 0 := Subsingleton.elim _ _
  refine ((out_q (iblk m c 0 t) (iblk m c 1 t) (iblk m c 2 t) (iblk m c 3 t) (iblk m c 4 t) (iblk m c 5 t) (iblk m c 6 t) (iblk m c 7 t) (iblk m c 8 t) r L).trans (blkRope_tok t m c _ _ (fun L => blk_3 t m c L) r _ L)).trans ?_
  refine (show queryV _ _ _ _ (ix4 (bt t) (it t) L r) = _ from rfl).symm.trans (congrArg (queryV _ _ _ _) ?_)
  blk_ext [ix_9]

theorem result_key (m : (ℓ : Loc nD τ sig) → Buf (Elt Ideal) ℓ) (c : Dev nD) :
    (dats m 0 c).arrAt 10 cfg0.N = keyV (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 10 _ (by decide +kernel) fun t hf y => ?_
  blk_simp
  rw [after0_10]
  obtain ⟨a, r, L, rfl⟩ : ∃ (a : Fin 1) (r : Fin 512) (L : Fin 1024), y = ix3 a r L := ⟨_, _, _, eq_ix3 y⟩
  obtain rfl : a = 0 := Subsingleton.elim _ _
  refine ((out_k (iblk m c 0 t) (iblk m c 1 t) (iblk m c 2 t) (iblk m c 3 t) (iblk m c 4 t) (iblk m c 5 t) (iblk m c 6 t) (iblk m c 7 t) (iblk m c 8 t) r L).trans (blkRope_tok t m c _ _ (fun L => blk_4 t m c L) r _ L)).trans ?_
  refine (show keyV _ _ _ _ (ix3 (bt t) (tokAt (it t) r) L) = _ from rfl).symm.trans (congrArg (keyV _ _ _ _) ?_)
  blk_ext [ix_10, tokAt]

theorem result_value (m : (ℓ : Loc nD τ sig) → Buf (Elt Ideal) ℓ) (c : Dev nD) :
    (dats m 0 c).arrAt 11 cfg0.N = valueV (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  blk_simp
  rw [after0_11]
  obtain ⟨a, a', L, r, rfl⟩ : ∃ (a : Fin 1) (a' : Fin 1) (L : Fin 1024) (r : Fin 512), y = ix4 a a' L r := ⟨_, _, _, _, eq_ix4 y⟩
  obtain rfl : a = 0 := Subsingleton.elim _ _
  obtain rfl : a' = 0 := Subsingleton.elim _ _
  refine ((out_v (iblk m c 0 t) (iblk m c 1 t) (iblk m c 2 t) (iblk m c 3 t) (iblk m c 4 t) (iblk m c 5 t) (iblk m c 6 t) (iblk m c 7 t) (iblk m c 8 t) r L).trans (proj_tok t m c r _ (by dsimp only; omega))).trans ?_
  refine (show valueV _ _ _ (ix4 (bt t) (it t) L r) = _ from rfl).symm.trans (congrArg (valueV _ _ _) ?_)
  blk_ext [ix_11]

theorem result_scan (m : (ℓ : Loc nD τ sig) → Buf (Elt Ideal) ℓ) (c : Dev nD) :
    (dats m 0 c).arrAt 12 cfg0.N = scanV (m ((c.tc : Thread nD τ).loc main_arg0)) (m ((c.tc : Thread nD τ).loc main_arg1)) (m ((c.tc : Thread nD τ).loc main_arg2)) := by
  refine (dats m 0 c).arrAt_eq_of_covers 12 _ (by decide +kernel) fun t hf y => ?_
  blk_simp
  rw [after0_12]
  obtain ⟨a, r, L, rfl⟩ : ∃ (a : Fin 1) (r : Fin 512) (L : Fin 512), y = ix3 a r L := ⟨_, _, _, eq_ix3 y⟩
  obtain rfl : a = 0 := Subsingleton.elim _ _
  refine ((out_u (iblk m c 0 t) (iblk m c 1 t) (iblk m c 2 t) (iblk m c 3 t) (iblk m c 4 t) (iblk m c 5 t) (iblk m c 6 t) (iblk m c 7 t) (iblk m c 8 t) r L).trans (proj_tok t m c r _ (by dsimp only; omega))).trans ?_
  refine (show scanV _ _ _ (ix3 (bt t) (tokAt (it t) r) L) = _ from rfl).symm.trans (congrArg (scanV _ _ _) ?_)
  blk_ext [ix_12, tokAt]

theorem result_gate (m : (ℓ : Loc nD τ sig) → Buf (Elt Ideal) ℓ) (c : Dev nD) :
    (dats m 0 c).arrAt 13 cfg0.N = gateV (m ((c.tc : Thread nD τ).loc main_arg0)) (m ((c.tc : Thread nD τ).loc main_arg1)) (m ((c.tc : Thread nD τ).loc main_arg2)) := by
  refine (dats m 0 c).arrAt_eq_of_covers 13 _ (by decide +kernel) fun t hf y => ?_
  blk_simp
  rw [after0_13]
  obtain ⟨a, r, L, rfl⟩ : ∃ (a : Fin 1) (r : Fin 512) (L : Fin 2048), y = ix3 a r L := ⟨_, _, _, eq_ix3 y⟩
  obtain rfl : a = 0 := Subsingleton.elim _ _
  refine ((out_g (iblk m c 0 t) (iblk m c 1 t) (iblk m c 2 t) (iblk m c 3 t) (iblk m c 4 t) (iblk m c 5 t) (iblk m c 6 t) (iblk m c 7 t) (iblk m c 8 t) r L).trans (congrArg Ideal.logistic (proj_tok t m c r _ (by dsimp only; omega)))).trans ?_
  refine (show gateV _ _ _ (ix3 (bt t) (tokAt (it t) r) L) = _ from rfl).symm.trans (congrArg (gateV _ _ _) ?_)
  blk_ext [ix_13, tokAt]

end Cert.Inp

end
-- ==== Proof.InpRefer.lean ====
/-
  The projection reference's five results, read at a token, and their agreement with the call's.
-/
module

public import proofs.«01_k».proof.Proof.InpValue
public import proofs.«01_k».proof.Proof.FfnRefer
public import proofs.«01_k».proof.Proof.Gen.Reference4Ideal.Read

@[expose] public section

set_option maxRecDepth 16384
set_option backward.proofsInPublic true

noncomputable section

namespace Cert.Inp

open Cert.Reference4Ideal Cert.Reference4Ideal.Gen Cert.Reference4Ideal.Read
open Idealize.ShloMosaic Idealize.ShloMosaic.TcCoe

/-- The two halves of the rotated components, laid by lane. -/
def rLay (a b : FVec Ideal S2x16384x8x2x32 .f32) : FVec Ideal S2x16384x1024 .f32 :=
  shapeCast S2x16384x1024 (concatenate S2x16384x8x2x2x32 3
    [⟨S2x16384x8x1x2x32, broadcastInDim S2x16384x8x1x2x32 ![0, 1, 2, 4, 5] bcast_S2x16384x8x2x32_S2x16384x8x1x2x32_0_1_2_4_5 a⟩,
     ⟨S2x16384x8x1x2x32, broadcastInDim S2x16384x8x1x2x32 ![0, 1, 2, 4, 5] bcast_S2x16384x8x2x32_S2x16384x8x1x2x32_0_1_2_4_5 b⟩]
    concatenates_S2x16384x8x1x2x32_S2x16384x8x1x2x32_S2x16384x8x2x2x32_d3) shapeCasts_S2x16384x8x2x2x32_S2x16384x1024

theorem rLay_apply (u v : FVec Ideal S2x16384x8x2x32 .f32) (b : Fin 2) (s : Fin 16384) (L : Fin 1024) :
    rLay u v (ix3 b s L) = if L.val / 64 % 2 = 0 then u (ix5 b s ⟨L.val / 128, by omega⟩ ⟨L.val / 32 % 2, by omega⟩ ⟨L.val % 32, by omega⟩)
      else v (ix5 b s ⟨L.val / 128, by omega⟩ ⟨L.val / 32 % 2, by omega⟩ ⟨L.val % 32, by omega⟩) := by
  pointwise [rLay]
  by_cases h : L.val / 64 % 2 = 0
  · rw [if_pos h, dif_pos (by omega)]
  · rw [if_neg h, dif_neg (by omega)]

/-- The components of a row of columns after the norm. -/
def rNorm (y : FVec Ideal S2x16384x1024 .f32) (g : FVec Ideal S1x64 .f32) : FVec Ideal S2x16384x8x2x64 .f32 :=
  mulf (mulf (shapeCast S2x16384x8x2x64 y shapeCasts_S2x16384x1024_S2x16384x8x2x64)
      (broadcastInDim S2x16384x8x2x64 ![0, 1, 2, 3, 4] bcast_S2x16384x8x2x1_S2x16384x8x2x64_0_1_2_3_4
        (Host.rsqrt (addf
          (Host.divf
            (broadcastInDim S2x16384x8x2x1 ![0, 1, 2, 3] bcast_S2x16384x8x2_S2x16384x8x2x1_0_1_2_3
              (Host.reduceAdd (mulf (shapeCast S2x16384x8x2x64 y shapeCasts_S2x16384x1024_S2x16384x8x2x64) (shapeCast S2x16384x8x2x64 y shapeCasts_S2x16384x1024_S2x16384x8x2x64))
                (constant S_ .f32 0x00000000#32) reducesTo_S2x16384x8x2x64_S2x16384x8x2_d4 h_S_))
            (broadcastInDim S2x16384x8x2x1 ![] bcast_S_S2x16384x8x2x1 (constant S_ .f32 0x42800000#32)))
          (broadcastInDim S2x16384x8x2x1 ![] bcast_S_S2x16384x8x2x1 (constant S_ .f32 0x358637BD#32))))))
    (broadcastInDim S2x16384x8x2x64 ![0, 1, 2, 3, 4] bcast_S1x1x1x1x64_S2x16384x8x2x64_0_1_2_3_4
      (broadcastInDim S1x1x1x1x64 ![4] bcast_S64_S1x1x1x1x64_4 (shapeCast S64 g shapeCasts_S1x64_S64)))

theorem rNorm_apply (y : FVec Ideal S2x16384x1024 .f32) (g : FVec Ideal S1x64 .f32) (b : Fin 2) (s : Fin 16384) (h : Fin 8) (p : Fin 2) (e : Fin 64) :
    rNorm y g (ix5 b s h p e) = normN (fun j => y (ix3 b s j)) (fun e => g (ix2 0 e)) ⟨2 * h.val + p.val, by omega⟩ e := by
  pointwise [rNorm, normN, compR]
  have hj : ∀ x : Fin 64, (⟨64 * (2 * h.val + p.val) + x.val, by omega⟩ : Fin 1024) = ⟨h.val * 128 + p.val * 64 + x.val, by omega⟩ := fun x => Fin.ext (by dsimp only; omega)
  simp only [hj]

/-- The two halves after the rotation. -/
def rCos (u : FVec Ideal S16384x32 .f32) : FVec Ideal S2x16384x8x2x32 .f32 :=
  broadcastInDim S2x16384x8x2x32 ![0, 1, 2, 3, 4] bcast_S1x16384x1x1x32_S2x16384x8x2x32_0_1_2_3_4 (broadcastInDim S1x16384x1x1x32 ![1, 4] bcast_S16384x32_S1x16384x1x1x32_1_4 u)
def rLo (n : FVec Ideal S2x16384x8x2x64 .f32) : FVec Ideal S2x16384x8x2x32 .f32 :=
  extractStridedSlice S2x16384x8x2x32 ![0, 0, 0, 0, 0] n slices_S2x16384x8x2x64_S2x16384x8x2x32_0_0_0_0_0
def rHi (n : FVec Ideal S2x16384x8x2x64 .f32) : FVec Ideal S2x16384x8x2x32 .f32 :=
  extractStridedSlice S2x16384x8x2x32 ![0, 0, 0, 0, 32] n slices_S2x16384x8x2x64_S2x16384x8x2x32_0_0_0_0_32
def rRope (n : FVec Ideal S2x16384x8x2x64 .f32) (c w : FVec Ideal S16384x32 .f32) : FVec Ideal S2x16384x1024 .f32 :=
  rLay (subf (mulf (rLo n) (rCos c)) (mulf (rHi n) (rCos w))) (addf (mulf (rHi n) (rCos c)) (mulf (rLo n) (rCos w)))

theorem rCos_apply (u : FVec Ideal S16384x32 .f32) (b : Fin 2) (s : Fin 16384) (h : Fin 8) (p : Fin 2) (l : Fin 32) : rCos u (ix5 b s h p l) = u (ix2 s l) := by
  pointwise [rCos]
theorem rLo_apply (n : FVec Ideal S2x16384x8x2x64 .f32) (b : Fin 2) (s : Fin 16384) (h : Fin 8) (p : Fin 2) (l : Fin 32) : rLo n (ix5 b s h p l) = n (ix5 b s h p ⟨l.val, by omega⟩) := by
  pointwise [rLo]
theorem rHi_apply (n : FVec Ideal S2x16384x8x2x64 .f32) (b : Fin 2) (s : Fin 16384) (h : Fin 8) (p : Fin 2) (l : Fin 32) : rHi n (ix5 b s h p l) = n (ix5 b s h p ⟨32 + l.val, by omega⟩) := by
  pointwise [rHi]

theorem rRope_apply (y : FVec Ideal S2x16384x1024 .f32) (g : FVec Ideal S1x64 .f32) (c w : FVec Ideal S16384x32 .f32) (b : Fin 2) (s : Fin 16384) (L : Fin 1024) :
    rRope (rNorm y g) c w (ix3 b s L) = ropeN (normN (fun j => y (ix3 b s j)) (fun e => g (ix2 0 e))) (fun l => c (ix2 s l)) (fun l => w (ix2 s l)) L := by
  unfold rRope ropeN
  rw [rLay_apply]
  have hp : (⟨2 * (L.val / 128) + L.val / 32 % 2, by omega⟩ : Fin 16) = pair L := rfl
  split_ifs
  · show rLo _ _ * rCos _ _ - rHi _ _ * rCos _ _ = _
    rw [rLo_apply, rHi_apply, rCos_apply, rCos_apply, rNorm_apply, rNorm_apply, hp]
  · show rHi _ _ * rCos _ _ + rLo _ _ * rCos _ _ = _
    rw [rLo_apply, rHi_apply, rCos_apply, rCos_apply, rNorm_apply, rNorm_apply, hp]

section
variable (a0 : FVec Ideal S2x16384x1024 .f32) (a1 : FVec Ideal S1x1024 .f32) (a2 : FVec Ideal S1x1024x5632 .f32) (gn : FVec Ideal S1x64 .f32)

theorem ref_cos : val_main_v18 (F := Ideal) = cosA := rfl
theorem ref_sin : val_main_v19 (F := Ideal) = sinA := rfl

theorem ref_xn (b : Fin 2) (s : Fin 16384) (d : Fin 1024) : val_main_v33 (F := Ideal) a0 a1 (ix3 b s d) = tokX a0 a1 b s d := by
  pointwise [val_main_v33, val_main_v32, val_main_v31, val_main_v30, val_main_v29, val_main_v28, val_main_v27, val_main_v26, val_main_v25, val_main_v24, val_main_v23, val_main_v22, val_main_v21,
    val_main_v20, val_main_cst_4, val_main_cst_5, val_main_cst_6, tokX, Cert.Mix.rowNorm, Cert.Mix.rowScale]

theorem ref_w (k : Fin 1024) (j : Fin 5632) : val_main_v34 (F := Ideal) a2 (ix2 k j) = a2 (ix3 0 k j) := by
  pointwise [val_main_v34]

theorem ref_proj (b : Fin 2) (s : Fin 16384) (j : Fin 5632) : val_main_v35 (F := Ideal) a0 a1 a2 (ix3 b s j) = tokP a0 a1 a2 b s j := by
  rw [val_main_v35_apply]
  unfold tokP proj
  refine Finset.sum_congr rfl fun k _ => ?_
  refine congrArg₂ (HMul.hMul (α := EReal) (β := EReal) (γ := EReal)) ((congrArg _ ?_).trans (ref_xn a0 a1 b s k)) ((congrArg _ ?_).trans (ref_w a2 k j))
  · funext a; fin_cases a <;> rfl
  · funext a; fin_cases a <;> rfl

theorem ref_q0 : val_main_v73 (F := Ideal) a0 a1 a2 gn = rRope (rNorm (val_main_v36 (F := Ideal) a0 a1 a2) gn) cosA sinA := by
  rw [← ref_cos, ← ref_sin]
  unfold val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41
  generalize val_main_v36 (F := Ideal) a0 a1 a2 = y
  generalize val_main_v18 (F := Ideal) = c
  generalize val_main_v19 (F := Ideal) = w
  rfl
theorem ref_k0 : val_main_v106 (F := Ideal) a0 a1 a2 gn = rRope (rNorm (val_main_v37 (F := Ideal) a0 a1 a2) gn) cosA sinA := by
  rw [← ref_cos, ← ref_sin]
  unfold val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74
  generalize val_main_v37 (F := Ideal) a0 a1 a2 = y
  generalize val_main_v18 (F := Ideal) = c
  generalize val_main_v19 (F := Ideal) = w
  rfl

theorem ref_36 (b : Fin 2) (s : Fin 16384) (j : Fin 1024) : val_main_v36 (F := Ideal) a0 a1 a2 (ix3 b s j) = tokP a0 a1 a2 b s ⟨(⟨0, by omega⟩ : Fin 2).val * 1024 + j.val, by dsimp only; omega⟩ := by
  rw [val_main_v36_apply]
  refine (congrArg _ ?_).trans (ref_proj a0 a1 a2 b s _)
  funext a; fin_cases a
  · rfl
  · rfl
  · exact Fin.ext (by show j.val = 0 * 1024 + j.val; omega)
theorem ref_37 (b : Fin 2) (s : Fin 16384) (j : Fin 1024) : val_main_v37 (F := Ideal) a0 a1 a2 (ix3 b s j) = tokP a0 a1 a2 b s ⟨(⟨1, by omega⟩ : Fin 2).val * 1024 + j.val, by dsimp only; omega⟩ := by
  rw [val_main_v37_apply]
  refine (congrArg _ ?_).trans (ref_proj a0 a1 a2 b s _)
  funext a; fin_cases a
  · rfl
  · rfl
  · exact Fin.ext (by show 1024 + j.val = 1 * 1024 + j.val; omega)
theorem ref_38 (b : Fin 2) (s : Fin 16384) (j : Fin 1024) : val_main_v38 (F := Ideal) a0 a1 a2 (ix3 b s j) = valueAt a0 a1 a2 b s j := by
  rw [val_main_v38_apply]
  refine (congrArg _ ?_).trans (ref_proj a0 a1 a2 b s _)
  funext a; fin_cases a <;> rfl
theorem ref_39 (b : Fin 2) (s : Fin 16384) (j : Fin 512) : val_main_v39 (F := Ideal) a0 a1 a2 (ix3 b s j) = scanAt a0 a1 a2 b s j := by
  rw [val_main_v39_apply]
  refine (congrArg _ ?_).trans (ref_proj a0 a1 a2 b s _)
  funext a; fin_cases a <;> rfl
theorem ref_40 (b : Fin 2) (s : Fin 16384) (j : Fin 2048) : val_main_v40 (F := Ideal) a0 a1 a2 (ix3 b s j) = tokP a0 a1 a2 b s ⟨3584 + j.val, by omega⟩ := by
  rw [val_main_v40_apply]
  refine (congrArg _ ?_).trans (ref_proj a0 a1 a2 b s _)
  funext a; fin_cases a <;> rfl

theorem ref_q (b : Fin 2) (s : Fin 16384) (L : Fin 1024) : val_main_v73 (F := Ideal) a0 a1 a2 gn (ix3 b s L) = tokR a0 a1 a2 gn ⟨0, by omega⟩ b s L := by
  rw [ref_q0, rRope_apply]
  unfold tokR
  simp only [ref_36]
theorem ref_k (b : Fin 2) (s : Fin 16384) (L : Fin 1024) : val_main_v106 (F := Ideal) a0 a1 a2 gn (ix3 b s L) = tokR a0 a1 a2 gn ⟨1, by omega⟩ b s L := by
  rw [ref_k0, rRope_apply]
  unfold tokR
  simp only [ref_37]

/-- A block of tokens, laid by lane. -/
def rBlk (y : FVec Ideal S2x16384x1024 .f32) : FVec Ideal S2x32x1024x512 .bf16 :=
  truncf .bf16 (transpose S2x32x1024x512 [0, 1, 3, 2] (shapeCast S2x32x512x1024 y shapeCasts_S2x16384x1024_S2x32x512x1024) transposes_S2x32x512x1024_S2x32x1024x512_0_1_3_2) bitsLt_bf16_f32

theorem rBlk_apply (y : FVec Ideal S2x16384x1024 .f32) (b : Fin 2) (n : Fin 32) (L : Fin 1024) (r : Fin 512) : rBlk y (ix4 b n L r) = y (ix3 b (tokAt n r) L) := by
  pointwise [rBlk]
  exact congrArg (fun i : Fin 16384 => y (ix3 b i L)) (Fin.ext (by simp only [tokAt]; omega))

theorem ref_query : val_main_v109 (F := Ideal) a0 a1 a2 gn = queryV a0 a1 a2 gn := by
  funext i
  obtain ⟨b, n, L, r, rfl⟩ : ∃ (b : Fin 2) (n : Fin 32) (L : Fin 1024) (r : Fin 512), i = ix4 b n L r := ⟨_, _, _, _, eq_ix4 i⟩
  refine Eq.trans ?_ (ref_q a0 a1 a2 gn b (tokAt n r) L)
  unfold val_main_v109 val_main_v108 val_main_v107
  generalize val_main_v73 (F := Ideal) a0 a1 a2 gn = y
  exact rBlk_apply y b n L r
theorem ref_value : val_main_v113 (F := Ideal) a0 a1 a2 = valueV a0 a1 a2 := by
  funext i
  obtain ⟨b, n, L, r, rfl⟩ : ∃ (b : Fin 2) (n : Fin 32) (L : Fin 1024) (r : Fin 512), i = ix4 b n L r := ⟨_, _, _, _, eq_ix4 i⟩
  refine Eq.trans ?_ (ref_38 a0 a1 a2 b (tokAt n r) L)
  unfold val_main_v113 val_main_v112 val_main_v111
  generalize val_main_v38 (F := Ideal) a0 a1 a2 = y
  exact rBlk_apply y b n L r
theorem ref_key : val_main_v110 (F := Ideal) a0 a1 a2 gn = keyV a0 a1 a2 gn := by
  funext i
  obtain ⟨b, s, L, rfl⟩ : ∃ (b : Fin 2) (s : Fin 16384) (L : Fin 1024), i = ix3 b s L := ⟨_, _, _, eq_ix3 i⟩
  refine Eq.trans ?_ (ref_k a0 a1 a2 gn b s L)
  rw [val_main_v110_apply]
  rfl
theorem ref_scan : val_main_v39 (F := Ideal) a0 a1 a2 = scanV a0 a1 a2 := by
  funext i
  obtain ⟨b, s, j, rfl⟩ : ∃ (b : Fin 2) (s : Fin 16384) (j : Fin 512), i = ix3 b s j := ⟨_, _, _, eq_ix3 i⟩
  exact ref_39 a0 a1 a2 b s j
theorem ref_gate : val_main_v120 (F := Ideal) a0 a1 a2 = gateV a0 a1 a2 := by
  funext i
  obtain ⟨b, s, j, rfl⟩ : ∃ (b : Fin 2) (s : Fin 16384) (j : Fin 2048), i = ix3 b s j := ⟨_, _, _, eq_ix3 i⟩
  rw [val_main_v120_apply, val_main_v119_apply, val_main_v118_apply, val_main_cst_14_apply, val_main_v117_apply, val_main_v116_apply, val_main_cst_13_apply, val_main_v115_apply, val_main_v114_apply, ref_40]
  show _ = Ideal.logistic (tokP a0 a1 a2 b s ⟨3584 + j.val, by omega⟩)
  unfold Ideal.logistic
  rw [← Cert.Ffn.bits_one]
  rfl

end

end Cert.Inp

end
-- ==== Proof.InpFrames.lean ====
/-
  The input projection's frames, and its agreement with the reference.
-/
module

public import proofs.«01_k».proof.Defs
public import proofs.«01_k».proof.Proof.InpRefer
public import proofs.«01_k».proof.Proof.Gen.Kernel4
public import proofs.«01_k».proof.Proof.Gen.Reference4Ideal.Run
public import Idealize.ShloMosaic.Lib.Quiescent

@[expose] public section

set_option maxRecDepth 16384

noncomputable section

namespace Cert.Inp

open Idealize.ShloMosaic Idealize.ShloMosaic.TcCoe Idealize.SL.Sem

/-- The frame of the ideal text, read at the words. -/
def FrameBits : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

/-- The kernel's frame is the one of its ideal text: the two texts are the same. -/
theorem frame_same : Cert.quiescent_Kernel4 (hKernel4 := Cert.Kernel4.Gen.facts) = FrameBits := by
  sl_kernel_rfl

theorem frame_kernel : Cert.quiescent_Kernel4 (hKernel4 := Cert.Kernel4.Gen.facts) := by
  rw [frame_same]
  exact fun m ρ _ => Cert.Kernel4Ideal.Gen.frame (F := Bits) m ρ

theorem frame_ideal : Cert.quiescent_Kernel4Ideal (hKernel4Ideal := Cert.Kernel4Ideal.Gen.facts) := fun m ρ _ => Cert.Kernel4Ideal.Gen.frame (F := Ideal) m ρ

/-- The reference has no semaphores, and its run leaves the arguments. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems rfl r.2⟩)
    (Cert.Reference4Ideal.Value.run (F := Ideal) m ρ)

section
open Cert.Kernel4Ideal Cert.Kernel4Ideal.Gen
variable (m : (ℓ : Loc nD τ sig) → Buf (Elt Ideal) ℓ) (c : Dev nD)

/-- The results both programs leave. -/
def refQuery : Buf (Elt Ideal) ((c.tc : Thread nD τ).loc main_v54_0) :=
  queryV (m ((c.tc : Thread nD τ).loc main_arg0)) (m ((c.tc : Thread nD τ).loc main_arg1)) (m ((c.tc : Thread nD τ).loc main_arg2)) (m ((c.tc : Thread nD τ).loc main_arg3))
def refKey : Buf (Elt Ideal) ((c.tc : Thread nD τ).loc main_v54_1) :=
  keyV (m ((c.tc : Thread nD τ).loc main_arg0)) (m ((c.tc : Thread nD τ).loc main_arg1)) (m ((c.tc : Thread nD τ).loc main_arg2)) (m ((c.tc : Thread nD τ).loc main_arg4))
def refValue : Buf (Elt Ideal) ((c.tc : Thread nD τ).loc main_v54_2) :=
  valueV (m ((c.tc : Thread nD τ).loc main_arg0)) (m ((c.tc : Thread nD τ).loc main_arg1)) (m ((c.tc : Thread nD τ).loc main_arg2))
def refScan : Buf (Elt Ideal) ((c.tc : Thread nD τ).loc main_v54_3) :=
  scanV (m ((c.tc : Thread nD τ).loc main_arg0)) (m ((c.tc : Thread nD τ).loc main_arg1)) (m ((c.tc : Thread nD τ).loc main_arg2))
def refGate : Buf (Elt Ideal) ((c.tc : Thread nD τ).loc main_v54_4) :=
  gateV (m ((c.tc : Thread nD τ).loc main_arg0)) (m ((c.tc : Thread nD τ).loc main_arg1)) (m ((c.tc : Thread nD τ).loc main_arg2))

end

theorem algebraic : Cert.algebraic_Kernel4Ideal_Reference4Ideal (hKernel4Ideal := Cert.Kernel4Ideal.Gen.facts) (hReference4Ideal := Cert.Reference4Ideal.Gen.facts) :=
  fun m ρ m' ρ' _ hagree => by
  refine ⟨fun c => refQuery m c, fun c => refKey m c, fun c => refValue m c, fun c => refScan m c, fun c => refGate m c, ?_, ?_⟩
  · refine (θ_run Cert.Kernel4Ideal.defs _ _).mono (fun r h c => ⟨?_, ?_, ?_, ?_, ?_, h.2.1 c⟩) (θ_run_and (Cert.Kernel4Ideal.Gen.run_main (F := Ideal) m ρ) (Cert.Kernel4Ideal.Gen.frame (F := Ideal) m ρ))
    · exact (Pipeline.FramePost.out_eq h.1 c 9).trans (result_query m c)
    · exact (Pipeline.FramePost.out_eq h.1 c 10).trans (result_key m c)
    · exact (Pipeline.FramePost.out_eq h.1 c 11).trans (result_value m c)
    · exact (Pipeline.FramePost.out_eq h.1 c 12).trans (result_scan m c)
    · exact (Pipeline.FramePost.out_eq h.1 c 13).trans (result_gate m c)
  · refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference4Ideal.Value.run (F := Ideal) m' ρ')
    · obtain ⟨e0, e1, e2, e3, e4⟩ := hagree c
      rw [Cert.Reference4Ideal.Read.val_main_v109_eq, e0, e1, e2, e3]
      exact ref_query _ _ _ _
    · obtain ⟨e0, e1, e2, e3, e4⟩ := hagree c
      rw [Cert.Reference4Ideal.Read.val_main_v110_eq, e0, e1, e2, e4]
      exact ref_key _ _ _ _
    · obtain ⟨e0, e1, e2, e3, e4⟩ := hagree c
      rw [Cert.Reference4Ideal.Read.val_main_v113_eq, e0, e1, e2]
      exact ref_value _ _ _
    · obtain ⟨e0, e1, e2, e3, e4⟩ := hagree c
      rw [Cert.Reference4Ideal.Read.val_main_v39_eq, e0, e1, e2]
      exact ref_scan _ _ _
    · obtain ⟨e0, e1, e2, e3, e4⟩ := hagree c
      rw [Cert.Reference4Ideal.Read.val_main_v120_eq, e0, e1, e2]
      exact ref_gate _ _ _

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import proofs.«01_k».proof.Proof.FfnFrames
public import proofs.«01_k».proof.Proof.MixFrames
public import proofs.«01_k».proof.Proof.InpFrames
public import proofs.«01_k».proof.Proof.Gen.Pre_finite_heads
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_heads.Gen.facts,
  Cert.Attn.frame_kernel, Cert.Attn.frame_ideal, fun m ρ _ => Cert.Attn.frame_ideal m ρ trivial, Cert.Attn.frame_reference,
  fun m ρ _ => Cert.Attn.frame_reference m ρ trivial, Cert.Ffn.frame_kernel, Cert.Ffn.frame_ideal, Cert.Ffn.frame_reference,
  Cert.Mix.frame_kernel, Cert.Mix.frame_ideal, Cert.Mix.frame_reference, Cert.Inp.frame_kernel, Cert.Inp.frame_ideal, Cert.Inp.frame_reference,
  trivial, Cert.Attn.algebraic, trivial, Cert.Ffn.algebraic, trivial, Cert.Mix.algebraic, trivial, Cert.Inp.algebraic⟩

end Cert.Proof

end
